-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluRefIdeal (m : (ℓ : Loc Cert.SiluRefIdeal.nD Cert.SiluRefIdeal.τ Cert.SiluRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesRefIdeal (m : (ℓ : Loc Cert.QueriesRefIdeal.nD Cert.QueriesRefIdeal.τ Cert.QueriesRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_ScanInput (m : (ℓ : Loc Cert.ScanInput.nD Cert.ScanInput.τ Cert.ScanInput.sig) → Buf (Elt Bits) ℓ) : Prop :=
  True

def Pre_ScanInputIdeal (m : (ℓ : Loc Cert.ScanInputIdeal.nD Cert.ScanInputIdeal.τ Cert.ScanInputIdeal.sig) → Buf (Elt Ideal) ℓ) : Prop :=
  True

def Pre_ScanInputRefIdeal (m : (ℓ : Loc Cert.ScanInputRefIdeal.nD Cert.ScanInputRefIdeal.τ Cert.ScanInputRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0)
      ∧ r.2.mem ((c.tc : Thread Cert.Silu.nD Cert.Silu.τ).loc Cert.Silu.main_arg1) = m ((c.tc : Thread Cert.Silu.nD Cert.Silu.τ).loc Cert.Silu.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def quiescent_SiluRefIdeal [hSiluRefIdeal : Cert.SiluRefIdeal.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0)
      ∧ r.2.mem ((c.tc : Thread Cert.SiluRefIdeal.nD Cert.SiluRefIdeal.τ).loc Cert.SiluRefIdeal.main_arg1) = m ((c.tc : Thread Cert.SiluRefIdeal.nD Cert.SiluRefIdeal.τ).loc Cert.SiluRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_QueriesRefIdeal [hQueriesRefIdeal : Cert.QueriesRefIdeal.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1))
      ∧ r.2.sem = fun _ => 0)

def quiescent_ScanInput [hScanInput : Cert.ScanInput.Facts] : Prop :=
  ∀ (m : (ℓ : Loc Cert.ScanInput.nD Cert.ScanInput.τ Cert.ScanInput.sig) → Buf (Elt Bits) ℓ) (g : Dev Cert.ScanInput.nD → PrngReg), Pre_ScanInput m →
    θ_run (Cert.ScanInput.defs (F := Bits)) (onTc (τ := Cert.ScanInput.τ) (Cert.ScanInput.main (F := Bits))) ⟨m, fun _ => 0, g⟩ (fun r => (∀ c : Dev Cert.ScanInput.nD,
      r.2.mem ((c.tc : Thread Cert.ScanInput.nD Cert.ScanInput.τ).loc Cert.ScanInput.main_arg0) = m ((c.tc : Thread Cert.ScanInput.nD Cert.ScanInput.τ).loc Cert.ScanInput.main_arg0)
      ∧ r.2.mem ((c.tc : Thread Cert.ScanInput.nD Cert.ScanInput.τ).loc Cert.ScanInput.main_arg1) = m ((c.tc : Thread Cert.ScanInput.nD Cert.ScanInput.τ).loc Cert.ScanInput.main_arg1))
      ∧ r.2.sem = fun _ => 0)

def quiescent_ScanInputIdeal [hScanInputIdeal : Cert.ScanInputIdeal.Facts] : Prop :=
  ∀ (m : (ℓ : Loc Cert.ScanInputIdeal.nD Cert.ScanInputIdeal.τ Cert.ScanInputIdeal.sig) → Buf (Elt Ideal) ℓ) (g : Dev Cert.ScanInputIdeal.nD → PrngReg), Pre_ScanInputIdeal m →
    θ_run (Cert.ScanInputIdeal.defs (F := Ideal)) (onTc (τ := Cert.ScanInputIdeal.τ) (Cert.ScanInputIdeal.main (F := Ideal))) ⟨m, fun _ => 0, g⟩ (fun r => (∀ c : Dev Cert.ScanInputIdeal.nD,
      r.2.mem ((c.tc : Thread Cert.ScanInputIdeal.nD Cert.ScanInputIdeal.τ).loc Cert.ScanInputIdeal.main_arg0) = m ((c.tc : Thread Cert.ScanInputIdeal.nD Cert.ScanInputIdeal.τ).loc Cert.ScanInputIdeal.main_arg0)
      ∧ r.2.mem ((c.tc : Thread Cert.ScanInputIdeal.nD Cert.ScanInputIdeal.τ).loc Cert.ScanInputIdeal.main_arg1) = m ((c.tc : Thread Cert.ScanInputIdeal.nD Cert.ScanInputIdeal.τ).loc Cert.ScanInputIdeal.main_arg1))
      ∧ r.2.sem = fun _ => 0)

def quiescent_ScanInputRefIdeal [hScanInputRefIdeal : Cert.ScanInputRefIdeal.Facts] : Prop :=
  ∀ (m : (ℓ : Loc Cert.ScanInputRefIdeal.nD Cert.ScanInputRefIdeal.τ Cert.ScanInputRefIdeal.sig) → Buf (Elt Ideal) ℓ) (g : Dev Cert.ScanInputRefIdeal.nD → PrngReg), Pre_ScanInputRefIdeal m →
    θ_run (Cert.ScanInputRefIdeal.defs (F := Ideal)) (onTc (τ := Cert.ScanInputRefIdeal.τ) (Cert.ScanInputRefIdeal.main (F := Ideal))) ⟨m, fun _ => 0, g⟩ (fun r => (∀ c : Dev Cert.ScanInputRefIdeal.nD,
      r.2.mem ((c.tc : Thread Cert.ScanInputRefIdeal.nD Cert.ScanInputRefIdeal.τ).loc Cert.ScanInputRefIdeal.main_arg0) = m ((c.tc : Thread Cert.ScanInputRefIdeal.nD Cert.ScanInputRefIdeal.τ).loc Cert.ScanInputRefIdeal.main_arg0)
      ∧ r.2.mem ((c.tc : Thread Cert.ScanInputRefIdeal.nD Cert.ScanInputRefIdeal.τ).loc Cert.ScanInputRefIdeal.main_arg1) = m ((c.tc : Thread Cert.ScanInputRefIdeal.nD Cert.ScanInputRefIdeal.τ).loc Cert.ScanInputRefIdeal.main_arg1))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v15_0)) (v1 : (c : Dev Cert.MergeIdeal.nD) → Buf (Elt Ideal) ((c.tc : Thread Cert.MergeIdeal.nD Cert.MergeIdeal.τ).loc Cert.MergeIdeal.main_v15_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15_0) = v0 c
          ∧ r.2.mem ((c.tc : Thread Cert.MergeIdeal.nD Cert.MergeIdeal.τ).loc Cert.MergeIdeal.main_v15_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Silu_SiluIdeal : Prop :=
  True

def algebraic_SiluIdeal_SiluRefIdeal [hSiluIdeal : Cert.SiluIdeal.Facts] [hSiluRefIdeal : Cert.SiluRefIdeal.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluRefIdeal.nD Cert.SiluRefIdeal.τ Cert.SiluRefIdeal.sig) → Buf (Elt Ideal) ℓ) (g' : Dev Cert.SiluRefIdeal.nD → PrngReg), Pre_SiluIdeal m →
    (∀ c : Dev Cert.SiluIdeal.nD,
      m' ((c.tc : Thread Cert.SiluRefIdeal.nD Cert.SiluRefIdeal.τ).loc Cert.SiluRefIdeal.main_arg0) = m ((c.tc : Thread Cert.SiluIdeal.nD Cert.SiluIdeal.τ).loc Cert.SiluIdeal.main_arg0)
      ∧ m' ((c.tc : Thread Cert.SiluRefIdeal.nD Cert.SiluRefIdeal.τ).loc Cert.SiluRefIdeal.main_arg1) = m ((c.tc : Thread Cert.SiluIdeal.nD Cert.SiluIdeal.τ).loc Cert.SiluIdeal.main_arg1)) →
    ∃ (v0 : (c : Dev Cert.SiluIdeal.nD) → Buf (Elt Ideal) ((c.tc : Thread Cert.SiluIdeal.nD Cert.SiluIdeal.τ).loc Cert.SiluIdeal.main_v8)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v8) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
          ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ θ_run (Cert.SiluRefIdeal.defs (F := Ideal)) (onTc (τ := Cert.SiluRefIdeal.τ) (Cert.SiluRefIdeal.main (F := Ideal))) ⟨m', fun _ => 0, g'⟩ (fun r => ∀ c : Dev Cert.SiluRefIdeal.nD,
          r.2.mem ((c.tc : Thread Cert.SiluRefIdeal.nD Cert.SiluRefIdeal.τ).loc Cert.SiluRefIdeal.main_v8) = v0 c
          ∧ r.2.mem ((c.tc : Thread Cert.SiluRefIdeal.nD Cert.SiluRefIdeal.τ).loc Cert.SiluRefIdeal.main_arg0) = m' ((c.tc : Thread Cert.SiluRefIdeal.nD Cert.SiluRefIdeal.τ).loc Cert.SiluRefIdeal.main_arg0)
          ∧ r.2.mem ((c.tc : Thread Cert.SiluRefIdeal.nD Cert.SiluRefIdeal.τ).loc Cert.SiluRefIdeal.main_arg1) = m' ((c.tc : Thread Cert.SiluRefIdeal.nD Cert.SiluRefIdeal.τ).loc Cert.SiluRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v5) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v12) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v4)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v4) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v11) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Queries_QueriesIdeal : Prop :=
  True

def algebraic_QueriesIdeal_QueriesRefIdeal [hQueriesIdeal : Cert.QueriesIdeal.Facts] [hQueriesRefIdeal : Cert.QueriesRefIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesRefIdeal.nD Cert.QueriesRefIdeal.τ Cert.QueriesRefIdeal.sig) → Buf (Elt Ideal) ℓ) (g' : Dev Cert.QueriesRefIdeal.nD → PrngReg), Pre_QueriesIdeal m →
    (∀ c : Dev Cert.QueriesIdeal.nD,
      m' ((c.tc : Thread Cert.QueriesRefIdeal.nD Cert.QueriesRefIdeal.τ).loc Cert.QueriesRefIdeal.main_arg0) = m ((c.tc : Thread Cert.QueriesIdeal.nD Cert.QueriesIdeal.τ).loc Cert.QueriesIdeal.main_arg0)
      ∧ m' ((c.tc : Thread Cert.QueriesRefIdeal.nD Cert.QueriesRefIdeal.τ).loc Cert.QueriesRefIdeal.main_arg1) = m ((c.tc : Thread Cert.QueriesIdeal.nD Cert.QueriesIdeal.τ).loc Cert.QueriesIdeal.main_arg1)) →
    ∃ (v0 : (c : Dev Cert.QueriesIdeal.nD) → Buf (Elt Ideal) ((c.tc : Thread Cert.QueriesIdeal.nD Cert.QueriesIdeal.τ).loc Cert.QueriesIdeal.main_v6)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v6) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ θ_run (Cert.QueriesRefIdeal.defs (F := Ideal)) (onTc (τ := Cert.QueriesRefIdeal.τ) (Cert.QueriesRefIdeal.main (F := Ideal))) ⟨m', fun _ => 0, g'⟩ (fun r => ∀ c : Dev Cert.QueriesRefIdeal.nD,
          r.2.mem ((c.tc : Thread Cert.QueriesRefIdeal.nD Cert.QueriesRefIdeal.τ).loc Cert.QueriesRefIdeal.main_v5) = v0 c
          ∧ r.2.mem ((c.tc : Thread Cert.QueriesRefIdeal.nD Cert.QueriesRefIdeal.τ).loc Cert.QueriesRefIdeal.main_arg0) = m' ((c.tc : Thread Cert.QueriesRefIdeal.nD Cert.QueriesRefIdeal.τ).loc Cert.QueriesRefIdeal.main_arg0)
          ∧ r.2.mem ((c.tc : Thread Cert.QueriesRefIdeal.nD Cert.QueriesRefIdeal.τ).loc Cert.QueriesRefIdeal.main_arg1) = m' ((c.tc : Thread Cert.QueriesRefIdeal.nD Cert.QueriesRefIdeal.τ).loc Cert.QueriesRefIdeal.main_arg1))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v3)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v1) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v6_0)) (v1 : (c : Dev Cert.KeysIdeal.nD) → Buf (Elt Ideal) ((c.tc : Thread Cert.KeysIdeal.nD Cert.KeysIdeal.τ).loc Cert.KeysIdeal.main_v6_1)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v6_0) = v0 c
          ∧ r.2.mem ((c.tc : Thread Cert.KeysIdeal.nD Cert.KeysIdeal.τ).loc Cert.KeysIdeal.main_v6_1) = v1 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v2) = v0 c
          ∧ r.2.mem ((c.tc : Thread Cert.KeysRefIdeal.nD Cert.KeysRefIdeal.τ).loc Cert.KeysRefIdeal.main_v3) = v1 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1))

def preserves_ScanInput_ScanInputIdeal : Prop :=
  True

def algebraic_ScanInputIdeal_ScanInputRefIdeal [hScanInputIdeal : Cert.ScanInputIdeal.Facts] [hScanInputRefIdeal : Cert.ScanInputRefIdeal.Facts] : Prop :=
  ∀ (m : (ℓ : Loc Cert.ScanInputIdeal.nD Cert.ScanInputIdeal.τ Cert.ScanInputIdeal.sig) → Buf (Elt Ideal) ℓ) (g : Dev Cert.ScanInputIdeal.nD → PrngReg)
    (m' : (ℓ : Loc Cert.ScanInputRefIdeal.nD Cert.ScanInputRefIdeal.τ Cert.ScanInputRefIdeal.sig) → Buf (Elt Ideal) ℓ) (g' : Dev Cert.ScanInputRefIdeal.nD → PrngReg), Pre_ScanInputIdeal m →
    (∀ c : Dev Cert.ScanInputIdeal.nD,
      m' ((c.tc : Thread Cert.ScanInputRefIdeal.nD Cert.ScanInputRefIdeal.τ).loc Cert.ScanInputRefIdeal.main_arg0) = m ((c.tc : Thread Cert.ScanInputIdeal.nD Cert.ScanInputIdeal.τ).loc Cert.ScanInputIdeal.main_arg0)
      ∧ m' ((c.tc : Thread Cert.ScanInputRefIdeal.nD Cert.ScanInputRefIdeal.τ).loc Cert.ScanInputRefIdeal.main_arg1) = m ((c.tc : Thread Cert.ScanInputIdeal.nD Cert.ScanInputIdeal.τ).loc Cert.ScanInputIdeal.main_arg1)) →
    ∃ (v0 : (c : Dev Cert.ScanInputIdeal.nD) → Buf (Elt Ideal) ((c.tc : Thread Cert.ScanInputIdeal.nD Cert.ScanInputIdeal.τ).loc Cert.ScanInputIdeal.main_v7)),
      θ_run (Cert.ScanInputIdeal.defs (F := Ideal)) (onTc (τ := Cert.ScanInputIdeal.τ) (Cert.ScanInputIdeal.main (F := Ideal))) ⟨m, fun _ => 0, g⟩ (fun r => ∀ c : Dev Cert.ScanInputIdeal.nD,
          r.2.mem ((c.tc : Thread Cert.ScanInputIdeal.nD Cert.ScanInputIdeal.τ).loc Cert.ScanInputIdeal.main_v7) = v0 c
          ∧ r.2.mem ((c.tc : Thread Cert.ScanInputIdeal.nD Cert.ScanInputIdeal.τ).loc Cert.ScanInputIdeal.main_arg0) = m ((c.tc : Thread Cert.ScanInputIdeal.nD Cert.ScanInputIdeal.τ).loc Cert.ScanInputIdeal.main_arg0)
          ∧ r.2.mem ((c.tc : Thread Cert.ScanInputIdeal.nD Cert.ScanInputIdeal.τ).loc Cert.ScanInputIdeal.main_arg1) = m ((c.tc : Thread Cert.ScanInputIdeal.nD Cert.ScanInputIdeal.τ).loc Cert.ScanInputIdeal.main_arg1))
      ∧ θ_run (Cert.ScanInputRefIdeal.defs (F := Ideal)) (onTc (τ := Cert.ScanInputRefIdeal.τ) (Cert.ScanInputRefIdeal.main (F := Ideal))) ⟨m', fun _ => 0, g'⟩ (fun r => ∀ c : Dev Cert.ScanInputRefIdeal.nD,
          r.2.mem ((c.tc : Thread Cert.ScanInputRefIdeal.nD Cert.ScanInputRefIdeal.τ).loc Cert.ScanInputRefIdeal.main_v4) = v0 c
          ∧ r.2.mem ((c.tc : Thread Cert.ScanInputRefIdeal.nD Cert.ScanInputRefIdeal.τ).loc Cert.ScanInputRefIdeal.main_arg0) = m' ((c.tc : Thread Cert.ScanInputRefIdeal.nD Cert.ScanInputRefIdeal.τ).loc Cert.ScanInputRefIdeal.main_arg0)
          ∧ r.2.mem ((c.tc : Thread Cert.ScanInputRefIdeal.nD Cert.ScanInputRefIdeal.τ).loc Cert.ScanInputRefIdeal.main_arg1) = m' ((c.tc : Thread Cert.ScanInputRefIdeal.nD Cert.ScanInputRefIdeal.τ).loc Cert.ScanInputRefIdeal.main_arg1))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hSilu : Cert.Silu.Facts) (hSiluIdeal : Cert.SiluIdeal.Facts) (hSiluRefIdeal : Cert.SiluRefIdeal.Facts) (hGates : Cert.Gates.Facts) (hGatesIdeal : Cert.GatesIdeal.Facts) (hGatesRefIdeal : Cert.GatesRefIdeal.Facts) (hGlu : Cert.Glu.Facts) (hGluIdeal : Cert.GluIdeal.Facts) (hGluRefIdeal : Cert.GluRefIdeal.Facts) (hQueries : Cert.Queries.Facts) (hQueriesIdeal : Cert.QueriesIdeal.Facts) (hQueriesRefIdeal : Cert.QueriesRefIdeal.Facts) (hMemory : Cert.Memory.Facts) (hMemoryIdeal : Cert.MemoryIdeal.Facts) (hMemoryRefIdeal : Cert.MemoryRefIdeal.Facts) (hKeys : Cert.Keys.Facts) (hKeysIdeal : Cert.KeysIdeal.Facts) (hKeysRefIdeal : Cert.KeysRefIdeal.Facts) (hScanInput : Cert.ScanInput.Facts) (hScanInputIdeal : Cert.ScanInputIdeal.Facts) (hScanInputRefIdeal : Cert.ScanInputRefIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Merge (hMerge := hMerge)
    ∧ quiescent_MergeIdeal (hMergeIdeal := hMergeIdeal)
    ∧ quiescent_MergeRefIdeal (hMergeRefIdeal := hMergeRefIdeal)
    ∧ quiescent_Silu (hSilu := hSilu)
    ∧ quiescent_SiluIdeal (hSiluIdeal := hSiluIdeal)
    ∧ quiescent_SiluRefIdeal (hSiluRefIdeal := hSiluRefIdeal)
    ∧ quiescent_Gates (hGates := hGates)
    ∧ quiescent_GatesIdeal (hGatesIdeal := hGatesIdeal)
    ∧ quiescent_GatesRefIdeal (hGatesRefIdeal := hGatesRefIdeal)
    ∧ quiescent_Glu (hGlu := hGlu)
    ∧ quiescent_GluIdeal (hGluIdeal := hGluIdeal)
    ∧ quiescent_GluRefIdeal (hGluRefIdeal := hGluRefIdeal)
    ∧ quiescent_Queries (hQueries := hQueries)
    ∧ quiescent_QueriesIdeal (hQueriesIdeal := hQueriesIdeal)
    ∧ quiescent_QueriesRefIdeal (hQueriesRefIdeal := hQueriesRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Keys (hKeys := hKeys)
    ∧ quiescent_KeysIdeal (hKeysIdeal := hKeysIdeal)
    ∧ quiescent_KeysRefIdeal (hKeysRefIdeal := hKeysRefIdeal)
    ∧ quiescent_ScanInput (hScanInput := hScanInput)
    ∧ quiescent_ScanInputIdeal (hScanInputIdeal := hScanInputIdeal)
    ∧ quiescent_ScanInputRefIdeal (hScanInputRefIdeal := hScanInputRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Merge_MergeIdeal
    ∧ algebraic_MergeIdeal_MergeRefIdeal (hMergeIdeal := hMergeIdeal) (hMergeRefIdeal := hMergeRefIdeal)
    ∧ preserves_Silu_SiluIdeal
    ∧ algebraic_SiluIdeal_SiluRefIdeal (hSiluIdeal := hSiluIdeal) (hSiluRefIdeal := hSiluRefIdeal)
    ∧ preserves_Gates_GatesIdeal
    ∧ algebraic_GatesIdeal_GatesRefIdeal (hGatesIdeal := hGatesIdeal) (hGatesRefIdeal := hGatesRefIdeal)
    ∧ preserves_Glu_GluIdeal
    ∧ algebraic_GluIdeal_GluRefIdeal (hGluIdeal := hGluIdeal) (hGluRefIdeal := hGluRefIdeal)
    ∧ preserves_Queries_QueriesIdeal
    ∧ algebraic_QueriesIdeal_QueriesRefIdeal (hQueriesIdeal := hQueriesIdeal) (hQueriesRefIdeal := hQueriesRefIdeal)
    ∧ preserves_Memory_MemoryIdeal
    ∧ algebraic_MemoryIdeal_MemoryRefIdeal (hMemoryIdeal := hMemoryIdeal) (hMemoryRefIdeal := hMemoryRefIdeal)
    ∧ preserves_Keys_KeysIdeal
    ∧ algebraic_KeysIdeal_KeysRefIdeal (hKeysIdeal := hKeysIdeal) (hKeysRefIdeal := hKeysRefIdeal)
    ∧ preserves_ScanInput_ScanInputIdeal
    ∧ algebraic_ScanInputIdeal_ScanInputRefIdeal (hScanInputIdeal := hScanInputIdeal) (hScanInputRefIdeal := hScanInputRefIdeal)
-- ==== Pre_finite_inputs.lean ====
abbrev S4x4096x1024 : Shape := ⟨3, ![4, 4096, 1024]⟩
abbrev S4x4096x512 : Shape := ⟨3, ![4, 4096, 512]⟩
abbrev S4x4096x4096 : Shape := ⟨3, ![4, 4096, 4096]⟩
abbrev S64 : Shape := ⟨1, ![64]⟩
abbrev S128 : Shape := ⟨1, ![128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x512 : S_.BroadcastsInDim S4x4096x512 (![] : Fin 0 → Fin S4x4096x512.rank)
  reducesTo_S4x4096x512_S_d0_1_2 : S4x4096x512.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x4096x1024 .f32) (main_arg1 : FVec F S4x4096x1024 .f32) (main_arg2 : FVec F S4x4096x512 .f32) (main_arg3 : FVec F S4x4096x512 .f32) (main_arg4 : FVec F S4x4096x4096 .f32) (main_arg5 : FVec F S64 .f32) (main_arg6 : FVec F S64 .f32) (main_arg7 : FVec F S64 .f32) (main_arg8 : FVec F S64 .f32) (main_arg9 : FVec F S128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x512 .f32 := Host.absf main_arg2
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x512 .f32 := Host.absf main_arg3
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S4x4096x1024 : Shape := ⟨3, ![4, 4096, 1024]⟩
abbrev S4x4096x512 : Shape := ⟨3, ![4, 4096, 512]⟩
abbrev S4x4096x4096 : Shape := ⟨3, ![4, 4096, 4096]⟩
abbrev S64 : Shape := ⟨1, ![64]⟩
abbrev S128 : Shape := ⟨1, ![128]⟩
abbrev S_ : Shape := ⟨0, ![]⟩
abbrev S4x4096x2048 : Shape := ⟨3, ![4, 4096, 2048]⟩
abbrev S1x64 : Shape := ⟨2, ![1, 64]⟩
abbrev S4x64 : Shape := ⟨2, ![4, 64]⟩
abbrev S1x128 : Shape := ⟨2, ![1, 128]⟩
abbrev S1x512x256 : Shape := ⟨3, ![1, 512, 256]⟩
abbrev S1x4096x128 : Shape := ⟨3, ![1, 4096, 128]⟩
abbrev S2048x128 : Shape := ⟨2, ![2048, 128]⟩
abbrev S4096x256 : Shape := ⟨2, ![4096, 256]⟩
abbrev S2048x256 : Shape := ⟨2, ![2048, 256]⟩
abbrev S2048x512 : Shape := ⟨2, ![2048, 512]⟩
abbrev S4096x128 : Shape := ⟨2, ![4096, 128]⟩
abbrev S512x128 : Shape := ⟨2, ![512, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1 : Shape := ⟨1, ![1]⟩
abbrev S1x1 : Shape := ⟨2, ![1, 1]⟩

abbrev nBuf : Space → Nat
  | .hbm => 25
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x512, .f32⟩
  | .hbm, ⟨3, _⟩ => ⟨S4x4096x512, .f32⟩
  | .hbm, ⟨4, _⟩ => ⟨S4x4096x4096, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S_, .f32⟩
  | .hbm, ⟨11, _⟩ => ⟨S4x4096x1024, .f32⟩
  | .hbm, ⟨12, _⟩ => ⟨S4x4096x1024, .f32⟩
  | .hbm, ⟨13, _⟩ => ⟨S4x4096x2048, .f32⟩
  | .hbm, ⟨14, _⟩ => ⟨S4x4096x2048, .bf16⟩
  | .hbm, ⟨15, _⟩ => ⟨S4x4096x1024, .f32⟩
  | .hbm, ⟨16, _⟩ => ⟨S4x4096x1024, .bf16⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S4x64, .f32⟩
  | .hbm, ⟨22, _⟩ => ⟨S4x4096x4096, .bf16⟩
  | .hbm, ⟨23, _⟩ => ⟨S1x128, .f32⟩
  | .hbm, ⟨24, _⟩ => ⟨S4x4096x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x256, .bf16⟩
  | .local _ .vmem, ⟨7, _⟩ => ⟨S1x512x256, .bf16⟩
  | .local _ .vmem, ⟨8, _⟩ => ⟨S4x64, .f32⟩
  | .local _ .vmem, ⟨9, _⟩ => ⟨S1x128, .f32⟩
  | .local _ .vmem, ⟨10, _⟩ => ⟨S1x512x256, .bf16⟩
  | .local _ .vmem, ⟨11, _⟩ => ⟨S1x512x256, .bf16⟩
  | .local _ .vmem, ⟨12, _⟩ => ⟨S2048x128, .bf16⟩
  | .local _ .vmem, ⟨13, _⟩ => ⟨S4096x256, .bf16⟩
  | .local _ .vmem, ⟨14, _⟩ => ⟨S2048x128, .f32⟩
  | .local _ .vmem, ⟨15, _⟩ => ⟨S2048x256, .f32⟩
  | .local _ .vmem, ⟨16, _⟩ => ⟨S2048x512, .bf16⟩
  | .local _ .vmem, ⟨17, _⟩ => ⟨S2048x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c1_i32_33 : BitVec 32 := 1#32
  let arg2 : BitVec 32 := BitVec.ofNat 32 (i 2).val
  let c512_i32 : BitVec 32 := 512#32
  let v52 : BitVec 32 := Scalar.muli arg2 c512_i32
  let c0_i32_25 : BitVec 32 := 0#32
  let v54 : BitVec 1 := Scalar.cmpi .sgt v52 c0_i32_25
  let v55 : BitVec 32 := Scalar.extui v54
  let c0_i32_26 : BitVec 32 := 0#32
  let v56 : BitVec 1 := Scalar.cmpi .slt v52 c0_i32_26
  let v57 : BitVec 32 := Scalar.extui v56
  let v58 : BitVec 32 := Scalar.subi v55 v57
  let c512_i32_24 : BitVec 32 := 512#32
  let c0_i32_27 : BitVec 32 := 0#32
  let v59 : BitVec 1 := Scalar.cmpi .sgt c512_i32_24 c0_i32_27
  let v60 : BitVec 32 := Scalar.extui v59
  let c0_i32_28 : BitVec 32 := 0#32
  let v61 : BitVec 1 := Scalar.cmpi .slt c512_i32_24 c0_i32_28
  let v62 : BitVec 32 := Scalar.extui v61
  let v63 : BitVec 32 := Scalar.subi v60 v62
  let v64 : BitVec 1 := Scalar.cmpi .ne v58 v63
  let v65 : BitVec 32 := Scalar.remsi v52 c512_i32_24
  let c0_i32_29 : BitVec 32 := 0#32
  let v66 : BitVec 1 := Scalar.cmpi .ne v65 c0_i32_29
  let v67 : BitVec 1 := Scalar.andi v64 v66
  let v53 : BitVec 32 := Scalar.divsi v52 c512_i32_24
  let c1_i32 : BitVec 32 := 1#32
  let v68 : BitVec 32 := Scalar.subi v53 c1_i32
  let v69 : BitVec 32 := Scalar.select v67 v68 v53
  let v73 : BitVec 32 := Scalar.subi v69 c1_i32_33
  let c1_i32_34 : BitVec 32 := 1#32
  let v75 : BitVec 32 := Scalar.divsi v73 c1_i32_34
  let v76 : BitVec 32 := Scalar.muli v75 c1_i32_34
  let v77 : BitVec 32 := Scalar.addi c1_i32_33 v76
  let c1_i32_35 : BitVec 32 := 1#32
  ⟨c1_i32_33, v77, c1_i32_35⟩
def k0_mult1 (i : grid0.Coords) (k0_t1 : Fin (k0_t1_loop i).trips) : BitVec 32 :=
  let c1_i32_33 : BitVec 32 := 1#32
  let c1_i32_35 : BitVec 32 := 1#32
  let arg16 : BitVec 32 := Scf.iv c1_i32_33 c1_i32_35 k0_t1
  let c512_i32_143 : BitVec 32 := 512#32
  let v277 : BitVec 32 := Scalar.muli arg16 c512_i32_143
  v277
def k0_off1 (i : grid0.Coords) (k0_t1 : Fin (k0_t1_loop i).trips) : Fin 3 → Nat :=
  let c0_144 : Index := 0#32
  let c1_i32_33 : BitVec 32 := 1#32
  let c1_i32_35 : BitVec 32 := 1#32
  let arg16 : BitVec 32 := Scf.iv c1_i32_33 c1_i32_35 k0_t1
  let c512_i32_143 : BitVec 32 := 512#32
  let v277 : BitVec 32 := Scalar.muli arg16 c512_i32_143
  let v278 : BitVec 32 := v277
  let v279 : Index := Scalar.indexCast v278
  let c0_145 : Index := 0#32
  ![0, v279.toNat, 0]
def k0_mult2 (i : grid0.Coords) (k0_t1 : Fin (k0_t1_loop i).trips) : BitVec 32 :=
  let c1_i32_33 : BitVec 32 := 1#32
  let c1_i32_35 : BitVec 32 := 1#32
  let arg16 : BitVec 32 := Scf.iv c1_i32_33 c1_i32_35 k0_t1
  let c1_i32_146 : BitVec 32 := 1#32
  let v282 : BitVec 32 := Scalar.subi arg16 c1_i32_146
  let c512_i32_147 : BitVec 32 := 512#32
  let v283 : BitVec 32 := Scalar.muli v282 c512_i32_147
  v283
def k0_off2 (i : grid0.Coords) (k0_t1 : Fin (k0_t1_loop i).trips) : Fin 2 → Nat :=
  let c1_i32_33 : BitVec 32 := 1#32
  let c1_i32_35 : BitVec 32 := 1#32
  let arg16 : BitVec 32 := Scf.iv c1_i32_33 c1_i32_35 k0_t1
  let c1_i32_146 : BitVec 32 := 1#32
  let v282 : BitVec 32 := Scalar.subi arg16 c1_i32_146
  let c512_i32_147 : BitVec 32 := 512#32
  let v283 : BitVec 32 := Scalar.muli v282 c512_i32_147
  let v284 : BitVec 32 := v283
  let v285 : Index := Scalar.indexCast v284
  let c0_148 : Index := 0#32
  ![v285.toNat, 0]
@[reducible] def k0_t2_loop (i : grid0.Coords) : Scf.Loop 32 :=
  let c1_i32_33 : BitVec 32 := 1#32
  let arg2 : BitVec 32 := BitVec.ofNat 32 (i 2).val
  let c512_i32 : BitVec 32 := 512#32
  let v52 : BitVec 32 := Scalar.muli arg2 c512_i32
  let c0_i32_25 : BitVec 32 := 0#32
  let v54 : BitVec 1 := Scalar.cmpi .sgt v52 c0_i32_25
  let v55 : BitVec 32 := Scalar.extui v54
  let c0_i32_26 : BitVec 32 := 0#32
  let v56 : BitVec 1 := Scalar.cmpi .slt v52 c0_i32_26
  let v57 : BitVec 32 := Scalar.extui v56
  let v58 : BitVec 32 := Scalar.subi v55 v57
  let c512_i32_24 : BitVec 32 := 512#32
  let c0_i32_27 : BitVec 32 := 0#32
  let v59 : BitVec 1 := Scalar.cmpi .sgt c512_i32_24 c0_i32_27
  let v60 : BitVec 32 := Scalar.extui v59
  let c0_i32_28 : BitVec 32 := 0#32
  let v61 : BitVec 1 := Scalar.cmpi .slt c512_i32_24 c0_i32_28
  let v62 : BitVec 32 := Scalar.extui v61
  let v63 : BitVec 32 := Scalar.subi v60 v62
  let v64 : BitVec 1 := Scalar.cmpi .ne v58 v63
  let v65 : BitVec 32 := Scalar.remsi v52 c512_i32_24
  let c0_i32_29 : BitVec 32 := 0#32
  let v66 : BitVec 1 := Scalar.cmpi .ne v65 c0_i32_29
  let v67 : BitVec 1 := Scalar.andi v64 v66
  let v53 : BitVec 32 := Scalar.divsi v52 c512_i32_24
  let c1_i32 : BitVec 32 := 1#32
  let v68 : BitVec 32 := Scalar.subi v53 c1_i32
  let v69 : BitVec 32 := Scalar.select v67 v68 v53
  let v73 : BitVec 32 := Scalar.subi v69 c1_i32_33
  let c1_i32_34 : BitVec 32 := 1#32
  let v75 : BitVec 32 := Scalar.divsi v73 c1_i32_34
  let v76 : BitVec 32 := Scalar.muli v75 c1_i32_34
  let v77 : BitVec 32 := Scalar.addi c1_i32_33 v76
  let v74 : BitVec 32 := Scalar.addi c1_i32_33 v73
  let c1_i32_36 : BitVec 32 := 1#32
  ⟨v77, v74, c1_i32_36⟩
def k0_mult3 (i : grid0.Coords) (k0_t2 : Fin (k0_t2_loop i).trips) : BitVec 32 :=
  let c1_i32_33 : BitVec 32 := 1#32
  let arg2 : BitVec 32 := BitVec.ofNat 32 (i 2).val
  let c512_i32 : BitVec 32 := 512#32
  let v52 : BitVec 32 := Scalar.muli arg2 c512_i32
  let c0_i32_25 : BitVec 32 := 0#32
  let v54 : BitVec 1 := Scalar.cmpi .sgt v52 c0_i32_25
  let v55 : BitVec 32 := Scalar.extui v54
  let c0_i32_26 : BitVec 32 := 0#32
  let v56 : BitVec 1 := Scalar.cmpi .slt v52 c0_i32_26
  let v57 : BitVec 32 := Scalar.extui v56
  let v58 : BitVec 32 := Scalar.subi v55 v57
  let c512_i32_24 : BitVec 32 := 512#32
  let c0_i32_27 : BitVec 32 := 0#32
  let v59 : BitVec 1 := Scalar.cmpi .sgt c512_i32_24 c0_i32_27
  let v60 : BitVec 32 := Scalar.extui v59
  let c0_i32_28 : BitVec 32 := 0#32
  let v61 : BitVec 1 := Scalar.cmpi .slt c512_i32_24 c0_i32_28
  let v62 : BitVec 32 := Scalar.extui v61
  let v63 : BitVec 32 := Scalar.subi v60 v62
  let v64 : BitVec 1 := Scalar.cmpi .ne v58 v63
  let v65 : BitVec 32 := Scalar.remsi v52 c512_i32_24
  let c0_i32_29 : BitVec 32 := 0#32
  let v66 : BitVec 1 := Scalar.cmpi .ne v65 c0_i32_29
  let v67 : BitVec 1 := Scalar.andi v64 v66
  let v53 : BitVec 32 := Scalar.divsi v52 c512_i32_24
  let c1_i32 : BitVec 32 := 1#32
  let v68 : BitVec 32 := Scalar.subi v53 c1_i32
  let v69 : BitVec 32 := Scalar.select v67 v68 v53
  let v73 : BitVec 32 := Scalar.subi v69 c1_i32_33
  let c1_i32_34 : BitVec 32 := 1#32
  let v75 : BitVec 32 := Scalar.divsi v73 c1_i32_34
  let v76 : BitVec 32 := Scalar.muli v75 c1_i32_34
  let v77 : BitVec 32 := Scalar.addi c1_i32_33 v76
  let c1_i32_36 : BitVec 32 := 1#32
  let arg16 : BitVec 32 := Scf.iv v77 c1_i32_36 k0_t2
  let c512_i32_143 : BitVec 32 := 512#32
  let v277 : BitVec 32 := Scalar.muli arg16 c512_i32_143
  v277
def k0_off3 (i : grid0.Coords) (k0_t2 : Fin (k0_t2_loop i).trips) : Fin 3 → Nat :=
  let c0_144 : Index := 0#32
  let c1_i32_33 : BitVec 32 := 1#32
  let arg2 : BitVec 32 := BitVec.ofNat 32 (i 2).val
  let c512_i32 : BitVec 32 := 512#32
  let v52 : BitVec 32 := Scalar.muli arg2 c512_i32
  let c0_i32_25 : BitVec 32 := 0#32
  let v54 : BitVec 1 := Scalar.cmpi .sgt v52 c0_i32_25
  let v55 : BitVec 32 := Scalar.extui v54
  let c0_i32_26 : BitVec 32 := 0#32
  let v56 : BitVec 1 := Scalar.cmpi .slt v52 c0_i32_26
  let v57 : BitVec 32 := Scalar.extui v56
  let v58 : BitVec 32 := Scalar.subi v55 v57
  let c512_i32_24 : BitVec 32 := 512#32
  let c0_i32_27 : BitVec 32 := 0#32
  let v59 : BitVec 1 := Scalar.cmpi .sgt c512_i32_24 c0_i32_27
  let v60 : BitVec 32 := Scalar.extui v59
  let c0_i32_28 : BitVec 32 := 0#32
  let v61 : BitVec 1 := Scalar.cmpi .slt c512_i32_24 c0_i32_28
  let v62 : BitVec 32 := Scalar.extui v61
  let v63 : BitVec 32 := Scalar.subi v60 v62
  let v64 : BitVec 1 := Scalar.cmpi .ne v58 v63
  let v65 : BitVec 32 := Scalar.remsi v52 c512_i32_24
  let c0_i32_29 : BitVec 32 := 0#32
  let v66 : BitVec 1 := Scalar.cmpi .ne v65 c0_i32_29
  let v67 : BitVec 1 := Scalar.andi v64 v66
  let v53 : BitVec 32 := Scalar.divsi v52 c512_i32_24
  let c1_i32 : BitVec 32 := 1#32
  let v68 : BitVec 32 := Scalar.subi v53 c1_i32
  let v69 : BitVec 32 := Scalar.select v67 v68 v53
  let v73 : BitVec 32 := Scalar.subi v69 c1_i32_33
  let c1_i32_34 : BitVec 32 := 1#32
  let v75 : BitVec 32 := Scalar.divsi v73 c1_i32_34
  let v76 : BitVec 32 := Scalar.muli v75 c1_i32_34
  let v77 : BitVec 32 := Scalar.addi c1_i32_33 v76
  let c1_i32_36 : BitVec 32 := 1#32
  let arg16 : BitVec 32 := Scf.iv v77 c1_i32_36 k0_t2
  let c512_i32_143 : BitVec 32 := 512#32
  let v277 : BitVec 32 := Scalar.muli arg16 c512_i32_143
  let v278 : BitVec 32 := v277
  let v279 : Index := Scalar.indexCast v278
  let c0_145 : Index := 0#32
  ![0, v279.toNat, 0]
def k0_mult4 (i : grid0.Coords) (k0_t2 : Fin (k0_t2_loop i).trips) : BitVec 32 :=
  let c1_i32_33 : BitVec 32 := 1#32
  let arg2 : BitVec 32 := BitVec.ofNat 32 (i 2).val
  let c512_i32 : BitVec 32 := 512#32
  let v52 : BitVec 32 := Scalar.muli arg2 c512_i32
  let c0_i32_25 : BitVec 32 := 0#32
  let v54 : BitVec 1 := Scalar.cmpi .sgt v52 c0_i32_25
  let v55 : BitVec 32 := Scalar.extui v54
  let c0_i32_26 : BitVec 32 := 0#32
  let v56 : BitVec 1 := Scalar.cmpi .slt v52 c0_i32_26
  let v57 : BitVec 32 := Scalar.extui v56
  let v58 : BitVec 32 := Scalar.subi v55 v57
  let c512_i32_24 : BitVec 32 := 512#32
  let c0_i32_27 : BitVec 32 := 0#32
  let v59 : BitVec 1 := Scalar.cmpi .sgt c512_i32_24 c0_i32_27
  let v60 : BitVec 32 := Scalar.extui v59
  let c0_i32_28 : BitVec 32 := 0#32
  let v61 : BitVec 1 := Scalar.cmpi .slt c512_i32_24 c0_i32_28
  let v62 : BitVec 32 := Scalar.extui v61
  let v63 : BitVec 32 := Scalar.subi v60 v62
  let v64 : BitVec 1 := Scalar.cmpi .ne v58 v63
  let v65 : BitVec 32 := Scalar.remsi v52 c512_i32_24
  let c0_i32_29 : BitVec 32 := 0#32
  let v66 : BitVec 1 := Scalar.cmpi .ne v65 c0_i32_29
  let v67 : BitVec 1 := Scalar.andi v64 v66
  let v53 : BitVec 32 := Scalar.divsi v52 c512_i32_24
  let c1_i32 : BitVec 32 := 1#32
  let v68 : BitVec 32 := Scalar.subi v53 c1_i32
  let v69 : BitVec 32 := Scalar.select v67 v68 v53
  let v73 : BitVec 32 := Scalar.subi v69 c1_i32_33
  let c1_i32_34 : BitVec 32 := 1#32
  let v75 : BitVec 32 := Scalar.divsi v73 c1_i32_34
  let v76 : BitVec 32 := Scalar.muli v75 c1_i32_34
  let v77 : BitVec 32 := Scalar.addi c1_i32_33 v76
  let c1_i32_36 : BitVec 32 := 1#32
  let arg16 : BitVec 32 := Scf.iv v77 c1_i32_36 k0_t2
  let c1_i32_146 : BitVec 32 := 1#32
  let v282 : BitVec 32 := Scalar.subi arg16 c1_i32_146
  let c512_i32_147 : BitVec 32 := 512#32
  let v283 : BitVec 32 := Scalar.muli v282 c512_i32_147
  v283
def k0_off4 (i : grid0.Coords) (k0_t2 : Fin (k0_t2_loop i).trips) : Fin 2 → Nat :=
  let c1_i32_33 : BitVec 32 := 1#32
  let arg2 : BitVec 32 := BitVec.ofNat 32 (i 2).val
  let c512_i32 : BitVec 32 := 512#32
  let v52 : BitVec 32 := Scalar.muli arg2 c512_i32
  let c0_i32_25 : BitVec 32 := 0#32
  let v54 : BitVec 1 := Scalar.cmpi .sgt v52 c0_i32_25
  let v55 : BitVec 32 := Scalar.extui v54
  let c0_i32_26 : BitVec 32 := 0#32
  let v56 : BitVec 1 := Scalar.cmpi .slt v52 c0_i32_26
  let v57 : BitVec 32 := Scalar.extui v56
  let v58 : BitVec 32 := Scalar.subi v55 v57
  let c512_i32_24 : BitVec 32 := 512#32
  let c0_i32_27 : BitVec 32 := 0#32
  let v59 : BitVec 1 := Scalar.cmpi .sgt c512_i32_24 c0_i32_27
  let v60 : BitVec 32 := Scalar.extui v59
  let c0_i32_28 : BitVec 32 := 0#32
  let v61 : BitVec 1 := Scalar.cmpi .slt c512_i32_24 c0_i32_28
  let v62 : BitVec 32 := Scalar.extui v61
  let v63 : BitVec 32 := Scalar.subi v60 v62
  let v64 : BitVec 1 := Scalar.cmpi .ne v58 v63
  let v65 : BitVec 32 := Scalar.remsi v52 c512_i32_24
  let c0_i32_29 : BitVec 32 := 0#32
  let v66 : BitVec 1 := Scalar.cmpi .ne v65 c0_i32_29
  let v67 : BitVec 1 := Scalar.andi v64 v66
  let v53 : BitVec 32 := Scalar.divsi v52 c512_i32_24
  let c1_i32 : BitVec 32 := 1#32
  let v68 : BitVec 32 := Scalar.subi v53 c1_i32
  let v69 : BitVec 32 := Scalar.select v67 v68 v53
  let v73 : BitVec 32 := Scalar.subi v69 c1_i32_33
  let c1_i32_34 : BitVec 32 := 1#32
  let v75 : BitVec 32 := Scalar.divsi v73 c1_i32_34
  let v76 : BitVec 32 := Scalar.muli v75 c1_i32_34
  let v77 : BitVec 32 := Scalar.addi c1_i32_33 v76
  let c1_i32_36 : BitVec 32 := 1#32
  let arg16 : BitVec 32 := Scf.iv v77 c1_i32_36 k0_t2
  let c1_i32_146 : BitVec 32 := 1#32
  let v282 : BitVec 32 := Scalar.subi arg16 c1_i32_146
  let c512_i32_147 : BitVec 32 := 512#32
  let v283 : BitVec 32 := Scalar.muli v282 c512_i32_147
  let v284 : BitVec 32 := v283
  let v285 : Index := Scalar.indexCast v284
  let c0_148 : Index := 0#32
  ![v285.toNat, 0]
def k0_cond3 (i : grid0.Coords) : BitVec 1 :=
  let arg2 : BitVec 32 := BitVec.ofNat 32 (i 2).val
  let c512_i32 : BitVec 32 := 512#32
  let v52 : BitVec 32 := Scalar.muli arg2 c512_i32
  let c0_i32_25 : BitVec 32 := 0#32
  let v54 : BitVec 1 := Scalar.cmpi .sgt v52 c0_i32_25
  let v55 : BitVec 32 := Scalar.extui v54
  let c0_i32_26 : BitVec 32 := 0#32
  let v56 : BitVec 1 := Scalar.cmpi .slt v52 c0_i32_26
  let v57 : BitVec 32 := Scalar.extui v56
  let v58 : BitVec 32 := Scalar.subi v55 v57
  let c512_i32_24 : BitVec 32 := 512#32
  let c0_i32_27 : BitVec 32 := 0#32
  let v59 : BitVec 1 := Scalar.cmpi .sgt c512_i32_24 c0_i32_27
  let v60 : BitVec 32 := Scalar.extui v59
  let c0_i32_28 : BitVec 32 := 0#32
  let v61 : BitVec 1 := Scalar.cmpi .slt c512_i32_24 c0_i32_28
  let v62 : BitVec 32 := Scalar.extui v61
  let v63 : BitVec 32 := Scalar.subi v60 v62
  let v64 : BitVec 1 := Scalar.cmpi .ne v58 v63
  let v65 : BitVec 32 := Scalar.remsi v52 c512_i32_24
  let c0_i32_29 : BitVec 32 := 0#32
  let v66 : BitVec 1 := Scalar.cmpi .ne v65 c0_i32_29
  let v67 : BitVec 1 := Scalar.andi v64 v66
  let v53 : BitVec 32 := Scalar.divsi v52 c512_i32_24
  let c1_i32 : BitVec 32 := 1#32
  let v68 : BitVec 32 := Scalar.subi v53 c1_i32
  let v69 : BitVec 32 := Scalar.select v67 v68 v53
  let c0_i32_37 : BitVec 32 := 0#32
  let v78 : BitVec 1 := Scalar.cmpi .sgt v69 c0_i32_37
  let v79 : BitVec 32 := Scalar.extui v78
  let c0_i32_38 : BitVec 32 := 0#32
  let v80 : BitVec 1 := Scalar.cmpi .ne v79 c0_i32_38
  v80

def k0_mult5 (i : grid0.Coords) : BitVec 32 :=
  let arg2 : BitVec 32 := BitVec.ofNat 32 (i 2).val
  let c512_i32 : BitVec 32 := 512#32
  let v52 : BitVec 32 := Scalar.muli arg2 c512_i32
  let c0_i32_25 : BitVec 32 := 0#32
  let v54 : BitVec 1 := Scalar.cmpi .sgt v52 c0_i32_25
  let v55 : BitVec 32 := Scalar.extui v54
  let c0_i32_26 : BitVec 32 := 0#32
  let v56 : BitVec 1 := Scalar.cmpi .slt v52 c0_i32_26
  let v57 : BitVec 32 := Scalar.extui v56
  let v58 : BitVec 32 := Scalar.subi v55 v57
  let c512_i32_24 : BitVec 32 := 512#32
  let c0_i32_27 : BitVec 32 := 0#32
  let v59 : BitVec 1 := Scalar.cmpi .sgt c512_i32_24 c0_i32_27
  let v60 : BitVec 32 := Scalar.extui v59
  let c0_i32_28 : BitVec 32 := 0#32
  let v61 : BitVec 1 := Scalar.cmpi .slt c512_i32_24 c0_i32_28
  let v62 : BitVec 32 := Scalar.extui v61
  let v63 : BitVec 32 := Scalar.subi v60 v62
  let v64 : BitVec 1 := Scalar.cmpi .ne v58 v63
  let v65 : BitVec 32 := Scalar.remsi v52 c512_i32_24
  let c0_i32_29 : BitVec 32 := 0#32
  let v66 : BitVec 1 := Scalar.cmpi .ne v65 c0_i32_29
  let v67 : BitVec 1 := Scalar.andi v64 v66
  let v53 : BitVec 32 := Scalar.divsi v52 c512_i32_24
  let c1_i32 : BitVec 32 := 1#32
  let v68 : BitVec 32 := Scalar.subi v53 c1_i32
  let v69 : BitVec 32 := Scalar.select v67 v68 v53
  let c1_i32_143 : BitVec 32 := 1#32
  let v277 : BitVec 32 := Scalar.subi v69 c1_i32_143
  let c512_i32_144 : BitVec 32 := 512#32
  let v278 : BitVec 32 := Scalar.muli v277 c512_i32_144
  v278
def k0_off5 (i : grid0.Coords) : Fin 2 → Nat :=
  let arg2 : BitVec 32 := BitVec.ofNat 32 (i 2).val
  let c512_i32 : BitVec 32 := 512#32
  let v52 : BitVec 32 := Scalar.muli arg2 c512_i32
  let c0_i32_25 : BitVec 32 := 0#32
  let v54 : BitVec 1 := Scalar.cmpi .sgt v52 c0_i32_25
  let v55 : BitVec 32 := Scalar.extui v54
  let c0_i32_26 : BitVec 32 := 0#32
  let v56 : BitVec 1 := Scalar.cmpi .slt v52 c0_i32_26
  let v57 : BitVec 32 := Scalar.extui v56
  let v58 : BitVec 32 := Scalar.subi v55 v57
  let c512_i32_24 : BitVec 32 := 512#32
  let c0_i32_27 : BitVec 32 := 0#32
  let v59 : BitVec 1 := Scalar.cmpi .sgt c512_i32_24 c0_i32_27
  let v60 : BitVec 32 := Scalar.extui v59
  let c0_i32_28 : BitVec 32 := 0#32
  let v61 : BitVec 1 := Scalar.cmpi .slt c512_i32_24 c0_i32_28
  let v62 : BitVec 32 := Scalar.extui v61
  let v63 : BitVec 32 := Scalar.subi v60 v62
  let v64 : BitVec 1 := Scalar.cmpi .ne v58 v63
  let v65 : BitVec 32 := Scalar.remsi v52 c512_i32_24
  let c0_i32_29 : BitVec 32 := 0#32
  let v66 : BitVec 1 := Scalar.cmpi .ne v65 c0_i32_29
  let v67 : BitVec 1 := Scalar.andi v64 v66
  let v53 : BitVec 32 := Scalar.divsi v52 c512_i32_24
  let c1_i32 : BitVec 32 := 1#32
  let v68 : BitVec 32 := Scalar.subi v53 c1_i32
  let v69 : BitVec 32 := Scalar.select v67 v68 v53
  let c1_i32_143 : BitVec 32 := 1#32
  let v277 : BitVec 32 := Scalar.subi v69 c1_i32_143
  let c512_i32_144 : BitVec 32 := 512#32
  let v278 : BitVec 32 := Scalar.muli v277 c512_i32_144
  let v279 : BitVec 32 := v278
  let v280 : Index := Scalar.indexCast v279
  let c0_145 : Index := 0#32
  ![v280.toNat, 0]
def k0_mult6 (i : grid0.Coords) : BitVec 32 :=
  let arg2 : BitVec 32 := BitVec.ofNat 32 (i 2).val
  let c512_i32 : BitVec 32 := 512#32
  let v52 : BitVec 32 := Scalar.muli arg2 c512_i32
  v52
def k0_off6 (i : grid0.Coords) : Fin 3 → Nat :=
  let c0_39 : Index := 0#32
  let arg2 : BitVec 32 := BitVec.ofNat 32 (i 2).val
  let c512_i32 : BitVec 32 := 512#32
  let v52 : BitVec 32 := Scalar.muli arg2 c512_i32
  let v81 : BitVec 32 := v52
  let v82 : Index := Scalar.indexCast v81
  let c0_40 : Index := 0#32
  ![0, v82.toNat, 0]
def k0_off7 (i : grid0.Coords) : Fin 2 → Nat :=
  let arg2 : BitVec 32 := BitVec.ofNat 32 (i 2).val
  let c512_i32 : BitVec 32 := 512#32
  let v52 : BitVec 32 := Scalar.muli arg2 c512_i32
  let v81 : BitVec 32 := v52
  let v85 : Index := Scalar.indexCast v81
  let c0_41 : Index := 0#32
  ![v85.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "qk_scale" => some (((1 / 8) * (Real.log 2)⁻¹ : ℝ) : EReal)
  | _ => none
-- ==== ReferenceIdeal.lean ====
abbrev S4x4096x1024 : Shape := ⟨3, ![4, 4096, 1024]⟩
abbrev S4x4096x512 : Shape := ⟨3, ![4, 4096, 512]⟩
abbrev S4x4096x4096 : Shape := ⟨3, ![4, 4096, 4096]⟩
abbrev S64 : Shape := ⟨1, ![64]⟩
abbrev S128 : Shape := ⟨1, ![128]⟩
abbrev S4x4096x4x2x2x64 : Shape := ⟨6, ![4, 4096, 4, 2, 2, 64]⟩
abbrev S4x4096x4x2x64 : Shape := ⟨5, ![4, 4096, 4, 2, 64]⟩
abbrev S4x4096x4x128 : Shape := ⟨4, ![4, 4096, 4, 128]⟩
abbrev S_ : Shape := ⟨0, ![]⟩
abbrev S4x4x2x4096x4096x2 : Shape := ⟨6, ![4, 4, 2, 4096, 4096, 2]⟩
abbrev S4x4x2x2x4096x4096 : Shape := ⟨6, ![4, 4, 2, 2, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x4x2x2x4096 : Shape := ⟨5, ![4, 4, 2, 2, 4096]⟩
abbrev S4x4x2x2x4096x1 : Shape := ⟨6, ![4, 4, 2, 2, 4096, 1]⟩
abbrev S4x4x2x1x4096x4096 : Shape := ⟨6, ![4, 4, 2, 1, 4096, 4096]⟩
abbrev S4x4x2x4096x4096 : Shape := ⟨5, ![4, 4, 2, 4096, 4096]⟩
abbrev S4x4x128x2x4096 : Shape := ⟨5, ![4, 4, 128, 2, 4096]⟩
abbrev S4x4096x4x2x128 : Shape := ⟨5, ![4, 4096, 4, 2, 128]⟩
abbrev S4x4096x4x2 : Shape := ⟨4, ![4, 4096, 4, 2]⟩
abbrev S4x4096x4x2x1 : Shape := ⟨5, ![4, 4096, 4, 2, 1]⟩
abbrev S1x1x1x1x128 : Shape := ⟨5, ![1, 1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x512, .f32⟩
  | .hbm, ⟨3, _⟩ => ⟨S4x4096x512, .f32⟩
  | .hbm, ⟨4, _⟩ => ⟨S4x4096x4096, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S4x4096x4x2x2x64, .f32⟩
  | .hbm, ⟨11, _⟩ => ⟨S4x4096x4x2x64, .f32⟩
  | .hbm, ⟨12, _⟩ => ⟨S4x4096x4x128, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x4x2x4096x4096x2, .f32⟩
  | .hbm, ⟨25, _⟩ => ⟨S4x4x2x2x4096x4096, .f32⟩
  | .hbm, ⟨26, _⟩ => ⟨S_, .f32⟩
  | .hbm, ⟨27, _⟩ => ⟨S4x4x2x2x4096x4096, .f32⟩
  | .hbm, ⟨28, _⟩ => ⟨S4x4x2x2x4096x4096, .f32⟩
  | .hbm, ⟨29, _⟩ => ⟨S4096, .i32⟩
  | .hbm, ⟨30, _⟩ => ⟨S4096x1, .i32⟩
  | .hbm, ⟨31, _⟩ => ⟨S1x4096, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S4x4x2x2x4096x4096, .i1⟩
  | .hbm, ⟨38, _⟩ => ⟨S4x4x2x2x4096x4096, .f32⟩
  | .hbm, ⟨39, _⟩ => ⟨S4x4x2x2x4096x4096, .f32⟩
  | .hbm, ⟨40, _⟩ => ⟨S_, .f32⟩
  | .hbm, ⟨41, _⟩ => ⟨S4x4x2x2x4096, .f32⟩
  | .hbm, ⟨42, _⟩ => ⟨S_, .f32⟩
  | .hbm, ⟨43, _⟩ => ⟨S4x4x2x2x4096, .f32⟩
  | .hbm, ⟨44, _⟩ => ⟨S4x4x2x2x4096, .f32⟩
  | .hbm, ⟨45, _⟩ => ⟨S4x4x2x2x4096x1, .f32⟩
  | .hbm, ⟨46, _⟩ => ⟨S4x4x2x2x4096x4096, .f32⟩
  | .hbm, ⟨47, _⟩ => ⟨S4x4x2x2x4096x4096, .f32⟩
  | .hbm, ⟨48, _⟩ => ⟨S4x4x2x2x4096x4096, .f32⟩
  | .hbm, ⟨49, _⟩ => ⟨S_, .f32⟩
  | .hbm, ⟨50, _⟩ => ⟨S4x4x2x2x4096, .f32⟩
  | .hbm, ⟨51, _⟩ => ⟨S4x4x2x2x4096x1, .f32⟩
  | .hbm, ⟨52, _⟩ => ⟨S4x4x2x2x4096x4096, .f32⟩
  | .hbm, ⟨53, _⟩ => ⟨S4x4x2x2x4096x4096, .f32⟩
  | .hbm, ⟨54, _⟩ => ⟨S4x4x2x1x4096x4096, .f32⟩
  | .hbm, ⟨55, _⟩ => ⟨S4x4x2x4096x4096, .f32⟩
  | .hbm, ⟨56, _⟩ => ⟨S4x4x2x1x4096x4096, .f32⟩
  | .hbm, ⟨57, _⟩ => ⟨S4x4x2x4096x4096, .f32⟩
  | .hbm, ⟨58, _⟩ => ⟨S4x4x2x4096x4096, .f32⟩
  | .hbm, ⟨59, _⟩ => ⟨S4x4x2x4096x4096, .f32⟩
  | .hbm, ⟨60, _⟩ => ⟨S4x4x2x4096x4096, .f32⟩
  | .hbm, ⟨61, _⟩ => ⟨S4x4x128x2x4096, .f32⟩
  | .hbm, ⟨62, _⟩ => ⟨S4x4096x4x2x128, .f32⟩
  | .hbm, ⟨63, _⟩ => ⟨S4x4096x4x2x128, .f32⟩
  | .hbm, ⟨64, _⟩ => ⟨S_, .f32⟩
  | .hbm, ⟨65, _⟩ => ⟨S4x4096x4x2, .f32⟩
  | .hbm, ⟨66, _⟩ => ⟨S4x4096x4x2x1, .f32⟩
  | .hbm, ⟨67, _⟩ => ⟨S_, .f32⟩
  | .hbm, ⟨68, _⟩ => ⟨S4x4096x4x2x1, .f32⟩
  | .hbm, ⟨69, _⟩ => ⟨S4x4096x4x2x1, .f32⟩
  | .hbm, ⟨70, _⟩ => ⟨S_, .f32⟩
  | .hbm, ⟨71, _⟩ => ⟨S4x4096x4x2x1, .f32⟩
  | .hbm, ⟨72, _⟩ => ⟨S4x4096x4x2x1, .f32⟩
  | .hbm, ⟨73, _⟩ => ⟨S4x4096x4x2x1, .f32⟩
  | .hbm, ⟨74, _⟩ => ⟨S4x4096x4x2x128, .f32⟩
  | .hbm, ⟨75, _⟩ => ⟨S4x4096x4x2x128, .f32⟩
  | .hbm, ⟨76, _⟩ => ⟨S1x1x1x1x128, .f32⟩
  | .hbm, ⟨77, _⟩ => ⟨S4x4096x4x2x128, .f32⟩
  | .hbm, ⟨78, _⟩ => ⟨S4x4096x4x2x128, .f32⟩
  | .hbm, ⟨79, _⟩ => ⟨S_, .f32⟩
  | .hbm, ⟨80, _⟩ => ⟨S4x4096x4x2x128, .f32⟩
  | .hbm, ⟨81, _⟩ => ⟨S4x4096x4x2x128, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Merge.lean ====
abbrev S4x4096x1024 : Shape := ⟨3, ![4, 4096, 1024]⟩
abbrev S4x4096x4096 : Shape := ⟨3, ![4, 4096, 4096]⟩
abbrev S4x1024x1024 : Shape := ⟨3, ![4, 1024, 1024]⟩
abbrev S1024x1024 : Shape := ⟨2, ![1024, 1024]⟩
abbrev S1024 : Shape := ⟨1, ![1024]⟩
abbrev S16384x1024 : Shape := ⟨2, ![16384, 1024]⟩
abbrev S16384x4096 : Shape := ⟨2, ![16384, 4096]⟩
abbrev S1x1024 : Shape := ⟨2, ![1, 1024]⟩
abbrev S256x1024 : Shape := ⟨2, ![256, 1024]⟩
abbrev S256x4096 : Shape := ⟨2, ![256, 4096]⟩
abbrev S1x1024x1024 : Shape := ⟨3, ![1, 1024, 1024]⟩
abbrev S256 : Shape := ⟨1, ![256]⟩
abbrev S256x1 : Shape := ⟨2, ![256, 1]⟩

abbrev nBuf : Space → Nat
  | .hbm => 27
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x4096, .f32⟩
  | .hbm, ⟨5, _⟩ => ⟨S4x1024x1024, .f32⟩
  | .hbm, ⟨6, _⟩ => ⟨S1024x1024, .f32⟩
  | .hbm, ⟨7, _⟩ => ⟨S4x4096x1024, .f32⟩
  | .hbm, ⟨8, _⟩ => ⟨S1024, .f32⟩
  | .hbm, ⟨9, _⟩ => ⟨S1024, .f32⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S16384x1024, .bf16⟩
  | .hbm, ⟨16, _⟩ => ⟨S16384x1024, .f32⟩
  | .hbm, ⟨17, _⟩ => ⟨S16384x1024, .bf16⟩
  | .hbm, ⟨18, _⟩ => ⟨S16384x4096, .f32⟩
  | .hbm, ⟨19, _⟩ => ⟨S16384x4096, .bf16⟩
  | .hbm, ⟨20, _⟩ => ⟨S4x1024x1024, .bf16⟩
  | .hbm, ⟨21, _⟩ => ⟨S1024x1024, .bf16⟩
  | .hbm, ⟨22, _⟩ => ⟨S16384x1024, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x4096, .bf16⟩
  | .local _ .vmem, ⟨9, _⟩ => ⟨S256x4096, .bf16⟩
  | .local _ .vmem, ⟨10, _⟩ => ⟨S4x1024x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S4x4096x1024 : Shape := ⟨3, ![4, 4096, 1024]⟩
abbrev S4x4096x4096 : Shape := ⟨3, ![4, 4096, 4096]⟩
abbrev S4x1024x1024 : Shape := ⟨3, ![4, 1024, 1024]⟩
abbrev S1024x1024 : Shape := ⟨2, ![1024, 1024]⟩
abbrev S1024 : Shape := ⟨1, ![1024]⟩
abbrev S4x4096x1x1024 : Shape := ⟨4, ![4, 4096, 1, 1024]⟩
abbrev S4x4096x4x1024 : Shape := ⟨4, ![4, 4096, 4, 1024]⟩
abbrev S4x1024x4x4096 : Shape := ⟨4, ![4, 1024, 4, 4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x4096, .f32⟩
  | .hbm, ⟨5, _⟩ => ⟨S4x1024x1024, .f32⟩
  | .hbm, ⟨6, _⟩ => ⟨S1024x1024, .f32⟩
  | .hbm, ⟨7, _⟩ => ⟨S4x4096x1024, .f32⟩
  | .hbm, ⟨8, _⟩ => ⟨S1024, .f32⟩
  | .hbm, ⟨9, _⟩ => ⟨S1024, .f32⟩
  | .hbm, ⟨10, _⟩ => ⟨S4x4096x1x1024, .f32⟩
  | .hbm, ⟨11, _⟩ => ⟨S4x4096x1x1024, .f32⟩
  | .hbm, ⟨12, _⟩ => ⟨S4x4096x1x1024, .f32⟩
  | .hbm, ⟨13, _⟩ => ⟨S4x4096x1x1024, .f32⟩
  | .hbm, ⟨14, _⟩ => ⟨S4x4096x4x1024, .f32⟩
  | .hbm, ⟨15, _⟩ => ⟨S4x1024x4x4096, .f32⟩
  | .hbm, ⟨16, _⟩ => ⟨S4x4096x4x1024, .f32⟩
  | .hbm, ⟨17, _⟩ => ⟨S4x4096x4x1024, .f32⟩
  | .hbm, ⟨18, _⟩ => ⟨S4x4096x4x1024, .f32⟩
  | .hbm, ⟨19, _⟩ => ⟨S_, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S1x1x1024, .f32⟩
  | .hbm, ⟨53, _⟩ => ⟨S4x4096x1024, .f32⟩
  | .hbm, ⟨54, _⟩ => ⟨S4x4096x1024, .f32⟩
  | .hbm, ⟨55, _⟩ => ⟨S16384x1024, .f32⟩
  | .hbm, ⟨56, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Silu.lean ====
abbrev S4x4096x1024 : Shape := ⟨3, ![4, 4096, 1024]⟩
abbrev S1024x15376 : Shape := ⟨2, ![1024, 15376]⟩
abbrev S1024x1024 : Shape := ⟨2, ![1024, 1024]⟩
abbrev S1024x4096 : Shape := ⟨2, ![1024, 4096]⟩
abbrev S16384x1024 : Shape := ⟨2, ![16384, 1024]⟩
abbrev S16384x4096 : Shape := ⟨2, ![16384, 4096]⟩
abbrev S1024x2048 : Shape := ⟨2, ![1024, 2048]⟩

abbrev nBuf : Space → Nat
  | .hbm => 11
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024x15376, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x4096, .f32⟩
  | .hbm, ⟨7, _⟩ => ⟨S16384x1024, .f32⟩
  | .hbm, ⟨8, _⟩ => ⟨S16384x1024, .bf16⟩
  | .hbm, ⟨9, _⟩ => ⟨S1024x4096, .bf16⟩
  | .hbm, ⟨10, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SiluRefIdeal.lean ====
abbrev S4x4096x1024 : Shape := ⟨3, ![4, 4096, 1024]⟩
abbrev S1024x15376 : Shape := ⟨2, ![1024, 15376]⟩
abbrev S4x4096x15376 : Shape := ⟨3, ![4, 4096, 15376]⟩
abbrev S4x4096x4096 : Shape := ⟨3, ![4, 4096, 4096]⟩
abbrev S_ : Shape := ⟨0, ![]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x15376, .f32⟩
  | .hbm, ⟨2, _⟩ => ⟨S4x4096x15376, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S16384x4096, .f32⟩
  | .hbm, ⟨18, _⟩ => ⟨S16384x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Gates.lean ====
abbrev S4x4096x1024 : Shape := ⟨3, ![4, 4096, 1024]⟩
abbrev S1024x15376 : Shape := ⟨2, ![1024, 15376]⟩
abbrev S4096 : Shape := ⟨1, ![4096]⟩
abbrev S16384x1024 : Shape := ⟨2, ![16384, 1024]⟩
abbrev S1024x4096 : Shape := ⟨2, ![1024, 4096]⟩
abbrev S1x4096 : Shape := ⟨2, ![1, 4096]⟩
abbrev S16384x4096 : Shape := ⟨2, ![16384, 4096]⟩
abbrev S1024x1024 : Shape := ⟨2, ![1024, 1024]⟩
abbrev S1024x2048 : Shape := ⟨2, ![1024, 2048]⟩
abbrev S1x2048 : Shape := ⟨2, ![1, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024x15376, .f32⟩
  | .hbm, ⟨2, _⟩ => ⟨S4096, .f32⟩
  | .hbm, ⟨3, _⟩ => ⟨S16384x1024, .f32⟩
  | .hbm, ⟨4, _⟩ => ⟨S16384x1024, .bf16⟩
  | .hbm, ⟨5, _⟩ => ⟨S1024x4096, .f32⟩
  | .hbm, ⟨6, _⟩ => ⟨S1024x4096, .bf16⟩
  | .hbm, ⟨7, _⟩ => ⟨S1x4096, .f32⟩
  | .hbm, ⟨8, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .bf16⟩
  | .local _ .vmem, ⟨7, _⟩ => ⟨S1024x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S4x4096x1024 : Shape := ⟨3, ![4, 4096, 1024]⟩
abbrev S1024x15376 : Shape := ⟨2, ![1024, 15376]⟩
abbrev S4096 : Shape := ⟨1, ![4096]⟩
abbrev S4x4096x15376 : Shape := ⟨3, ![4, 4096, 15376]⟩
abbrev S4x4096x4096 : Shape := ⟨3, ![4, 4096, 4096]⟩
abbrev S1x1x4096 : Shape := ⟨3, ![1, 1, 4096]⟩
abbrev S_ : Shape := ⟨0, ![]⟩
abbrev S16384x4096 : Shape := ⟨2, ![16384, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x15376, .f32⟩
  | .hbm, ⟨2, _⟩ => ⟨S4096, .f32⟩
  | .hbm, ⟨3, _⟩ => ⟨S4x4096x15376, .f32⟩
  | .hbm, ⟨4, _⟩ => ⟨S4x4096x4096, .f32⟩
  | .hbm, ⟨5, _⟩ => ⟨S1x1x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S16384x4096, .f32⟩
  | .hbm, ⟨17, _⟩ => ⟨S16384x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Glu.lean ====
abbrev S4x4096x1024 : Shape := ⟨3, ![4, 4096, 1024]⟩
abbrev S1024x15376 : Shape := ⟨2, ![1024, 15376]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024x15376, .f32⟩
  | .hbm, ⟨2, _⟩ => ⟨S16384x1024, .f32⟩
  | .hbm, ⟨3, _⟩ => ⟨S16384x1024, .bf16⟩
  | .hbm, ⟨4, _⟩ => ⟨S1024x2048, .f32⟩
  | .hbm, ⟨5, _⟩ => ⟨S1024x2048, .bf16⟩
  | .hbm, ⟨6, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S4x4096x1024 : Shape := ⟨3, ![4, 4096, 1024]⟩
abbrev S1024x15376 : Shape := ⟨2, ![1024, 15376]⟩
abbrev S4x4096x15376 : Shape := ⟨3, ![4, 4096, 15376]⟩
abbrev S4x4096x2048 : Shape := ⟨3, ![4, 4096, 2048]⟩
abbrev S_ : Shape := ⟨0, ![]⟩
abbrev S16384x1024 : Shape := ⟨2, ![16384, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x15376, .f32⟩
  | .hbm, ⟨2, _⟩ => ⟨S4x4096x15376, .f32⟩
  | .hbm, ⟨3, _⟩ => ⟨S4x4096x2048, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Queries.lean ====
abbrev S4x4096x1024 : Shape := ⟨3, ![4, 4096, 1024]⟩
abbrev S1024x15376 : Shape := ⟨2, ![1024, 15376]⟩
abbrev S1024x1024 : Shape := ⟨2, ![1024, 1024]⟩
abbrev S1024x2048 : Shape := ⟨2, ![1024, 2048]⟩
abbrev S16384x1024 : Shape := ⟨2, ![16384, 1024]⟩
abbrev S16384x2048 : Shape := ⟨2, ![16384, 2048]⟩

abbrev nBuf : Space → Nat
  | .hbm => 9
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x15376, .f32⟩
  | .hbm, ⟨2, _⟩ => ⟨S1024x1024, .f32⟩
  | .hbm, ⟨3, _⟩ => ⟨S1024x1024, .f32⟩
  | .hbm, ⟨4, _⟩ => ⟨S1024x2048, .f32⟩
  | .hbm, ⟨5, _⟩ => ⟨S16384x1024, .f32⟩
  | .hbm, ⟨6, _⟩ => ⟨S16384x1024, .bf16⟩
  | .hbm, ⟨7, _⟩ => ⟨S1024x2048, .bf16⟩
  | .hbm, ⟨8, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueriesRefIdeal.lean ====
abbrev S4x4096x1024 : Shape := ⟨3, ![4, 4096, 1024]⟩
abbrev S1024x15376 : Shape := ⟨2, ![1024, 15376]⟩
abbrev S4x4096x15376 : Shape := ⟨3, ![4, 4096, 15376]⟩
abbrev S4x4096x2048 : Shape := ⟨3, ![4, 4096, 2048]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x15376, .f32⟩
  | .hbm, ⟨2, _⟩ => ⟨S4x4096x15376, .f32⟩
  | .hbm, ⟨3, _⟩ => ⟨S4x4096x1024, .f32⟩
  | .hbm, ⟨4, _⟩ => ⟨S4x4096x1024, .f32⟩
  | .hbm, ⟨5, _⟩ => ⟨S4x4096x2048, .f32⟩
  | .hbm, ⟨6, _⟩ => ⟨S16384x2048, .f32⟩
  | .hbm, ⟨7, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Memory.lean ====
abbrev S4x256x1024 : Shape := ⟨3, ![4, 256, 1024]⟩
abbrev S1024x2048 : Shape := ⟨2, ![1024, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1024x2048, .f32⟩
  | .hbm, ⟨2, _⟩ => ⟨S1024x1024, .f32⟩
  | .hbm, ⟨3, _⟩ => ⟨S1024x1024, .bf16⟩
  | .hbm, ⟨4, _⟩ => ⟨S1024x2048, .bf16⟩
  | .hbm, ⟨5, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemoryRefIdeal.lean ====
abbrev S4x256x1024 : Shape := ⟨3, ![4, 256, 1024]⟩
abbrev S1024x2048 : Shape := ⟨2, ![1024, 2048]⟩
abbrev S4x256x2048 : Shape := ⟨3, ![4, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x2048, .f32⟩
  | .hbm, ⟨2, _⟩ => ⟨S4x256x2048, .f32⟩
  | .hbm, ⟨3, _⟩ => ⟨S1024x2048, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Keys.lean ====
abbrev S32x8x1024 : Shape := ⟨3, ![32, 8, 1024]⟩
abbrev S1024x15376 : Shape := ⟨2, ![1024, 15376]⟩
abbrev S1024x512 : Shape := ⟨2, ![1024, 512]⟩
abbrev S1024x1024 : Shape := ⟨2, ![1024, 1024]⟩
abbrev S256x1024 : Shape := ⟨2, ![256, 1024]⟩

abbrev nBuf : Space → Nat
  | .hbm => 10
  | .vmem => 4
  | .smem => 0
  | _ => 0

abbrev bufTy : (tb : Table) → Fin (tcTables nBuf tb) → BufTy
  | .hbm, ⟨0, _⟩ => ⟨S32x8x1024, .f32⟩
  | .hbm, ⟨1, _⟩ => ⟨S1024x15376, .f32⟩
  | .hbm, ⟨2, _⟩ => ⟨S1024x512, .f32⟩
  | .hbm, ⟨3, _⟩ => ⟨S1024x512, .f32⟩
  | .hbm, ⟨4, _⟩ => ⟨S1024x1024, .f32⟩
  | .hbm, ⟨5, _⟩ => ⟨S256x1024, .f32⟩
  | .hbm, ⟨6, _⟩ => ⟨S256x1024, .bf16⟩
  | .hbm, ⟨7, _⟩ => ⟨S1024x1024, .bf16⟩
  | .hbm, ⟨8, _⟩ => ⟨S256x1024, .f32⟩
  | .hbm, ⟨9, _⟩ => ⟨S256x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== KeysRefIdeal.lean ====
abbrev S32x8x1024 : Shape := ⟨3, ![32, 8, 1024]⟩
abbrev S1024x15376 : Shape := ⟨2, ![1024, 15376]⟩
abbrev S32x8x15376 : Shape := ⟨3, ![32, 8, 15376]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024x15376, .f32⟩
  | .hbm, ⟨2, _⟩ => ⟨S32x8x15376, .f32⟩
  | .hbm, ⟨3, _⟩ => ⟨S32x8x1024, .f32⟩
  | .hbm, ⟨4, _⟩ => ⟨S256x1024, .f32⟩
  | .hbm, ⟨5, _⟩ => ⟨S256x1024, .bf16⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ScanInput.lean ====
abbrev S4x4096x1024 : Shape := ⟨3, ![4, 4096, 1024]⟩
abbrev S1024x15376 : Shape := ⟨2, ![1024, 15376]⟩
abbrev S1024x2048 : Shape := ⟨2, ![1024, 2048]⟩
abbrev S1024x16 : Shape := ⟨2, ![1024, 16]⟩
abbrev S_ : Shape := ⟨0, ![]⟩
abbrev S1024x112 : Shape := ⟨2, ![1024, 112]⟩
abbrev S1024x2176 : Shape := ⟨2, ![1024, 2176]⟩
abbrev S16384x1024 : Shape := ⟨2, ![16384, 1024]⟩
abbrev S16384x2176 : Shape := ⟨2, ![16384, 2176]⟩
abbrev S1024x1024 : Shape := ⟨2, ![1024, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x15376, .f32⟩
  | .hbm, ⟨2, _⟩ => ⟨S1024x2048, .f32⟩
  | .hbm, ⟨3, _⟩ => ⟨S1024x16, .f32⟩
  | .hbm, ⟨4, _⟩ => ⟨S_, .f32⟩
  | .hbm, ⟨5, _⟩ => ⟨S1024x112, .f32⟩
  | .hbm, ⟨6, _⟩ => ⟨S1024x2176, .f32⟩
  | .hbm, ⟨7, _⟩ => ⟨S16384x1024, .f32⟩
  | .hbm, ⟨8, _⟩ => ⟨S16384x1024, .bf16⟩
  | .hbm, ⟨9, _⟩ => ⟨S1024x2176, .bf16⟩
  | .hbm, ⟨10, _⟩ => ⟨S16384x2176, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .f32⟩
  | .local _ .vmem, ⟨4, _⟩ => ⟨S1024x2176, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ScanInputRefIdeal.lean ====
abbrev S4x4096x1024 : Shape := ⟨3, ![4, 4096, 1024]⟩
abbrev S1024x15376 : Shape := ⟨2, ![1024, 15376]⟩
abbrev S4x4096x15376 : Shape := ⟨3, ![4, 4096, 15376]⟩
abbrev S4x4096x2064 : Shape := ⟨3, ![4, 4096, 2064]⟩
abbrev S_ : Shape := ⟨0, ![]⟩
abbrev S4x4096x112 : Shape := ⟨3, ![4, 4096, 112]⟩
abbrev S4x4096x2176 : Shape := ⟨3, ![4, 4096, 2176]⟩
abbrev S16384x2176 : Shape := ⟨2, ![16384, 2176]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x15376, .f32⟩
  | .hbm, ⟨2, _⟩ => ⟨S4x4096x15376, .f32⟩
  | .hbm, ⟨3, _⟩ => ⟨S4x4096x2064, .f32⟩
  | .hbm, ⟨4, _⟩ => ⟨S_, .f32⟩
  | .hbm, ⟨5, _⟩ => ⟨S4x4096x112, .f32⟩
  | .hbm, ⟨6, _⟩ => ⟨S4x4096x2176, .f32⟩
  | .hbm, ⟨7, _⟩ => ⟨S16384x2176, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Attn.Rows.lean ====
/-
  The rows of a buffer in four blocks. The kernel keeps a scratch array of 2048 rows for the four (head, half) pairs of a tile and
  always loads and stores 512 rows of it at a time. This module says what such a load reads, and what the four loads read after four stores.
-/
module

public import proofs.«01_k».proof.KernelIdeal
public import Idealize.ShloMosaic.Lib.WritesUnit
public import Idealize.ShloMosaic.Lib.VecWindow

@[expose] public section

noncomputable section

namespace Cert.Attn

open Idealize.ShloMosaic

/-- The part of `X` of sizes `size` from the offsets `off`, each coordinate taken modulo the array's size so that no bound is asked. -/
def blk {s : Shape} {α : Type} (hs : ∀ a, 0 < s.size a) (off size : Fin s.rank → ℕ) (X : s.Idx → α) : (⟨s.rank, size⟩ : Shape).Idx → α :=
  fun y => X fun a => ⟨(off a + (y a).val) % s.size a, Nat.mod_lt _ (hs a)⟩

section Reads
variable {sig : RefSig} {κ : Kind} {sp : Space} {s : Shape} {e : EltTy} {Val : EltTy → Type}

/-- A load through a unit-stride rectangle reads that part of what the view reads. -/
theorem readAt_blk (hs : ∀ a, 0 < s.size a) (v : View sig κ sp s e) (f : v.ty.Contents Val) {off size : Fin s.rank → ℕ}
    (inb : ∀ a, off a + size a ≤ s.size a) :
    v.readAt Val (Rect.unit off size inb).toLoadRect f = blk hs off size (v.read Val f) := by
  funext y
  rw [View.readAt_apply]
  refine congrArg (v.read Val f) (funext fun a => Fin.ext ?_)
  show off a + 1 * (y a).val = (off a + (y a).val) % s.size a
  have h1 := inb a
  have h2 : (y a).val < size a := (y a).isLt
  rw [Nat.mod_eq_of_lt (by omega), Nat.one_mul]

end Reads

/-- The four blocks of 512 rows of what a view of 2048 rows reads are `M 0`, …, `M 3`. -/
def Rows {N : ℕ} {α : Type} (hs : ∀ a, 0 < (⟨2, ![2048, N]⟩ : Shape).size a) (X : (⟨2, ![2048, N]⟩ : Shape).Idx → α)
    (M : Fin 4 → (⟨2, ![512, N]⟩ : Shape).Idx → α) : Prop :=
  ∀ b : Fin 4, blk hs ![512 * b.val, 0] ![512, N] X = M b

section Writes
variable {sig : RefSig} {κ : Kind} {sp : Space} {e : EltTy} {Val : EltTy → Type} {N : ℕ}

/-- After four stores of 512 rows each, from the first rows to the last, the four blocks are the stores' payloads. -/
theorem rows_writes (hs : ∀ a, 0 < (⟨2, ![2048, N]⟩ : Shape).size a) (v : View sig κ sp (⟨2, ![2048, N]⟩ : Shape) e) (f : v.ty.Contents Val)
    (i0 : ∀ a : Fin 2, (![0, 0] : Fin 2 → ℕ) a + (![512, N] : Fin 2 → ℕ) a ≤ (![2048, N] : Fin 2 → ℕ) a)
    (i1 : ∀ a : Fin 2, (![512, 0] : Fin 2 → ℕ) a + (![512, N] : Fin 2 → ℕ) a ≤ (![2048, N] : Fin 2 → ℕ) a)
    (i2 : ∀ a : Fin 2, (![1024, 0] : Fin 2 → ℕ) a + (![512, N] : Fin 2 → ℕ) a ≤ (![2048, N] : Fin 2 → ℕ) a)
    (i3 : ∀ a : Fin 2, (![1536, 0] : Fin 2 → ℕ) a + (![512, N] : Fin 2 → ℕ) a ≤ (![2048, N] : Fin 2 → ℕ) a)
    (w0 w1 w2 w3 : (⟨2, ![512, N]⟩ : Shape).Idx → Val e) (L : List (View.Piece Val (⟨2, ![2048, N]⟩ : Shape) e)) :
    Rows hs (v.read Val (v.writes Val f
      ((⟨Rect.unit (s := ⟨2, ![2048, N]⟩) ![1536, 0] ![512, N] i3, w3⟩ : View.Piece Val (⟨2, ![2048, N]⟩ : Shape) e)
        :: (⟨Rect.unit (s := ⟨2, ![2048, N]⟩) ![1024, 0] ![512, N] i2, w2⟩ : View.Piece Val (⟨2, ![2048, N]⟩ : Shape) e)
        :: (⟨Rect.unit (s := ⟨2, ![2048, N]⟩) ![512, 0] ![512, N] i1, w1⟩ : View.Piece Val (⟨2, ![2048, N]⟩ : Shape) e)
        :: (⟨Rect.unit (s := ⟨2, ![2048, N]⟩) ![0, 0] ![512, N] i0, w0⟩ : View.Piece Val (⟨2, ![2048, N]⟩ : Shape) e) :: L)))
      ![w0, w1, w2, w3] := by
  intro b
  funext y
  have hy0 : (y 0).val < 512 := (y 0).isLt
  have hy1 : (y 1).val < N := (y 1).isLt
  show v.read Val (v.writes Val f _) (fun a => ⟨((![512 * b.val, 0] : Fin 2 → ℕ) a + (y a).val) % (![2048, N] : Fin 2 → ℕ) a, _⟩) = _
  have e0 : (512 * b.val + (y 0).val) % 2048 = 512 * b.val + (y 0).val := Nat.mod_eq_of_lt (by have := b.isLt; omega)
  have e1 : (0 + (y 1).val) % N = (y 1).val := by rw [Nat.zero_add, Nat.mod_eq_of_lt hy1]
  fin_cases b
  · rw [View.read_writes_cons_rows_of_not_mem v f i3 _ _ _ rfl rfl (Or.inl (by show (512 * 0 + (y 0).val) % 2048 < 1536; omega)),
      View.read_writes_cons_rows_of_not_mem v f i2 _ _ _ rfl rfl (Or.inl (by show (512 * 0 + (y 0).val) % 2048 < 1024; omega)),
      View.read_writes_cons_rows_of_not_mem v f i1 _ _ _ rfl rfl (Or.inl (by show (512 * 0 + (y 0).val) % 2048 < 512; omega)),
      View.read_writes_cons_rows_of_mem v f i0 _ _ _ y rfl (by show (512 * 0 + (y 0).val) % 2048 = 0 + (y 0).val; omega) e1]
    rfl
  · rw [View.read_writes_cons_rows_of_not_mem v f i3 _ _ _ rfl rfl (Or.inl (by show (512 * 1 + (y 0).val) % 2048 < 1536; omega)),
      View.read_writes_cons_rows_of_not_mem v f i2 _ _ _ rfl rfl (Or.inl (by show (512 * 1 + (y 0).val) % 2048 < 1024; omega)),
      View.read_writes_cons_rows_of_mem v f i1 _ _ _ y rfl (by show (512 * 1 + (y 0).val) % 2048 = 512 + (y 0).val; omega) e1]
    rfl
  · rw [View.read_writes_cons_rows_of_not_mem v f i3 _ _ _ rfl rfl (Or.inl (by show (512 * 2 + (y 0).val) % 2048 < 1536; omega)),
      View.read_writes_cons_rows_of_mem v f i2 _ _ _ y rfl (by show (512 * 2 + (y 0).val) % 2048 = 1024 + (y 0).val; omega) e1]
    rfl
  · rw [View.read_writes_cons_rows_of_mem v f i3 _ _ _ y rfl (by show (512 * 3 + (y 0).val) % 2048 = 1536 + (y 0).val; omega) e1]
    rfl

end Writes

end Cert.Attn
-- ==== Proof.Attn.Model.lean ====
/-
  What one tile of queries goes through, block of keys by block of keys, as functions of the blocks. `mSt`, `aSt` are the running maximum
  and the running sums of one of the tile's four (head, half) pairs before key block `n`; `pSt`, `lSt` are the block's weights and the factor by
  which the earlier sums shrink. All are written with the printed program's own payloads, at any number type. Below them: where the
  program's computed offsets and loop counts stand, as plain numbers.
-/
module

public import proofs.«01_k».proof.Proof.Gen.KernelIdeal.Skeleton
public import proofs.«01_k».proof.Proof.Attn.Rows

@[expose] public section

noncomputable section

namespace Cert.KernelIdeal.Attn

open Idealize.ShloMosaic Cert.Attn
open Cert.KernelIdeal.Gen

variable {F : FTy → Type} [FloatOps F] [Named F]

theorem pos_k : ∀ a, 0 < S1x4096x128.size a := by decide
theorem pos_v1 : ∀ a, 0 < S4096x256.size a := by decide
theorem pos_q : ∀ a, 0 < S1x512x256.size a := by decide
theorem pos_m : ∀ a, 0 < S2048x128.size a := by decide
theorem pos_a : ∀ a, 0 < S2048x256.size a := by decide
theorem pos_p : ∀ a, 0 < S2048x512.size a := by decide
theorem pos_h : ∀ a, 0 < S512x256.size a := by decide

/-- Key block `j`: 512 rows of the key block of the head. -/
def kB (X : Vec F S1x4096x128 .bf16) (j : ℕ) : Vec F S1x512x128 .bf16 := blk pos_k ![0, 512 * j, 0] S1x512x128.size X

/-- Value block `j`: 512 rows of the values with the ones beside them. -/
def vB (X : Vec F S4096x256 .bf16) (j : ℕ) : Vec F S512x256 .bf16 := blk pos_v1 ![512 * j, 0] S512x256.size X

/-- The values with 128 columns of ones beside them. -/
def v1Of (X : Vec F S1x4096x128 .bf16) : Vec F S4096x256 .bf16 := fun y =>
  if h : (y 1).val < 128 then k0_pay76 X (fun a => match a with | 0 => y 0 | 1 => ⟨(y 1).val, h⟩)
  else k0_pay77 (F := F) (fun a => match a with | 0 => y 0 | 1 => ⟨(y 1).val - 128, by have h2 : (y 1).val < 256 := (y 1).isLt; show (y 1).val - 128 < 128; omega⟩)

/-- The queries' half tile of head `g` within the pair: columns `128 g` to `128 g + 127`. -/
def qH (X : Vec F S1x512x256 .bf16) (g : ℕ) : Vec F S1x512x128 .bf16 := blk pos_q ![0, 0, 128 * g] S1x512x128.size X

/-- The four blocks of scaled queries: head 0 with the first and the second 64 columns kept, then head 1. -/
def qB (X : Vec F S1x512x256 .bf16) : Fin 4 → Vec F S512x128 .bf16 :=
  ![k0_pay79 (qH X 0), k0_pay80 (qH X 0), k0_pay83 (k0_pay82 (qH X 1)), k0_pay84 (iota .tc S512x128 32 [1] iota_S512x128_d1_w32) (k0_pay81 (qH X 1))]

/-- The running maximum before any key: minus infinity. -/
def mInit : Vec F S512x128 .f32 := fun _ => Scalar.ofBits .f32 0xFF800000#32

/-- The running sums before any key: zero. -/
def aInit : Vec F S512x256 .f32 := fun _ => Scalar.ofBits .f32 0x00000000#32

/-- The running maximum before key block `n`. -/
def mSt (K : ℕ → Vec F S1x512x128 .bf16) (Q : Vec F S512x128 .bf16) : ℕ → Vec F S512x128 .f32
  | 0 => mInit
  | n + 1 => k0_pay5 (K n) Q (mSt K Q n)

/-- The weights of key block `n`. -/
def pSt (K : ℕ → Vec F S1x512x128 .bf16) (Q : Vec F S512x128 .bf16) (n : ℕ) : Vec F S512x512 .bf16 := k0_pay6 (K n) Q (mSt K Q n)

/-- The factor by which the sums shrink at key block `n`. -/
def lSt (K : ℕ → Vec F S1x512x128 .bf16) (Q : Vec F S512x128 .bf16) (n : ℕ) : Vec F S512x128 .f32 := k0_pay7 (K n) Q (mSt K Q n)

/-- The running sums before key block `n`. -/
def aSt (K : ℕ → Vec F S1x512x128 .bf16) (W : ℕ → Vec F S512x256 .bf16) (Q : Vec F S512x128 .bf16) : ℕ → Vec F S512x256 .f32
  | 0 => aInit
  | n + 1 => k0_pay19 (W n) (pSt K Q n) (lSt K Q n) (aSt K W Q n)

/-- The sums after the tile's own key block, in which a query sees no later key. -/
def aFin (K : ℕ → Vec F S1x512x128 .bf16) (W : ℕ → Vec F S512x256 .bf16) (Q : Vec F S512x128 .bf16) (n : ℕ) : Vec F S512x256 .f32 :=
  k0_pay102 (k0_pay100 (K n) Q (mSt K Q n)) (k0_pay101 (K n) (W n) Q (mSt K Q n)) (aSt K W Q n)

theorem aFin_pred (K : ℕ → Vec F S1x512x128 .bf16) (W : ℕ → Vec F S512x256 .bf16) (Q : Vec F S512x128 .bf16) {n : ℕ} (h : n ≠ 0) :
    aFin K W Q n = k0_pay102 (k0_pay100 (K n) Q (mSt K Q n)) (k0_pay101 (K n) (W n) Q (mSt K Q n))
      (k0_pay19 (W (n - 1)) (pSt K Q (n - 1)) (lSt K Q (n - 1)) (aSt K W Q (n - 1))) := by
  obtain ⟨k, rfl⟩ := Nat.exists_eq_succ_of_ne_zero h
  rfl

/-- Columns 0 to 127 of the sums: the weighted values. -/
def numer (A : Vec F S512x256 .f32) : Vec F S512x128 .f32 := blk pos_h ![0, 0] S512x128.size A

/-- Columns 128 to 255 of the sums: the weights' total, in every column. -/
def denom (A : Vec F S512x256 .f32) : Vec F S512x128 .f32 := blk pos_h ![0, 128] S512x128.size A

/-- The tile's result for head 0 of the pair, from the sums of its two halves, -/
def out0 (A B : Vec F S512x256 .f32) (G : Vec F S1x512x128 .bf16) (L : Vec F S4x64 .f32) (S : Vec F S1x128 .f32) : FVec F S1x512x128 .bf16 :=
  k0_pay120 (k0_pay117 L) (k0_pay118 (numer A) (denom A)) (k0_pay119 (numer B) (denom B)) G S

/-- and for head 1. -/
def out1 (A B : Vec F S512x256 .f32) (G : Vec F S1x512x128 .bf16) (L : Vec F S4x64 .f32) (S : Vec F S1x128 .f32) : FVec F S1x512x128 .bf16 :=
  k0_pay1 (k0_pay117 L) (k0_pay121 (numer A) (denom A)) (k0_pay122 (numer B) (denom B)) (k0_pay123 G) S

/-- The tile's output block: head 0's 128 columns, then head 1's. -/
def outB (A : Fin 4 → Vec F S512x256 .f32) (X6 : Vec F S1x512x256 .bf16) (L : Vec F S4x64 .f32) (S : Vec F S1x128 .f32) : Vec F S1x512x256 .bf16 := fun y =>
  if h : (y 2).val < 128 then out0 (A 0) (A 1) (qH X6 0) L S (fun a => match a with | 0 => y 0 | 1 => y 1 | 2 => ⟨(y 2).val, h⟩)
  else out1 (A 2) (A 3) (qH X6 1) L S (fun a => match a with | 0 => y 0 | 1 => y 1 | 2 => ⟨(y 2).val - 128, by have h2 : (y 2).val < 256 := (y 2).isLt; show (y 2).val - 128 < 128; omega⟩)

section TwoStores
variable {sig : RefSig} {κ : Kind} {sp : Space}

/-- After the stores of columns 0 to 127 and 128 to 255 the view reads the values with the ones beside them. -/
theorem v1_writes (v : View sig κ sp S4096x256 .bf16) (f : v.ty.Contents (Elt F))
    (i0 : ∀ a : Fin 2, (![0, 0] : Fin 2 → ℕ) a + S4096x128.size a ≤ S4096x256.size a)
    (i1 : ∀ a : Fin 2, (![0, 128] : Fin 2 → ℕ) a + S4096x128.size a ≤ S4096x256.size a)
    (X : Vec F S1x4096x128 .bf16) (L : List (View.Piece (Elt F) S4096x256 .bf16)) :
    v.read (Elt F) (v.writes (Elt F) f
      ((⟨Rect.unit (s := S4096x256) ![0, 128] S4096x128.size i1, k0_pay77 (F := F)⟩ : View.Piece (Elt F) S4096x256 .bf16)
        :: (⟨Rect.unit (s := S4096x256) ![0, 0] S4096x128.size i0, k0_pay76 X⟩ : View.Piece (Elt F) S4096x256 .bf16) :: L)) = v1Of X := by
  funext y
  have h2 : (y 1).val < 256 := (y 1).isLt
  unfold v1Of
  by_cases h : (y 1).val < 128
  · rw [dif_pos h, View.read_writes_cons_unit_of_not_mem v f i1 _ _ y rfl 1 (Or.inl h)]
    exact View.read_writes_cons_unit_of_mem v f i0 _ _ y _ rfl (fun a => match a with | 0 => (Nat.zero_add _).symm | 1 => (Nat.zero_add _).symm)
  · rw [dif_neg h]
    exact View.read_writes_cons_unit_of_mem v f i1 _ _ y _ rfl (fun a => match a with | 0 => (Nat.zero_add _).symm | 1 => (by show (y 1).val = 128 + ((y 1).val - 128); omega))

/-- After the two stores of the results the output's view reads `outB`. -/
theorem out_writes (v : View sig κ sp S1x512x256 .bf16) (f : v.ty.Contents (Elt F))
    (i0 : ∀ a : Fin 3, (![0, 0, 0] : Fin 3 → ℕ) a + S1x512x128.size a ≤ S1x512x256.size a)
    (i1 : ∀ a : Fin 3, (![0, 0, 128] : Fin 3 → ℕ) a + S1x512x128.size a ≤ S1x512x256.size a)
    (A : Fin 4 → Vec F S512x256 .f32) (X6 : Vec F S1x512x256 .bf16) (L7 : Vec F S4x64 .f32) (S : Vec F S1x128 .f32)
    (w0 w1 : Vec F S1x512x128 .bf16) (h0 : w0 = out0 (A 0) (A 1) (qH X6 0) L7 S) (h1 : w1 = out1 (A 2) (A 3) (qH X6 1) L7 S)
    (L : List (View.Piece (Elt F) S1x512x256 .bf16)) :
    v.read (Elt F) (v.writes (Elt F) f
      ((⟨Rect.unit (s := S1x512x256) ![0, 0, 128] S1x512x128.size i1, w1⟩ : View.Piece (Elt F) S1x512x256 .bf16)
        :: (⟨Rect.unit (s := S1x512x256) ![0, 0, 0] S1x512x128.size i0, w0⟩ : View.Piece (Elt F) S1x512x256 .bf16) :: L)) = outB A X6 L7 S := by
  subst h0 h1
  funext y
  have h2 : (y 2).val < 256 := (y 2).isLt
  unfold outB
  by_cases h : (y 2).val < 128
  · rw [dif_pos h, View.read_writes_cons_unit_of_not_mem v f i1 _ _ y rfl 2 (Or.inl h)]
    exact View.read_writes_cons_unit_of_mem v f i0 _ _ y _ rfl (fun a => match a with | 0 => (Nat.zero_add _).symm | 1 => (Nat.zero_add _).symm | 2 => (Nat.zero_add _).symm)
  · rw [dif_neg h]
    exact View.read_writes_cons_unit_of_mem v f i1 _ _ y _ rfl (fun a => match a with | 0 => (Nat.zero_add _).symm | 1 => (Nat.zero_add _).symm | 2 => (by show (y 2).val = 128 + ((y 2).val - 128); omega))

/-- A load of one half of the columns of one block, after four stores of whole blocks, reads that half of the block's payload. -/
theorem half_cov (v : View sig κ sp S2048x256 .f32) (b : Fin 4) (g : ℕ) {off : Fin 2 → ℕ} (hoff : off = ![512 * b.val, 128 * g]) (hg : g < 2)
    (inb : ∀ a : Fin 2, off a + S512x128.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 : Vec F S512x256 .f32) (L : List (View.Piece (Elt F) S2048x256 .f32)) :
    v.readCov (Val := Elt F)
      ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) off S512x128.size inb).toLoadRect
      = blk pos_h ![0, 128 * g] S512x128.size ((![w0, w1, w2, w3] : Fin 4 → Vec F S512x256 .f32) b) := by
  subst hoff
  have h := rows_writes pos_a v v.junk i0 i1 i2 i3 w0 w1 w2 w3 L b
  rw [← h]
  refine (readAt_blk pos_a v _ inb).trans (funext fun y => ?_)
  refine congrArg (v.read (Elt F) _) (funext fun a => Fin.ext ?_)
  have hy0 : (y 0).val < 512 := (y 0).isLt
  have hy1 : (y 1).val < 128 := (y 1).isLt
  have hb := b.isLt
  match a with
  | 0 => show (512 * b.val + (y 0).val) % 2048 = (512 * b.val + (0 + (y 0).val) % 512) % 2048; omega
  | 1 => show (128 * g + (y 1).val) % 256 = (0 + (128 * g + (y 1).val) % 256) % 256; omega

end TwoStores

theorem out0_congr (A B : Vec F S512x256 .f32) (G : Vec F S1x512x128 .bf16) (L : Vec F S4x64 .f32) (S : Vec F S1x128 .f32) (a b c d : Vec F S512x128 .f32)
    (ha : a = numer A) (hb : b = denom A) (hc : c = numer B) (hd : d = denom B) :
    k0_pay120 (k0_pay117 L) (k0_pay118 a b) (k0_pay119 c d) G S = out0 A B G L S := by subst ha hb hc hd; rfl

theorem out1_congr (A B : Vec F S512x256 .f32) (G : Vec F S1x512x128 .bf16) (L : Vec F S4x64 .f32) (S : Vec F S1x128 .f32) (a b c d : Vec F S512x128 .f32)
    (ha : a = numer A) (hb : b = denom A) (hc : c = numer B) (hd : d = denom B) :
    k0_pay1 (k0_pay117 L) (k0_pay121 a b) (k0_pay122 c d) (k0_pay123 G) S = out1 A B G L S := by subst ha hb hc hd; rfl

/-! ## The program's offsets and counts -/

theorem trips_eq (i : grid0.Coords) : (k0_t1_loop i).trips = (i 2).val - 1 := by
  unfold k0_t1_loop
  generalize i 2 = n
  revert n
  show ∀ n : Fin 8, _
  decide +kernel

theorem off1_eq (i : grid0.Coords) (k : Fin (k0_t1_loop i).trips) : k0_off1 i k = ![0, 512 * (k.val + 1), 0] := by
  have hk : k.val < 7 := by have h := lt_of_lt_of_eq k.isLt (trips_eq i); have := (i 2).isLt; have h8 : (i 2).val < 8 := this; omega
  unfold k0_off1
  generalize k.val = n at hk
  have : ∀ n : Fin 7, (![0, (Scalar.indexCast (Scalar.muli (Scf.iv 1#32 1#32 n.val) 512#32)).toNat, 0] : Fin 3 → ℕ) = ![0, 512 * (n.val + 1), 0] := by
    decide +kernel
  exact this ⟨n, hk⟩

theorem off2_eq (i : grid0.Coords) (k : Fin (k0_t1_loop i).trips) : k0_off2 i k = ![512 * k.val, 0] := by
  have hk : k.val < 7 := by have h := lt_of_lt_of_eq k.isLt (trips_eq i); have := (i 2).isLt; have h8 : (i 2).val < 8 := this; omega
  unfold k0_off2
  generalize k.val = n at hk
  have : ∀ n : Fin 7, (![(Scalar.indexCast (Scalar.muli (Scalar.subi (Scf.iv 1#32 1#32 n.val) 1#32) 512#32)).toNat, 0] : Fin 2 → ℕ) = ![512 * n.val, 0] := by
    decide +kernel
  exact this ⟨n, hk⟩

theorem off5_eq (i : grid0.Coords) (h : (i 2).val ≠ 0) : k0_off5 i = ![512 * ((i 2).val - 1), 0] := by
  unfold k0_off5
  generalize i 2 = n at h
  revert n
  show ∀ n : Fin 8, _
  decide +kernel

theorem off6_eq (i : grid0.Coords) : k0_off6 i = ![0, 512 * (i 2).val, 0] := by
  unfold k0_off6
  generalize i 2 = n
  revert n
  show ∀ n : Fin 8, _
  decide +kernel

theorem off7_eq (i : grid0.Coords) : k0_off7 i = ![512 * (i 2).val, 0] := by
  unfold k0_off7
  generalize i 2 = n
  revert n
  show ∀ n : Fin 8, _
  decide +kernel

theorem cond3_eq (i : grid0.Coords) : k0_cond3 i = 1#1 ↔ (i 2).val ≠ 0 := by
  unfold k0_cond3
  generalize i 2 = n
  revert n
  show ∀ n : Fin 8, _
  decide +kernel

end Cert.KernelIdeal.Attn
-- ==== Proof.Attn.Head.lean ====
module

public import proofs.«01_k».proof.Proof.Gen.KernelIdeal.Frame
public import proofs.«01_k».proof.Proof.Attn.Model
public import Idealize.ShloMosaic.Lib.LoopRemainder
public import Idealize.ShloMosaic.Lib.Tactic.Stretches

@[expose] public section

set_option maxRecDepth 8192
set_option maxHeartbeats 4000000

noncomputable section

namespace Cert.KernelIdeal.Attn

open Cert.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

variable (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x256 .bf16) (harg9 : arg9.IsWhole) (arg10 : Memref sig .tc .vmem S2048x128 .bf16) (harg10 : arg10.IsWhole) (arg11 : Memref sig .tc .vmem S4096x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x512 .bf16) (harg14 : arg14.IsWhole) (arg15 : Memref sig .tc .vmem S2048x128 .f32) (harg15 : arg15.IsWhole)

theorem cond1_eq (i : grid0.Coords) : Scalar.cmpi .ne (Scalar.extui (Scalar.cmpi .eq (BitVec.ofNat 32 (i 2).val) 0#32) : BitVec 32) 0#32 = 1#1 ↔ (i 2).val = 0 := by
  generalize i 2 = n
  revert n
  show ∀ n : Fin 8, _
  decide +kernel

/-- The first tile of a head lays out the values with the ones beside them, the scaled queries, and clears the running states. -/
theorem head_first (𝒱 : Variants) (c : Dev nD) (bd : Option 𝒱.V) (E : Set ℕ) (i : grid0.Coords) (hi : (i 2).val = 0)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (X3 : Vec F S1x512x256 .bf16) (X5 : Vec F S1x4096x128 .bf16) (h3 : arg3.view.read (Elt F) f3 = X3) (h5 : arg5.view.read (Elt F) f5 = X5)  :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
    ⊢ wp frame (wpE (defs₀ (F := F)) 𝒱 (c : Thread nD τ) bd) E (k0_part12_skel (F := F) i arg3 harg3 arg4 harg4 arg5 harg5 arg6 harg6 arg7 harg7 arg8 harg8 arg9 harg9 arg10 harg10 arg11 harg11 arg12 harg12 arg13 harg13 arg14 harg14 arg15 harg15 >>= fun x => k0_part13_skel (F := F) i arg3 harg3 arg4 harg4 arg5 harg5 arg6 harg6 arg7 harg7 arg8 harg8 arg9 harg9 arg10 harg10 arg11 harg11 arg12 harg12 arg13 harg13 arg14 harg14 arg15 harg15 x.1 x.2.1 x.2.2.1 x.2.2.2)
        (fun y => iprop(⌜Scalar.cmpi .ne (Scalar.extui (Scalar.cmpi .sgt y.2 0#32) : BitVec 32) 0#32 = 1#1 ↔ (i 2).val ≠ 0⌝ ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ f, ⌜Rows pos_m (arg10.view.read (Elt F) f) (qB X3)⌝ ∗ (arg10.view.loc (c : Thread nD τ) ↦[arg10.view.set]{fullShare} f)) ∗ (∃ f, ⌜arg11.view.read (Elt F) f = v1Of X5⌝ ∗ (arg11.view.loc (c : Thread nD τ) ↦[arg11.view.set]{fullShare} f)) ∗ (∃ f, ⌜Rows pos_m (arg12.view.read (Elt F) f) (fun _ => mInit)⌝ ∗ (arg12.view.loc (c : Thread nD τ) ↦[arg12.view.set]{fullShare} f)) ∗ (∃ f, ⌜Rows pos_a (arg13.view.read (Elt F) f) (fun _ => aInit)⌝ ∗ (arg13.view.loc (c : Thread nD τ) ↦[arg13.view.set]{fullShare} f)) ∗ (arg14.view.loc (c : Thread nD τ) ↦[arg14.view.set]{fullShare} f14) ∗ (arg15.view.loc (c : Thread nD τ) ↦[arg15.view.set]{fullShare} f15))) := by
  have hc1 : Scalar.cmpi .ne (Scalar.extui (Scalar.cmpi .eq (BitVec.ofNat 32 (i 2).val) 0#32) : BitVec 32) 0#32 = 1#1 := (cond1_eq i).2 hi
  have r3_0 : arg3.view.readAt (Elt F) (Rect.unit (s := S1x512x256) ![0, 0, 0] S1x512x128.size inb_S1x512x256_S1x512x128_0_0_0).toLoadRect f3 = qH X3 0 := by
    rw [readAt_blk pos_q, h3]; rfl
  have r3_1 : arg3.view.readAt (Elt F) (Rect.unit (s := S1x512x256) ![0, 0, 128] S1x512x128.size inb_S1x512x256_S1x512x128_0_0_128).toLoadRect f3 = qH X3 1 := by
    rw [readAt_blk pos_q, h3]; rfl
  have r5 : arg5.view.readAt (Elt F) (Rect.unit (s := S1x4096x128) ![0, 0, 0] S1x4096x128.size inb_S1x4096x128_S1x4096x128_0_0_0).toLoadRect f5 = X5 := by
    rw [View.readAt_full, h5]
  iintro ⟨H3, H4, H5, H6, H7, H8, H9, H10, H11, H12, H13, H14, H15⟩
  sl_exec (disch := sl_exact hc1)
  sl_step
  isplitr
  · ipureintro; exact cond3_eq i
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; rotate_left
    · iexact H10
    ipureintro
    intro b
    refine (rows_writes pos_m arg10.view _ _ _ _ _ _ _ _ _ _ b).trans ?_
    match b with
    | 0 => rfl
    | 1 => rfl
    | 2 => rfl
    | 3 => rfl
  isplitl [H11]
  · iexists _; isplitr; rotate_left
    · iexact H11
    ipureintro
    exact v1_writes arg11.view _ _ _ _ _
  isplitl [H12]
  · iexists _; isplitr; rotate_left
    · iexact H12
    ipureintro
    intro b
    refine (congrArg (blk pos_m _ _) (View.read_writes_full arg12.view _ _ _ _)).trans ?_
    match b with
    | 0 => rfl
    | 1 => rfl
    | 2 => rfl
    | 3 => rfl
  isplitl [H13]
  · iexists _; isplitr; rotate_left
    · iexact H13
    ipureintro
    intro b
    refine (congrArg (blk pos_a _ _) (View.read_writes_full arg13.view _ _ _ _)).trans ?_
    match b with
    | 0 => rfl
    | 1 => rfl
    | 2 => rfl
    | 3 => rfl
  isplitl [H14]; · iexact H14
  iexact H15

/-- A later tile finds the values with the ones beside them there already. -/
theorem head_later (𝒱 : Variants) (c : Dev nD) (bd : Option 𝒱.V) (E : Set ℕ) (i : grid0.Coords) (hi : (i 2).val ≠ 0)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (X3 : Vec F S1x512x256 .bf16) (X5 : Vec F S1x4096x128 .bf16) (h3 : arg3.view.read (Elt F) f3 = X3) (h5 : arg5.view.read (Elt F) f5 = X5) (h11 : arg11.view.read (Elt F) f11 = v1Of X5) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
    ⊢ wp frame (wpE (defs₀ (F := F)) 𝒱 (c : Thread nD τ) bd) E (k0_part12_skel (F := F) i arg3 harg3 arg4 harg4 arg5 harg5 arg6 harg6 arg7 harg7 arg8 harg8 arg9 harg9 arg10 harg10 arg11 harg11 arg12 harg12 arg13 harg13 arg14 harg14 arg15 harg15 >>= fun x => k0_part13_skel (F := F) i arg3 harg3 arg4 harg4 arg5 harg5 arg6 harg6 arg7 harg7 arg8 harg8 arg9 harg9 arg10 harg10 arg11 harg11 arg12 harg12 arg13 harg13 arg14 harg14 arg15 harg15 x.1 x.2.1 x.2.2.1 x.2.2.2)
        (fun y => iprop(⌜Scalar.cmpi .ne (Scalar.extui (Scalar.cmpi .sgt y.2 0#32) : BitVec 32) 0#32 = 1#1 ↔ (i 2).val ≠ 0⌝ ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ f, ⌜Rows pos_m (arg10.view.read (Elt F) f) (qB X3)⌝ ∗ (arg10.view.loc (c : Thread nD τ) ↦[arg10.view.set]{fullShare} f)) ∗ (∃ f, ⌜arg11.view.read (Elt F) f = v1Of X5⌝ ∗ (arg11.view.loc (c : Thread nD τ) ↦[arg11.view.set]{fullShare} f)) ∗ (∃ f, ⌜Rows pos_m (arg12.view.read (Elt F) f) (fun _ => mInit)⌝ ∗ (arg12.view.loc (c : Thread nD τ) ↦[arg12.view.set]{fullShare} f)) ∗ (∃ f, ⌜Rows pos_a (arg13.view.read (Elt F) f) (fun _ => aInit)⌝ ∗ (arg13.view.loc (c : Thread nD τ) ↦[arg13.view.set]{fullShare} f)) ∗ (arg14.view.loc (c : Thread nD τ) ↦[arg14.view.set]{fullShare} f14) ∗ (arg15.view.loc (c : Thread nD τ) ↦[arg15.view.set]{fullShare} f15))) := by
  have hc1 : ¬ Scalar.cmpi .ne (Scalar.extui (Scalar.cmpi .eq (BitVec.ofNat 32 (i 2).val) 0#32) : BitVec 32) 0#32 = 1#1 := fun h => hi ((cond1_eq i).1 h)
  have r3_0 : arg3.view.readAt (Elt F) (Rect.unit (s := S1x512x256) ![0, 0, 0] S1x512x128.size inb_S1x512x256_S1x512x128_0_0_0).toLoadRect f3 = qH X3 0 := by
    rw [readAt_blk pos_q, h3]; rfl
  have r3_1 : arg3.view.readAt (Elt F) (Rect.unit (s := S1x512x256) ![0, 0, 128] S1x512x128.size inb_S1x512x256_S1x512x128_0_0_128).toLoadRect f3 = qH X3 1 := by
    rw [readAt_blk pos_q, h3]; rfl
  have r5 : arg5.view.readAt (Elt F) (Rect.unit (s := S1x4096x128) ![0, 0, 0] S1x4096x128.size inb_S1x4096x128_S1x4096x128_0_0_0).toLoadRect f5 = X5 := by
    rw [View.readAt_full, h5]
  iintro ⟨H3, H4, H5, H6, H7, H8, H9, H10, H11, H12, H13, H14, H15⟩
  sl_exec (disch := sl_exact hc1)
  sl_step
  isplitr
  · ipureintro; exact cond3_eq i
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; rotate_left
    · iexact H10
    ipureintro
    intro b
    refine (rows_writes pos_m arg10.view _ _ _ _ _ _ _ _ _ _ b).trans ?_
    match b with
    | 0 => rfl
    | 1 => rfl
    | 2 => rfl
    | 3 => rfl
  isplitl [H11]
  · iexists _; isplitr; rotate_left
    · iexact H11
    ipureintro
    exact h11
  isplitl [H12]
  · iexists _; isplitr; rotate_left
    · iexact H12
    ipureintro
    intro b
    refine (congrArg (blk pos_m _ _) (View.read_writes_full arg12.view _ _ _ _)).trans ?_
    match b with
    | 0 => rfl
    | 1 => rfl
    | 2 => rfl
    | 3 => rfl
  isplitl [H13]
  · iexists _; isplitr; rotate_left
    · iexact H13
    ipureintro
    intro b
    refine (congrArg (blk pos_a _ _) (View.read_writes_full arg13.view _ _ _ _)).trans ?_
    match b with
    | 0 => rfl
    | 1 => rfl
    | 2 => rfl
    | 3 => rfl
  isplitl [H14]; · iexact H14
  iexact H15

/-- Both cases of the tile's beginning. -/
theorem head_any (𝒱 : Variants) (c : Dev nD) (bd : Option 𝒱.V) (E : Set ℕ) (i : grid0.Coords)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (X3 : Vec F S1x512x256 .bf16) (X5 : Vec F S1x4096x128 .bf16) (h3 : arg3.view.read (Elt F) f3 = X3) (h5 : arg5.view.read (Elt F) f5 = X5) (h11 : (i 2).val ≠ 0 → arg11.view.read (Elt F) f11 = v1Of X5) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
    ⊢ wp frame (wpE (defs₀ (F := F)) 𝒱 (c : Thread nD τ) bd) E (k0_part12_skel (F := F) i arg3 harg3 arg4 harg4 arg5 harg5 arg6 harg6 arg7 harg7 arg8 harg8 arg9 harg9 arg10 harg10 arg11 harg11 arg12 harg12 arg13 harg13 arg14 harg14 arg15 harg15 >>= fun x => k0_part13_skel (F := F) i arg3 harg3 arg4 harg4 arg5 harg5 arg6 harg6 arg7 harg7 arg8 harg8 arg9 harg9 arg10 harg10 arg11 harg11 arg12 harg12 arg13 harg13 arg14 harg14 arg15 harg15 x.1 x.2.1 x.2.2.1 x.2.2.2)
        (fun y => iprop(⌜Scalar.cmpi .ne (Scalar.extui (Scalar.cmpi .sgt y.2 0#32) : BitVec 32) 0#32 = 1#1 ↔ (i 2).val ≠ 0⌝ ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ f, ⌜Rows pos_m (arg10.view.read (Elt F) f) (qB X3)⌝ ∗ (arg10.view.loc (c : Thread nD τ) ↦[arg10.view.set]{fullShare} f)) ∗ (∃ f, ⌜arg11.view.read (Elt F) f = v1Of X5⌝ ∗ (arg11.view.loc (c : Thread nD τ) ↦[arg11.view.set]{fullShare} f)) ∗ (∃ f, ⌜Rows pos_m (arg12.view.read (Elt F) f) (fun _ => mInit)⌝ ∗ (arg12.view.loc (c : Thread nD τ) ↦[arg12.view.set]{fullShare} f)) ∗ (∃ f, ⌜Rows pos_a (arg13.view.read (Elt F) f) (fun _ => aInit)⌝ ∗ (arg13.view.loc (c : Thread nD τ) ↦[arg13.view.set]{fullShare} f)) ∗ (arg14.view.loc (c : Thread nD τ) ↦[arg14.view.set]{fullShare} f14) ∗ (arg15.view.loc (c : Thread nD τ) ↦[arg15.view.set]{fullShare} f15))) := by
  by_cases hi : (i 2).val = 0
  · exact head_first arg3 harg3 arg4 harg4 arg5 harg5 arg6 harg6 arg7 harg7 arg8 harg8 arg9 harg9 arg10 harg10 arg11 harg11 arg12 harg12 arg13 harg13 arg14 harg14 arg15 harg15 𝒱 c bd E i hi f3 f4 f5 f6 f7 f8 f9 f10 f11 f12 f13 f14 f15 X3 X5 h3 h5
  · exact head_later arg3 harg3 arg4 harg4 arg5 harg5 arg6 harg6 arg7 harg7 arg8 harg8 arg9 harg9 arg10 harg10 arg11 harg11 arg12 harg12 arg13 harg13 arg14 harg14 arg15 harg15 𝒱 c bd E i hi f3 f4 f5 f6 f7 f8 f9 f10 f11 f12 f13 f14 f15 X3 X5 h3 h5 (h11 hi)

end Cert.KernelIdeal.Attn
-- ==== Proof.Attn.First.lean ====
module

public import proofs.«01_k».proof.Proof.Gen.KernelIdeal.Frame
public import proofs.«01_k».proof.Proof.Attn.Model
public import Idealize.ShloMosaic.Lib.LoopRemainder
public import proofs.«01_k».proof.Proof.Attn.Head
public import Idealize.ShloMosaic.Lib.Tactic.Stretches

@[expose] public section

set_option maxRecDepth 8192
set_option maxHeartbeats 4000000

noncomputable section

namespace Cert.KernelIdeal.Attn

open Cert.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

variable (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x256 .bf16) (harg9 : arg9.IsWhole) (arg10 : Memref sig .tc .vmem S2048x128 .bf16) (harg10 : arg10.IsWhole) (arg11 : Memref sig .tc .vmem S4096x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x512 .bf16) (harg14 : arg14.IsWhole) (arg15 : Memref sig .tc .vmem S2048x128 .f32) (harg15 : arg15.IsWhole)

/-- The first tile of a head. -/
theorem body_first (𝒱 : Variants) (c : Dev nD) (bd : Option 𝒱.V) (E : Set ℕ) (i : grid0.Coords) (hi : (i 2).val = 0)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (X3 : Vec F S1x512x256 .bf16) (X4 : Vec F S1x4096x128 .bf16) (X5 : Vec F S1x4096x128 .bf16) (X6 : Vec F S1x512x256 .bf16) (X7 : Vec F S4x64 .f32) (X8 : Vec F S1x128 .f32)
    (h3 : arg3.view.read (Elt F) f3 = X3) (h4 : arg4.view.read (Elt F) f4 = X4) (h5 : arg5.view.read (Elt F) f5 = X5) (h6 : arg6.view.read (Elt F) f6 = X6) (h7 : arg7.view.read (Elt F) f7 = X7) (h8 : arg8.view.read (Elt F) f8 = X8) (h11 : (i 2).val ≠ 0 → arg11.view.read (Elt F) f11 = v1Of X5) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
    ⊢ wp frame (wpE (defs₀ (F := F)) 𝒱 (c : Thread nD τ) bd) E (cc0_attn_prompt (F := F) i arg3 harg3 arg4 harg4 arg5 harg5 arg6 harg6 arg7 harg7 arg8 harg8 arg9 harg9 arg10 harg10 arg11 harg11 arg12 harg12 arg13 harg13 arg14 harg14 arg15 harg15)
        (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, ⌜arg9.view.read (Elt F) f = outB (fun b => aFin (kB X4) (vB (v1Of X5)) (qB X3 b) (i 2).val) X6 X7 X8⌝ ∗ (arg9.view.loc (c : Thread nD τ) ↦[arg9.view.set]{fullShare} f)) ∗ (∃ f, (arg10.view.loc (c : Thread nD τ) ↦[arg10.view.set]{fullShare} f)) ∗ (∃ f, ⌜arg11.view.read (Elt F) f = v1Of X5⌝ ∗ (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) := by
  have r6_0 : arg6.view.readAt (Elt F) (Rect.unit (s := S1x512x256) ![0, 0, 0] S1x512x128.size inb_S1x512x256_S1x512x128_0_0_0).toLoadRect f6 = qH X6 0 := by
    rw [readAt_blk pos_q, h6]; rfl
  have r6_1 : arg6.view.readAt (Elt F) (Rect.unit (s := S1x512x256) ![0, 0, 128] S1x512x128.size inb_S1x512x256_S1x512x128_0_0_128).toLoadRect f6 = qH X6 1 := by
    rw [readAt_blk pos_q, h6]; rfl
  have r7 : arg7.view.readAt (Elt F) (Rect.unit (s := S4x64) ![0, 0] S4x64.size inb_S4x64_S4x64_0_0).toLoadRect f7 = X7 := by
    rw [View.readAt_full, h7]
  have r8 : arg8.view.readAt (Elt F) (Rect.unit (s := S1x128) ![0, 0] S1x128.size inb_S1x128_S1x128_0_0).toLoadRect f8 = X8 := by
    rw [View.readAt_full, h8]
  have r4d : arg4.view.readAt (Elt F) (Rect.unit (s := S1x4096x128) (k0_off6 i) S1x512x128.size (k0_off6_inb i)).toLoadRect f4 = kB X4 (i 2).val := by
    rw [readAt_blk pos_k, h4]; exact congrArg (fun o => blk pos_k o S1x512x128.size X4) (off6_eq i)
  have r4z : arg4.view.readAt (Elt F) (Rect.unit (s := S1x4096x128) ![0, 0, 0] S1x512x128.size inb_S1x4096x128_S1x512x128_0_0_0).toLoadRect f4 = kB X4 0 := by
    rw [readAt_blk pos_k, h4]; rfl
  simp only [cc0_attn_prompt_eq_skeleton]; unfold cc0_attn_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  rw [wp_bind]
  simp only [wp_bind _ _ _ (k0_part13_skel _ _ _ _ _ _ _ _ _ _ _ _ _ _ _ _ _ _ _ _ _ _ _ _ _ _ _ _ _ _ _)]
  rw [← wp_bind]
  refine (head_any arg3 harg3 arg4 harg4 arg5 harg5 arg6 harg6 arg7 harg7 arg8 harg8 arg9 harg9 arg10 harg10 arg11 harg11 arg12 harg12 arg13 harg13 arg14 harg14 arg15 harg15 𝒱 c bd E i f3 f4 f5 f6 f7 f8 f9 f10 f11 f12 f13 f14 f15 X3 X5 h3 h5 h11).trans (wp_mono _ _ _ fun y => ?_)
  iintro ⟨%hy, H3, H4, H5, H6, H7, H8, H9, ⟨%g10, %k10, H10⟩, ⟨%g11, %k11, H11⟩, ⟨%g12, %k12, H12⟩, ⟨%g13, %k13, H13⟩, H14, H15⟩
  have hc : ¬ Scalar.cmpi .ne (Scalar.extui (Scalar.cmpi .sgt y.2 0#32) : BitVec 32) 0#32 = 1#1 := fun h => hy.1 h hi
  have hc3 : ¬ k0_cond3 i = 1#1 := fun h => (cond3_eq i).1 h hi
  have r11d : arg11.view.readAt (Elt F) (Rect.unit (s := S4096x256) (k0_off7 i) S512x256.size (k0_off7_inb i)).toLoadRect g11 = vB (v1Of X5) (i 2).val := by
    rw [readAt_blk pos_v1, k11]; exact congrArg (fun o => blk pos_v1 o S512x256.size (v1Of X5)) (off7_eq i)
  have r10_0 : arg10.view.readAt (Elt F) (Rect.unit (s := S2048x128) ![0, 0] S512x128.size inb_S2048x128_S512x128_0_0).toLoadRect g10 = qB X3 0 := by
    rw [readAt_blk pos_m]; exact k10 0
  have r10_1 : arg10.view.readAt (Elt F) (Rect.unit (s := S2048x128) ![512, 0] S512x128.size inb_S2048x128_S512x128_512_0).toLoadRect g10 = qB X3 1 := by
    rw [readAt_blk pos_m]; exact k10 1
  have r10_2 : arg10.view.readAt (Elt F) (Rect.unit (s := S2048x128) ![1024, 0] S512x128.size inb_S2048x128_S512x128_1024_0).toLoadRect g10 = qB X3 2 := by
    rw [readAt_blk pos_m]; exact k10 2
  have r10_3 : arg10.view.readAt (Elt F) (Rect.unit (s := S2048x128) ![1536, 0] S512x128.size inb_S2048x128_S512x128_1536_0).toLoadRect g10 = qB X3 3 := by
    rw [readAt_blk pos_m]; exact k10 3
  have k12 : Rows pos_m (arg12.view.read (Elt F) g12) (fun b => mSt (kB X4) (qB X3 b) (i 2).val) := by rw [hi]; exact k12
  have k13 : Rows pos_a (arg13.view.read (Elt F) g13) (fun b => aSt (kB X4) (vB (v1Of X5)) (qB X3 b) (i 2).val) := by rw [hi]; exact k13
  have htr : (k0_t1_loop i).trips = 0 := (trips_eq i).trans (by omega)
  have r12_0 : arg12.view.readAt (Elt F) (Rect.unit (s := S2048x128) ![0, 0] S512x128.size inb_S2048x128_S512x128_0_0).toLoadRect g12 = mSt (kB X4) (qB X3 0) (i 2).val := by
    rw [readAt_blk pos_m]; exact k12 0
  have r12_1 : arg12.view.readAt (Elt F) (Rect.unit (s := S2048x128) ![512, 0] S512x128.size inb_S2048x128_S512x128_512_0).toLoadRect g12 = mSt (kB X4) (qB X3 1) (i 2).val := by
    rw [readAt_blk pos_m]; exact k12 1
  have r12_2 : arg12.view.readAt (Elt F) (Rect.unit (s := S2048x128) ![1024, 0] S512x128.size inb_S2048x128_S512x128_1024_0).toLoadRect g12 = mSt (kB X4) (qB X3 2) (i 2).val := by
    rw [readAt_blk pos_m]; exact k12 2
  have r12_3 : arg12.view.readAt (Elt F) (Rect.unit (s := S2048x128) ![1536, 0] S512x128.size inb_S2048x128_S512x128_1536_0).toLoadRect g12 = mSt (kB X4) (qB X3 3) (i 2).val := by
    rw [readAt_blk pos_m]; exact k12 3
  have r13_0 : arg13.view.readAt (Elt F) (Rect.unit (s := S2048x256) ![0, 0] S512x256.size inb_S2048x256_S512x256_0_0).toLoadRect g13 = aSt (kB X4) (vB (v1Of X5)) (qB X3 0) (i 2).val := by
    rw [readAt_blk pos_a]; exact k13 0
  have r13_1 : arg13.view.readAt (Elt F) (Rect.unit (s := S2048x256) ![512, 0] S512x256.size inb_S2048x256_S512x256_512_0).toLoadRect g13 = aSt (kB X4) (vB (v1Of X5)) (qB X3 1) (i 2).val := by
    rw [readAt_blk pos_a]; exact k13 1
  have r13_2 : arg13.view.readAt (Elt F) (Rect.unit (s := S2048x256) ![1024, 0] S512x256.size inb_S2048x256_S512x256_1024_0).toLoadRect g13 = aSt (kB X4) (vB (v1Of X5)) (qB X3 2) (i 2).val := by
    rw [readAt_blk pos_a]; exact k13 2
  have r13_3 : arg13.view.readAt (Elt F) (Rect.unit (s := S2048x256) ![1536, 0] S512x256.size inb_S2048x256_S512x256_1536_0).toLoadRect g13 = aSt (kB X4) (vB (v1Of X5)) (qB X3 3) (i 2).val := by
    rw [readAt_blk pos_a]; exact k13 3
  sl_exec (disch := first | sl_exact hc | sl_exact hc3)
  sl_step
  clear r10_0 r10_1 r10_2 r10_3 r12_0 r12_1 r12_2 r12_3 r13_0 r13_1 r13_2 r13_3 r11d
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; rotate_left
    · iexact H9
    ipureintro
    refine out_writes arg9.view _ _ _ _ _ _ _ _ _ ?_ ?_ []
    · sl_open_run
      refine out0_congr _ _ _ _ _ _ _ _ _ ?_ ?_ ?_ ?_
      · exact (half_cov arg13.view 0 0 rfl (by decide) _ _ _ _ _ _ _ _ _ []).trans rfl
      · exact (half_cov arg13.view 0 1 rfl (by decide) _ _ _ _ _ _ _ _ _ []).trans rfl
      · exact (half_cov arg13.view 1 0 rfl (by decide) _ _ _ _ _ _ _ _ _ []).trans rfl
      · exact (half_cov arg13.view 1 1 rfl (by decide) _ _ _ _ _ _ _ _ _ []).trans rfl
    · sl_open_run
      refine out1_congr _ _ _ _ _ _ _ _ _ ?_ ?_ ?_ ?_
      · exact (half_cov arg13.view 2 0 rfl (by decide) _ _ _ _ _ _ _ _ _ []).trans rfl
      · exact (half_cov arg13.view 2 1 rfl (by decide) _ _ _ _ _ _ _ _ _ []).trans rfl
      · exact (half_cov arg13.view 3 0 rfl (by decide) _ _ _ _ _ _ _ _ _ []).trans rfl
      · exact (half_cov arg13.view 3 1 rfl (by decide) _ _ _ _ _ _ _ _ _ []).trans rfl
  isplitl [H10]; · iexists _; iexact H10
  isplitl [H11]
  · iexists _; isplitr; rotate_left
    · iexact H11
    ipureintro; exact k11
  isplitl [H12]; · iexists _; iexact H12
  isplitl [H13]; · iexists _; iexact H13
  isplitl [H14]; · iexists _; iexact H14
  iexists _; iexact H15

end Cert.KernelIdeal.Attn
-- ==== Proof.Attn.Trip.lean ====
module

public import proofs.«01_k».proof.Proof.Gen.KernelIdeal.Frame
public import proofs.«01_k».proof.Proof.Attn.Model
public import Idealize.ShloMosaic.Lib.LoopRemainder

@[expose] public section

set_option maxRecDepth 8192
set_option maxHeartbeats 4000000

noncomputable section

namespace Cert.KernelIdeal.Attn

open Cert.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

variable (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x256 .bf16) (harg9 : arg9.IsWhole) (arg10 : Memref sig .tc .vmem S2048x128 .bf16) (harg10 : arg10.IsWhole) (arg11 : Memref sig .tc .vmem S4096x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x512 .bf16) (harg14 : arg14.IsWhole) (arg15 : Memref sig .tc .vmem S2048x128 .f32) (harg15 : arg15.IsWhole)

/-- One trip of the loop over the earlier key blocks takes each of the four running states one key block further. -/
theorem trip (𝒱 : Variants) (c : Dev nD) (bd : Option 𝒱.V) (E : Set ℕ) (i : grid0.Coords) (v52 v69 : BitVec 32) (k : Fin (k0_t1_loop i).trips)
    (X4 : Vec F S1x4096x128 .bf16) (X11 : Vec F S4096x256 .bf16) (Q : Fin 4 → Vec F S512x128 .bf16)
    (f4 : BufTy.Contents (Elt F) arg4.view.ty) (f10 : BufTy.Contents (Elt F) arg10.view.ty) (f11 : BufTy.Contents (Elt F) arg11.view.ty)
    (f12 : BufTy.Contents (Elt F) arg12.view.ty) (f13 : BufTy.Contents (Elt F) arg13.view.ty) (f14 : BufTy.Contents (Elt F) arg14.view.ty) (f15 : BufTy.Contents (Elt F) arg15.view.ty)
    (h4 : arg4.view.read (Elt F) f4 = X4) (h11 : arg11.view.read (Elt F) f11 = X11) (h10 : Rows pos_m (arg10.view.read (Elt F) f10) Q)
    (h12 : Rows pos_m (arg12.view.read (Elt F) f12) (fun b => mSt (kB X4) (Q b) (k.val + 1)))
    (h13 : Rows pos_a (arg13.view.read (Elt F) f13) (fun b => aSt (kB X4) (vB X11) (Q b) k.val))
    (h14 : Rows pos_p (arg14.view.read (Elt F) f14) (fun b => pSt (kB X4) (Q b) k.val))
    (h15 : Rows pos_m (arg15.view.read (Elt F) f15) (fun b => lSt (kB X4) (Q b) k.val)) :
    (iprop((arg4.view.loc (c : Thread nD τ) ↦[arg4.view.set]{fullShare} f4) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
    ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15 v52 v69 k PUnit.unit)
        (fun _ => iprop((arg4.view.loc (c : Thread nD τ) ↦[arg4.view.set]{fullShare} f4) ∗ (arg10.view.loc (c : Thread nD τ) ↦[arg10.view.set]{fullShare} f10) ∗ (arg11.view.loc (c : Thread nD τ) ↦[arg11.view.set]{fullShare} f11)
          ∗ (∃ f, ⌜Rows pos_m (arg12.view.read (Elt F) f) (fun b => mSt (kB X4) (Q b) (k.val + 1 + 1))⌝ ∗ (arg12.view.loc (c : Thread nD τ) ↦[arg12.view.set]{fullShare} f))
          ∗ (∃ f, ⌜Rows pos_a (arg13.view.read (Elt F) f) (fun b => aSt (kB X4) (vB X11) (Q b) (k.val + 1))⌝ ∗ (arg13.view.loc (c : Thread nD τ) ↦[arg13.view.set]{fullShare} f))
          ∗ (∃ f, ⌜Rows pos_p (arg14.view.read (Elt F) f) (fun b => pSt (kB X4) (Q b) (k.val + 1))⌝ ∗ (arg14.view.loc (c : Thread nD τ) ↦[arg14.view.set]{fullShare} f))
          ∗ (∃ f, ⌜Rows pos_m (arg15.view.read (Elt F) f) (fun b => lSt (kB X4) (Q b) (k.val + 1))⌝ ∗ (arg15.view.loc (c : Thread nD τ) ↦[arg15.view.set]{fullShare} f)))) := by
  have hK : arg4.view.readAt (Elt F) (Rect.unit (s := S1x4096x128) (k0_off1 i k) S1x512x128.size (k0_off1_inb i k)).toLoadRect f4 = kB X4 (k.val + 1) := by
    rw [readAt_blk pos_k, h4]; exact congrArg (fun o => blk pos_k o S1x512x128.size X4) (off1_eq i k)
  have hV : arg11.view.readAt (Elt F) (Rect.unit (s := S4096x256) (k0_off2 i k) S512x256.size (k0_off2_inb i k)).toLoadRect f11 = vB X11 k.val := by
    rw [readAt_blk pos_v1, h11]; exact congrArg (fun o => blk pos_v1 o S512x256.size X11) (off2_eq i k)
  have r10_0 : arg10.view.readAt (Elt F) (Rect.unit (s := S2048x128) ![0, 0] S512x128.size inb_S2048x128_S512x128_0_0).toLoadRect f10 = Q 0 := by
    rw [readAt_blk pos_m]; exact h10 0
  have r12_0 : arg12.view.readAt (Elt F) (Rect.unit (s := S2048x128) ![0, 0] S512x128.size inb_S2048x128_S512x128_0_0).toLoadRect f12 = mSt (kB X4) (Q 0) (k.val + 1) := by
    rw [readAt_blk pos_m]; exact h12 0
  have r13_0 : arg13.view.readAt (Elt F) (Rect.unit (s := S2048x256) ![0, 0] S512x256.size inb_S2048x256_S512x256_0_0).toLoadRect f13 = aSt (kB X4) (vB X11) (Q 0) k.val := by
    rw [readAt_blk pos_a]; exact h13 0
  have r14_0 : arg14.view.readAt (Elt F) (Rect.unit (s := S2048x512) ![0, 0] S512x512.size inb_S2048x512_S512x512_0_0).toLoadRect f14 = pSt (kB X4) (Q 0) k.val := by
    rw [readAt_blk pos_p]; exact h14 0
  have r15_0 : arg15.view.readAt (Elt F) (Rect.unit (s := S2048x128) ![0, 0] S512x128.size inb_S2048x128_S512x128_0_0).toLoadRect f15 = lSt (kB X4) (Q 0) k.val := by
    rw [readAt_blk pos_m]; exact h15 0
  have r10_1 : arg10.view.readAt (Elt F) (Rect.unit (s := S2048x128) ![512, 0] S512x128.size inb_S2048x128_S512x128_512_0).toLoadRect f10 = Q 1 := by
    rw [readAt_blk pos_m]; exact h10 1
  have r12_1 : arg12.view.readAt (Elt F) (Rect.unit (s := S2048x128) ![512, 0] S512x128.size inb_S2048x128_S512x128_512_0).toLoadRect f12 = mSt (kB X4) (Q 1) (k.val + 1) := by
    rw [readAt_blk pos_m]; exact h12 1
  have r13_1 : arg13.view.readAt (Elt F) (Rect.unit (s := S2048x256) ![512, 0] S512x256.size inb_S2048x256_S512x256_512_0).toLoadRect f13 = aSt (kB X4) (vB X11) (Q 1) k.val := by
    rw [readAt_blk pos_a]; exact h13 1
  have r14_1 : arg14.view.readAt (Elt F) (Rect.unit (s := S2048x512) ![512, 0] S512x512.size inb_S2048x512_S512x512_512_0).toLoadRect f14 = pSt (kB X4) (Q 1) k.val := by
    rw [readAt_blk pos_p]; exact h14 1
  have r15_1 : arg15.view.readAt (Elt F) (Rect.unit (s := S2048x128) ![512, 0] S512x128.size inb_S2048x128_S512x128_512_0).toLoadRect f15 = lSt (kB X4) (Q 1) k.val := by
    rw [readAt_blk pos_m]; exact h15 1
  have r10_2 : arg10.view.readAt (Elt F) (Rect.unit (s := S2048x128) ![1024, 0] S512x128.size inb_S2048x128_S512x128_1024_0).toLoadRect f10 = Q 2 := by
    rw [readAt_blk pos_m]; exact h10 2
  have r12_2 : arg12.view.readAt (Elt F) (Rect.unit (s := S2048x128) ![1024, 0] S512x128.size inb_S2048x128_S512x128_1024_0).toLoadRect f12 = mSt (kB X4) (Q 2) (k.val + 1) := by
    rw [readAt_blk pos_m]; exact h12 2
  have r13_2 : arg13.view.readAt (Elt F) (Rect.unit (s := S2048x256) ![1024, 0] S512x256.size inb_S2048x256_S512x256_1024_0).toLoadRect f13 = aSt (kB X4) (vB X11) (Q 2) k.val := by
    rw [readAt_blk pos_a]; exact h13 2
  have r14_2 : arg14.view.readAt (Elt F) (Rect.unit (s := S2048x512) ![1024, 0] S512x512.size inb_S2048x512_S512x512_1024_0).toLoadRect f14 = pSt (kB X4) (Q 2) k.val := by
    rw [readAt_blk pos_p]; exact h14 2
  have r15_2 : arg15.view.readAt (Elt F) (Rect.unit (s := S2048x128) ![1024, 0] S512x128.size inb_S2048x128_S512x128_1024_0).toLoadRect f15 = lSt (kB X4) (Q 2) k.val := by
    rw [readAt_blk pos_m]; exact h15 2
  have r10_3 : arg10.view.readAt (Elt F) (Rect.unit (s := S2048x128) ![1536, 0] S512x128.size inb_S2048x128_S512x128_1536_0).toLoadRect f10 = Q 3 := by
    rw [readAt_blk pos_m]; exact h10 3
  have r12_3 : arg12.view.readAt (Elt F) (Rect.unit (s := S2048x128) ![1536, 0] S512x128.size inb_S2048x128_S512x128_1536_0).toLoadRect f12 = mSt (kB X4) (Q 3) (k.val + 1) := by
    rw [readAt_blk pos_m]; exact h12 3
  have r13_3 : arg13.view.readAt (Elt F) (Rect.unit (s := S2048x256) ![1536, 0] S512x256.size inb_S2048x256_S512x256_1536_0).toLoadRect f13 = aSt (kB X4) (vB X11) (Q 3) k.val := by
    rw [readAt_blk pos_a]; exact h13 3
  have r14_3 : arg14.view.readAt (Elt F) (Rect.unit (s := S2048x512) ![1536, 0] S512x512.size inb_S2048x512_S512x512_1536_0).toLoadRect f14 = pSt (kB X4) (Q 3) k.val := by
    rw [readAt_blk pos_p]; exact h14 3
  have r15_3 : arg15.view.readAt (Elt F) (Rect.unit (s := S2048x128) ![1536, 0] S512x128.size inb_S2048x128_S512x128_1536_0).toLoadRect f15 = lSt (kB X4) (Q 3) k.val := by
    rw [readAt_blk pos_m]; exact h15 3
  unfold k0_t1_body
  iintro ⟨H4, H10, H11, H12, H13, H14, H15⟩
  sl_exec
  sl_step
  clear r10_0 r10_1 r10_2 r10_3 r12_0 r12_1 r12_2 r12_3 r13_0 r13_1 r13_2 r13_3 r14_0 r14_1 r14_2 r14_3 r15_0 r15_1 r15_2 r15_3 h4 h11 h10 h12 h13 h14 h15 hK hV
  isplitl [H4]; · iexact H4
  isplitl [H10]; · iexact H10
  isplitl [H11]; · iexact H11
  isplitl [H12]
  · iexists _
    isplitr
    rotate_left
    · iexact H12
    · ipureintro
      intro b
      refine (rows_writes pos_m arg12.view f12 _ _ _ _ _ _ _ _ [] b).trans ?_
      match b with
      | 0 => rfl
      | 1 => rfl
      | 2 => rfl
      | 3 => rfl
  isplitl [H13]
  · iexists _
    isplitr
    rotate_left
    · iexact H13
    · ipureintro
      intro b
      refine (rows_writes pos_a arg13.view f13 _ _ _ _ _ _ _ _ [] b).trans ?_
      match b with
      | 0 => rfl
      | 1 => rfl
      | 2 => rfl
      | 3 => rfl
  isplitl [H14]
  · iexists _
    isplitr
    rotate_left
    · iexact H14
    · ipureintro
      intro b
      refine (rows_writes pos_p arg14.view f14 _ _ _ _ _ _ _ _ [] b).trans ?_
      match b with
      | 0 => rfl
      | 1 => rfl
      | 2 => rfl
      | 3 => rfl
  iexists _
  isplitr
  rotate_left
  · iexact H15
  · ipureintro
    intro b
    refine (rows_writes pos_m arg15.view f15 _ _ _ _ _ _ _ _ [] b).trans ?_
    match b with
    | 0 => rfl
    | 1 => rfl
    | 2 => rfl
    | 3 => rfl

end Cert.KernelIdeal.Attn
-- ==== Proof.Attn.Later.lean ====
module

public import proofs.«01_k».proof.Proof.Gen.KernelIdeal.Frame
public import proofs.«01_k».proof.Proof.Attn.Model
public import Idealize.ShloMosaic.Lib.LoopRemainder
public import proofs.«01_k».proof.Proof.Attn.Trip
public import proofs.«01_k».proof.Proof.Attn.Head
public import Idealize.ShloMosaic.Lib.Tactic.Stretches

@[expose] public section

set_option maxRecDepth 8192
set_option maxHeartbeats 4000000

noncomputable section

namespace Cert.KernelIdeal.Attn

open Cert.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

variable (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x256 .bf16) (harg9 : arg9.IsWhole) (arg10 : Memref sig .tc .vmem S2048x128 .bf16) (harg10 : arg10.IsWhole) (arg11 : Memref sig .tc .vmem S4096x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x512 .bf16) (harg14 : arg14.IsWhole) (arg15 : Memref sig .tc .vmem S2048x128 .f32) (harg15 : arg15.IsWhole)

section Whole
variable {sig : RefSig} {κ : Kind} {sp : Space}

/-- Block 0 read back after the four blocks were stored, -/
theorem full_cov0 (v : View sig κ sp S2048x256 .f32) (inb : ∀ a : Fin 2, (![0, 0] : Fin 2 → ℕ) a + S512x256.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 : Vec F S512x256 .f32) (L : List (View.Piece (Elt F) S2048x256 .f32)) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![0, 0] S512x256.size inb).toLoadRect = w0 :=
  (readAt_blk pos_a v _ inb).trans (rows_writes pos_a v v.junk i0 i1 i2 i3 w0 w1 w2 w3 L 0)

/-- and its columns 0 to 127. -/
theorem half_cov00 (v : View sig κ sp S2048x256 .f32) (inb : ∀ a : Fin 2, (![0, 0] : Fin 2 → ℕ) a + S512x128.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 A : Vec F S512x256 .f32) (L : List (View.Piece (Elt F) S2048x256 .f32)) (h : w0 = A) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![0, 0] S512x128.size inb).toLoadRect = numer A :=
  (half_cov v 0 0 rfl (by decide) inb i0 i1 i2 i3 w0 w1 w2 w3 L).trans (congrArg numer h)

/-- and its columns 128 to 255. -/
theorem half_cov01 (v : View sig κ sp S2048x256 .f32) (inb : ∀ a : Fin 2, (![0, 128] : Fin 2 → ℕ) a + S512x128.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 A : Vec F S512x256 .f32) (L : List (View.Piece (Elt F) S2048x256 .f32)) (h : w0 = A) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![0, 128] S512x128.size inb).toLoadRect = denom A :=
  (half_cov v 0 1 rfl (by decide) inb i0 i1 i2 i3 w0 w1 w2 w3 L).trans (congrArg denom h)

/-- Block 1 read back after the four blocks were stored, -/
theorem full_cov1 (v : View sig κ sp S2048x256 .f32) (inb : ∀ a : Fin 2, (![512, 0] : Fin 2 → ℕ) a + S512x256.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 : Vec F S512x256 .f32) (L : List (View.Piece (Elt F) S2048x256 .f32)) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![512, 0] S512x256.size inb).toLoadRect = w1 :=
  (readAt_blk pos_a v _ inb).trans (rows_writes pos_a v v.junk i0 i1 i2 i3 w0 w1 w2 w3 L 1)

/-- and its columns 0 to 127. -/
theorem half_cov10 (v : View sig κ sp S2048x256 .f32) (inb : ∀ a : Fin 2, (![512, 0] : Fin 2 → ℕ) a + S512x128.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 A : Vec F S512x256 .f32) (L : List (View.Piece (Elt F) S2048x256 .f32)) (h : w1 = A) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![512, 0] S512x128.size inb).toLoadRect = numer A :=
  (half_cov v 1 0 rfl (by decide) inb i0 i1 i2 i3 w0 w1 w2 w3 L).trans (congrArg numer h)

/-- and its columns 128 to 255. -/
theorem half_cov11 (v : View sig κ sp S2048x256 .f32) (inb : ∀ a : Fin 2, (![512, 128] : Fin 2 → ℕ) a + S512x128.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 A : Vec F S512x256 .f32) (L : List (View.Piece (Elt F) S2048x256 .f32)) (h : w1 = A) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![512, 128] S512x128.size inb).toLoadRect = denom A :=
  (half_cov v 1 1 rfl (by decide) inb i0 i1 i2 i3 w0 w1 w2 w3 L).trans (congrArg denom h)

/-- Block 2 read back after the four blocks were stored, -/
theorem full_cov2 (v : View sig κ sp S2048x256 .f32) (inb : ∀ a : Fin 2, (![1024, 0] : Fin 2 → ℕ) a + S512x256.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 : Vec F S512x256 .f32) (L : List (View.Piece (Elt F) S2048x256 .f32)) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![1024, 0] S512x256.size inb).toLoadRect = w2 :=
  (readAt_blk pos_a v _ inb).trans (rows_writes pos_a v v.junk i0 i1 i2 i3 w0 w1 w2 w3 L 2)

/-- and its columns 0 to 127. -/
theorem half_cov20 (v : View sig κ sp S2048x256 .f32) (inb : ∀ a : Fin 2, (![1024, 0] : Fin 2 → ℕ) a + S512x128.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 A : Vec F S512x256 .f32) (L : List (View.Piece (Elt F) S2048x256 .f32)) (h : w2 = A) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![1024, 0] S512x128.size inb).toLoadRect = numer A :=
  (half_cov v 2 0 rfl (by decide) inb i0 i1 i2 i3 w0 w1 w2 w3 L).trans (congrArg numer h)

/-- and its columns 128 to 255. -/
theorem half_cov21 (v : View sig κ sp S2048x256 .f32) (inb : ∀ a : Fin 2, (![1024, 128] : Fin 2 → ℕ) a + S512x128.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 A : Vec F S512x256 .f32) (L : List (View.Piece (Elt F) S2048x256 .f32)) (h : w2 = A) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![1024, 128] S512x128.size inb).toLoadRect = denom A :=
  (half_cov v 2 1 rfl (by decide) inb i0 i1 i2 i3 w0 w1 w2 w3 L).trans (congrArg denom h)

/-- Block 3 read back after the four blocks were stored, -/
theorem full_cov3 (v : View sig κ sp S2048x256 .f32) (inb : ∀ a : Fin 2, (![1536, 0] : Fin 2 → ℕ) a + S512x256.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 : Vec F S512x256 .f32) (L : List (View.Piece (Elt F) S2048x256 .f32)) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![1536, 0] S512x256.size inb).toLoadRect = w3 :=
  (readAt_blk pos_a v _ inb).trans (rows_writes pos_a v v.junk i0 i1 i2 i3 w0 w1 w2 w3 L 3)

/-- and its columns 0 to 127. -/
theorem half_cov30 (v : View sig κ sp S2048x256 .f32) (inb : ∀ a : Fin 2, (![1536, 0] : Fin 2 → ℕ) a + S512x128.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 A : Vec F S512x256 .f32) (L : List (View.Piece (Elt F) S2048x256 .f32)) (h : w3 = A) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![1536, 0] S512x128.size inb).toLoadRect = numer A :=
  (half_cov v 3 0 rfl (by decide) inb i0 i1 i2 i3 w0 w1 w2 w3 L).trans (congrArg numer h)

/-- and its columns 128 to 255. -/
theorem half_cov31 (v : View sig κ sp S2048x256 .f32) (inb : ∀ a : Fin 2, (![1536, 128] : Fin 2 → ℕ) a + S512x128.size a ≤ S2048x256.size a)
    (i0 : ∀ a : Fin 2, (![0, 0] : Fin 2 → ℕ) a + S512x256.size a ≤ S2048x256.size a)
    (i1 : ∀ a : Fin 2, (![512, 0] : Fin 2 → ℕ) a + S512x256.size a ≤ S2048x256.size a)
    (i2 : ∀ a : Fin 2, (![1024, 0] : Fin 2 → ℕ) a + S512x256.size a ≤ S2048x256.size a)
    (i3 : ∀ a : Fin 2, (![1536, 0] : Fin 2 → ℕ) a + S512x256.size a ≤ S2048x256.size a)
    (w0 w1 w2 w3 A : Vec F S512x256 .f32) (L : List (View.Piece (Elt F) S2048x256 .f32)) (h : w3 = A) :
    v.readCov (Val := Elt F) ((⟨Rect.unit (s := S2048x256) ![1536, 0] S512x256.size i3, w3⟩ : View.Piece (Elt F) S2048x256 .f32)
        :: (⟨Rect.unit (s := S2048x256) ![1024, 0] S512x256.size i2, w2⟩ : View.Piece (Elt F) S2048x256 .f32)
        :: (⟨Rect.unit (s := S2048x256) ![512, 0] S512x256.size i1, w1⟩ : View.Piece (Elt F) S2048x256 .f32)
        :: (⟨Rect.unit (s := S2048x256) ![0, 0] S512x256.size i0, w0⟩ : View.Piece (Elt F) S2048x256 .f32) :: L)
      (Rect.unit (s := S2048x256) ![1536, 128] S512x128.size inb).toLoadRect = denom A :=
  (half_cov v 3 1 rfl (by decide) inb i0 i1 i2 i3 w0 w1 w2 w3 L).trans (congrArg denom h)

/-- A store to other rows does not show. -/
theorem skip_cov (v : View sig κ sp S2048x256 .f32) (a b : ℕ) (hab : b + 512 ≤ a ∨ a + 512 ≤ b)
    (ib : ∀ x : Fin 2, (![b, 0] : Fin 2 → ℕ) x + S512x256.size x ≤ S2048x256.size x)
    (ia : ∀ x : Fin 2, (![a, 0] : Fin 2 → ℕ) x + S512x256.size x ≤ S2048x256.size x)
    (w : Vec F S512x256 .f32) (L : List (View.Piece (Elt F) S2048x256 .f32)) :
    v.readCov (Val := Elt F) ((⟨Rect.unit (s := S2048x256) ![a, 0] S512x256.size ia, w⟩ : View.Piece (Elt F) S2048x256 .f32) :: L)
      (Rect.unit (s := S2048x256) ![b, 0] S512x256.size ib).toLoadRect
      = v.readCov (Val := Elt F) L (Rect.unit (s := S2048x256) ![b, 0] S512x256.size ib).toLoadRect := by
  refine (readAt_blk pos_a v _ ib).trans (Eq.trans (funext fun y => ?_) (readAt_blk pos_a v _ ib).symm)
  have hy0 : (y 0).val < 512 := (y 0).isLt
  have hb : b + 512 ≤ 2048 := ib 0
  refine View.read_writes_cons_rows_of_not_mem v v.junk ia _ _ _ rfl rfl ?_
  show (b + (y 0).val) % 2048 < a ∨ a + 512 ≤ (b + (y 0).val) % 2048
  omega

end Whole

/-- Block 0's own-tile step is the one step of the model. -/
theorem diag0 (K : Vec F S1x512x128 .bf16) (W : Vec F S512x256 .bf16) (Q : Vec F S512x128 .bf16) (M : Vec F S512x128 .f32) (A A' : Vec F S512x256 .f32) (h : A = A') :
    k0_pay102 (k0_pay100 K Q M) (k0_pay101 K W Q M) A = k0_pay102 (k0_pay100 K Q M) (k0_pay101 K W Q M) A' := by subst h; rfl

/-- Block 1's own-tile step is the one step of the model. -/
theorem diag1 (K : Vec F S1x512x128 .bf16) (W : Vec F S512x256 .bf16) (Q : Vec F S512x128 .bf16) (M : Vec F S512x128 .f32) (A A' : Vec F S512x256 .f32) (h : A = A') :
    k0_pay106 (k0_pay96 K) W k0_pay97 Q M A = k0_pay102 (k0_pay100 K Q M) (k0_pay101 K W Q M) A' := by subst h; rfl

/-- Block 2's own-tile step is the one step of the model. -/
theorem diag2 (K : Vec F S1x512x128 .bf16) (W : Vec F S512x256 .bf16) (Q : Vec F S512x128 .bf16) (M : Vec F S512x128 .f32) (A A' : Vec F S512x256 .f32) (h : A = A') :
    k0_pay110 (k0_pay96 K) W k0_pay97 Q M A = k0_pay102 (k0_pay100 K Q M) (k0_pay101 K W Q M) A' := by subst h; rfl

/-- Block 3's own-tile step is the one step of the model. -/
theorem diag3 (K : Vec F S1x512x128 .bf16) (W : Vec F S512x256 .bf16) (Q : Vec F S512x128 .bf16) (M : Vec F S512x128 .f32) (A A' : Vec F S512x256 .f32) (h : A = A') :
    k0_pay115 W M (k0_pay113 (k0_pay96 K) k0_pay97 Q M) (k0_pay114 (k0_pay96 K) k0_pay97 Q M) A = k0_pay102 (k0_pay100 K Q M) (k0_pay101 K W Q M) A' := by subst h; rfl

/-- A later tile of a head. -/
theorem body_later (𝒱 : Variants) (c : Dev nD) (bd : Option 𝒱.V) (E : Set ℕ) (i : grid0.Coords) (hi : (i 2).val ≠ 0)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (X3 : Vec F S1x512x256 .bf16) (X4 : Vec F S1x4096x128 .bf16) (X5 : Vec F S1x4096x128 .bf16) (X6 : Vec F S1x512x256 .bf16) (X7 : Vec F S4x64 .f32) (X8 : Vec F S1x128 .f32)
    (h3 : arg3.view.read (Elt F) f3 = X3) (h4 : arg4.view.read (Elt F) f4 = X4) (h5 : arg5.view.read (Elt F) f5 = X5) (h6 : arg6.view.read (Elt F) f6 = X6) (h7 : arg7.view.read (Elt F) f7 = X7) (h8 : arg8.view.read (Elt F) f8 = X8) (h11 : (i 2).val ≠ 0 → arg11.view.read (Elt F) f11 = v1Of X5) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
    ⊢ wp frame (wpE (defs₀ (F := F)) 𝒱 (c : Thread nD τ) bd) E (cc0_attn_prompt (F := F) i arg3 harg3 arg4 harg4 arg5 harg5 arg6 harg6 arg7 harg7 arg8 harg8 arg9 harg9 arg10 harg10 arg11 harg11 arg12 harg12 arg13 harg13 arg14 harg14 arg15 harg15)
        (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, ⌜arg9.view.read (Elt F) f = outB (fun b => aFin (kB X4) (vB (v1Of X5)) (qB X3 b) (i 2).val) X6 X7 X8⌝ ∗ (arg9.view.loc (c : Thread nD τ) ↦[arg9.view.set]{fullShare} f)) ∗ (∃ f, (arg10.view.loc (c : Thread nD τ) ↦[arg10.view.set]{fullShare} f)) ∗ (∃ f, ⌜arg11.view.read (Elt F) f = v1Of X5⌝ ∗ (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) := by
  have r6_0 : arg6.view.readAt (Elt F) (Rect.unit (s := S1x512x256) ![0, 0, 0] S1x512x128.size inb_S1x512x256_S1x512x128_0_0_0).toLoadRect f6 = qH X6 0 := by
    rw [readAt_blk pos_q, h6]; rfl
  have r6_1 : arg6.view.readAt (Elt F) (Rect.unit (s := S1x512x256) ![0, 0, 128] S1x512x128.size inb_S1x512x256_S1x512x128_0_0_128).toLoadRect f6 = qH X6 1 := by
    rw [readAt_blk pos_q, h6]; rfl
  have r7 : arg7.view.readAt (Elt F) (Rect.unit (s := S4x64) ![0, 0] S4x64.size inb_S4x64_S4x64_0_0).toLoadRect f7 = X7 := by
    rw [View.readAt_full, h7]
  have r8 : arg8.view.readAt (Elt F) (Rect.unit (s := S1x128) ![0, 0] S1x128.size inb_S1x128_S1x128_0_0).toLoadRect f8 = X8 := by
    rw [View.readAt_full, h8]
  have r4d : arg4.view.readAt (Elt F) (Rect.unit (s := S1x4096x128) (k0_off6 i) S1x512x128.size (k0_off6_inb i)).toLoadRect f4 = kB X4 (i 2).val := by
    rw [readAt_blk pos_k, h4]; exact congrArg (fun o => blk pos_k o S1x512x128.size X4) (off6_eq i)
  have r4z : arg4.view.readAt (Elt F) (Rect.unit (s := S1x4096x128) ![0, 0, 0] S1x512x128.size inb_S1x4096x128_S1x512x128_0_0_0).toLoadRect f4 = kB X4 0 := by
    rw [readAt_blk pos_k, h4]; rfl
  simp only [cc0_attn_prompt_eq_skeleton]; unfold cc0_attn_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  rw [wp_bind]
  simp only [wp_bind _ _ _ (k0_part13_skel _ _ _ _ _ _ _ _ _ _ _ _ _ _ _ _ _ _ _ _ _ _ _ _ _ _ _ _ _ _ _)]
  rw [← wp_bind]
  refine (head_any arg3 harg3 arg4 harg4 arg5 harg5 arg6 harg6 arg7 harg7 arg8 harg8 arg9 harg9 arg10 harg10 arg11 harg11 arg12 harg12 arg13 harg13 arg14 harg14 arg15 harg15 𝒱 c bd E i f3 f4 f5 f6 f7 f8 f9 f10 f11 f12 f13 f14 f15 X3 X5 h3 h5 h11).trans (wp_mono _ _ _ fun y => ?_)
  iintro ⟨%hy, H3, H4, H5, H6, H7, H8, H9, ⟨%g10, %k10, H10⟩, ⟨%g11, %k11, H11⟩, ⟨%g12, %k12, H12⟩, ⟨%g13, %k13, H13⟩, H14, H15⟩
  have hc : Scalar.cmpi .ne (Scalar.extui (Scalar.cmpi .sgt y.2 0#32) : BitVec 32) 0#32 = 1#1 := hy.2 hi
  have hc3 : k0_cond3 i = 1#1 := (cond3_eq i).2 hi
  have r11d : arg11.view.readAt (Elt F) (Rect.unit (s := S4096x256) (k0_off7 i) S512x256.size (k0_off7_inb i)).toLoadRect g11 = vB (v1Of X5) (i 2).val := by
    rw [readAt_blk pos_v1, k11]; exact congrArg (fun o => blk pos_v1 o S512x256.size (v1Of X5)) (off7_eq i)
  have r10_0 : arg10.view.readAt (Elt F) (Rect.unit (s := S2048x128) ![0, 0] S512x128.size inb_S2048x128_S512x128_0_0).toLoadRect g10 = qB X3 0 := by
    rw [readAt_blk pos_m]; exact k10 0
  have r10_1 : arg10.view.readAt (Elt F) (Rect.unit (s := S2048x128) ![512, 0] S512x128.size inb_S2048x128_S512x128_512_0).toLoadRect g10 = qB X3 1 := by
    rw [readAt_blk pos_m]; exact k10 1
  have r10_2 : arg10.view.readAt (Elt F) (Rect.unit (s := S2048x128) ![1024, 0] S512x128.size inb_S2048x128_S512x128_1024_0).toLoadRect g10 = qB X3 2 := by
    rw [readAt_blk pos_m]; exact k10 2
  have r10_3 : arg10.view.readAt (Elt F) (Rect.unit (s := S2048x128) ![1536, 0] S512x128.size inb_S2048x128_S512x128_1536_0).toLoadRect g10 = qB X3 3 := by
    rw [readAt_blk pos_m]; exact k10 3
  have r12_0 : arg12.view.readAt (Elt F) (Rect.unit (s := S2048x128) ![0, 0] S512x128.size inb_S2048x128_S512x128_0_0).toLoadRect g12 = mInit := by
    rw [readAt_blk pos_m]; exact k12 0
  have r12_1 : arg12.view.readAt (Elt F) (Rect.unit (s := S2048x128) ![512, 0] S512x128.size inb_S2048x128_S512x128_512_0).toLoadRect g12 = mInit := by
    rw [readAt_blk pos_m]; exact k12 1
  have r12_2 : arg12.view.readAt (Elt F) (Rect.unit (s := S2048x128) ![1024, 0] S512x128.size inb_S2048x128_S512x128_1024_0).toLoadRect g12 = mInit := by
    rw [readAt_blk pos_m]; exact k12 2
  have r12_3 : arg12.view.readAt (Elt F) (Rect.unit (s := S2048x128) ![1536, 0] S512x128.size inb_S2048x128_S512x128_1536_0).toLoadRect g12 = mInit := by
    rw [readAt_blk pos_m]; exact k12 3
  sl_exec (disch := first | sl_exact hc | sl_exact hc3)
  sl_for (fun (k : ℕ) (_ : PUnit) => (iprop((arg4.view.loc (c : Thread nD τ) ↦[arg4.view.set]{fullShare} f4) ∗ (arg10.view.loc (c : Thread nD τ) ↦[arg10.view.set]{fullShare} g10) ∗ (arg11.view.loc (c : Thread nD τ) ↦[arg11.view.set]{fullShare} g11)
      ∗ (∃ f, ⌜Rows pos_m (arg12.view.read (Elt F) f) (fun b => mSt (kB X4) (qB X3 b) (k + 1))⌝ ∗ (arg12.view.loc (c : Thread nD τ) ↦[arg12.view.set]{fullShare} f))
      ∗ (∃ f, ⌜Rows pos_a (arg13.view.read (Elt F) f) (fun b => aSt (kB X4) (vB (v1Of X5)) (qB X3 b) k)⌝ ∗ (arg13.view.loc (c : Thread nD τ) ↦[arg13.view.set]{fullShare} f))
      ∗ (∃ f, ⌜Rows pos_p (arg14.view.read (Elt F) f) (fun b => pSt (kB X4) (qB X3 b) k)⌝ ∗ (arg14.view.loc (c : Thread nD τ) ↦[arg14.view.set]{fullShare} f))
      ∗ (∃ f, ⌜Rows pos_m (arg15.view.read (Elt F) f) (fun b => lSt (kB X4) (qB X3 b) k)⌝ ∗ (arg15.view.loc (c : Thread nD τ) ↦[arg15.view.set]{fullShare} f))) : sProp 𝕄)) $$ [H4 H10 H11 H12 H13 H14 H15]
  case region =>
    intro k a
    iintro ⟨H4, H10, H11, ⟨%e12, %k12, H12⟩, ⟨%e13, %k13, H13⟩, ⟨%e14, %k14, H14⟩, ⟨%e15, %k15, H15⟩⟩
    iapply (trip arg3 harg3 arg4 harg4 arg5 harg5 arg6 harg6 arg7 harg7 arg8 harg8 arg9 harg9 arg10 harg10 arg11 harg11 arg12 harg12 arg13 harg13 arg14 harg14 arg15 harg15 𝒱 c bd E i _ _ k X4 (v1Of X5) (qB X3) f4 g10 g11 e12 e13 e14 e15 h4 k11 k10 k12 k13 k14 k15) $$ [H4 H10 H11 H12 H13 H14 H15]
    isplitl [H4]; · iexact H4
    isplitl [H10]; · iexact H10
    isplitl [H11]; · iexact H11
    isplitl [H12]; · iexact H12
    isplitl [H13]; · iexact H13
    isplitl [H14]; · iexact H14
    iexact H15
  · isplitl [H4]; · iexact H4
    isplitl [H10]; · iexact H10
    isplitl [H11]; · iexact H11
    isplitl [H12]
    · iexists _; isplitr; rotate_left
      · iexact H12
      ipureintro
      intro b
      refine (rows_writes pos_m arg12.view _ _ _ _ _ _ _ _ _ _ b).trans ?_
      match b with
      | 0 => rfl
      | 1 => rfl
      | 2 => rfl
      | 3 => rfl
    isplitl [H13]
    · iexists _; isplitr; rotate_left
      · iexact H13
      ipureintro; exact k13
    isplitl [H14]
    · iexists _; isplitr; rotate_left
      · iexact H14
      ipureintro
      intro b
      refine (rows_writes pos_p arg14.view _ _ _ _ _ _ _ _ _ _ b).trans ?_
      match b with
      | 0 => rfl
      | 1 => rfl
      | 2 => rfl
      | 3 => rfl
    iexists _; isplitr; rotate_left
    · iexact H15
    ipureintro
    intro b
    refine (rows_writes pos_m arg15.view _ _ _ _ _ _ _ _ _ _ b).trans ?_
    match b with
    | 0 => rfl
    | 1 => rfl
    | 2 => rfl
    | 3 => rfl
  iintro %a HI
  icases HI with ⟨H4, H10, H11, ⟨%e12, %k12', H12⟩, ⟨%e13, %k13', H13⟩, ⟨%e14, %k14', H14⟩, ⟨%e15, %k15', H15⟩⟩
  clear r12_0 r12_1 r12_2 r12_3 k12 k13
  have ht : Scf.trips (k0_t1_loop i).lb (k0_t1_loop i).ub (k0_t1_loop i).st = (i 2).val - 1 := trips_eq i
  rw [ht] at k12' k13' k14' k15'
  have k12 : Rows pos_m (arg12.view.read (Elt F) e12) (fun b => mSt (kB X4) (qB X3 b) (i 2).val) := by
    rw [show (i 2).val = (i 2).val - 1 + 1 by omega]; exact k12'
  have k13 := k13'
  have k14 := k14'
  have k15 := k15'
  have r11v : arg11.view.readAt (Elt F) (Rect.unit (s := S4096x256) (k0_off5 i) S512x256.size (k0_off5_inb i hc3)).toLoadRect g11 = vB (v1Of X5) ((i 2).val - 1) := by
    rw [readAt_blk pos_v1, k11]; exact congrArg (fun o => blk pos_v1 o S512x256.size (v1Of X5)) (off5_eq i hi)
  have r12_0 : arg12.view.readAt (Elt F) (Rect.unit (s := S2048x128) ![0, 0] S512x128.size inb_S2048x128_S512x128_0_0).toLoadRect e12 = mSt (kB X4) (qB X3 0) (i 2).val := by
    rw [readAt_blk pos_m]; exact k12 0
  have r12_1 : arg12.view.readAt (Elt F) (Rect.unit (s := S2048x128) ![512, 0] S512x128.size inb_S2048x128_S512x128_512_0).toLoadRect e12 = mSt (kB X4) (qB X3 1) (i 2).val := by
    rw [readAt_blk pos_m]; exact k12 1
  have r12_2 : arg12.view.readAt (Elt F) (Rect.unit (s := S2048x128) ![1024, 0] S512x128.size inb_S2048x128_S512x128_1024_0).toLoadRect e12 = mSt (kB X4) (qB X3 2) (i 2).val := by
    rw [readAt_blk pos_m]; exact k12 2
  have r12_3 : arg12.view.readAt (Elt F) (Rect.unit (s := S2048x128) ![1536, 0] S512x128.size inb_S2048x128_S512x128_1536_0).toLoadRect e12 = mSt (kB X4) (qB X3 3) (i 2).val := by
    rw [readAt_blk pos_m]; exact k12 3
  have r13_0 : arg13.view.readAt (Elt F) (Rect.unit (s := S2048x256) ![0, 0] S512x256.size inb_S2048x256_S512x256_0_0).toLoadRect e13 = aSt (kB X4) (vB (v1Of X5)) (qB X3 0) ((i 2).val - 1) := by
    rw [readAt_blk pos_a]; exact k13 0
  have r13_1 : arg13.view.readAt (Elt F) (Rect.unit (s := S2048x256) ![512, 0] S512x256.size inb_S2048x256_S512x256_512_0).toLoadRect e13 = aSt (kB X4) (vB (v1Of X5)) (qB X3 1) ((i 2).val - 1) := by
    rw [readAt_blk pos_a]; exact k13 1
  have r13_2 : arg13.view.readAt (Elt F) (Rect.unit (s := S2048x256) ![1024, 0] S512x256.size inb_S2048x256_S512x256_1024_0).toLoadRect e13 = aSt (kB X4) (vB (v1Of X5)) (qB X3 2) ((i 2).val - 1) := by
    rw [readAt_blk pos_a]; exact k13 2
  have r13_3 : arg13.view.readAt (Elt F) (Rect.unit (s := S2048x256) ![1536, 0] S512x256.size inb_S2048x256_S512x256_1536_0).toLoadRect e13 = aSt (kB X4) (vB (v1Of X5)) (qB X3 3) ((i 2).val - 1) := by
    rw [readAt_blk pos_a]; exact k13 3
  have r14_0 : arg14.view.readAt (Elt F) (Rect.unit (s := S2048x512) ![0, 0] S512x512.size inb_S2048x512_S512x512_0_0).toLoadRect e14 = pSt (kB X4) (qB X3 0) ((i 2).val - 1) := by
    rw [readAt_blk pos_p]; exact k14 0
  have r14_1 : arg14.view.readAt (Elt F) (Rect.unit (s := S2048x512) ![512, 0] S512x512.size inb_S2048x512_S512x512_512_0).toLoadRect e14 = pSt (kB X4) (qB X3 1) ((i 2).val - 1) := by
    rw [readAt_blk pos_p]; exact k14 1
  have r14_2 : arg14.view.readAt (Elt F) (Rect.unit (s := S2048x512) ![1024, 0] S512x512.size inb_S2048x512_S512x512_1024_0).toLoadRect e14 = pSt (kB X4) (qB X3 2) ((i 2).val - 1) := by
    rw [readAt_blk pos_p]; exact k14 2
  have r14_3 : arg14.view.readAt (Elt F) (Rect.unit (s := S2048x512) ![1536, 0] S512x512.size inb_S2048x512_S512x512_1536_0).toLoadRect e14 = pSt (kB X4) (qB X3 3) ((i 2).val - 1) := by
    rw [readAt_blk pos_p]; exact k14 3
  have r15_0 : arg15.view.readAt (Elt F) (Rect.unit (s := S2048x128) ![0, 0] S512x128.size inb_S2048x128_S512x128_0_0).toLoadRect e15 = lSt (kB X4) (qB X3 0) ((i 2).val - 1) := by
    rw [readAt_blk pos_m]; exact k15 0
  have r15_1 : arg15.view.readAt (Elt F) (Rect.unit (s := S2048x128) ![512, 0] S512x128.size inb_S2048x128_S512x128_512_0).toLoadRect e15 = lSt (kB X4) (qB X3 1) ((i 2).val - 1) := by
    rw [readAt_blk pos_m]; exact k15 1
  have r15_2 : arg15.view.readAt (Elt F) (Rect.unit (s := S2048x128) ![1024, 0] S512x128.size inb_S2048x128_S512x128_1024_0).toLoadRect e15 = lSt (kB X4) (qB X3 2) ((i 2).val - 1) := by
    rw [readAt_blk pos_m]; exact k15 2
  have r15_3 : arg15.view.readAt (Elt F) (Rect.unit (s := S2048x128) ![1536, 0] S512x128.size inb_S2048x128_S512x128_1536_0).toLoadRect e15 = lSt (kB X4) (qB X3 3) ((i 2).val - 1) := by
    rw [readAt_blk pos_m]; exact k15 3
  sl_exec (disch := first | sl_exact hc | sl_exact hc3)
  sl_step
  clear r10_0 r10_1 r10_2 r10_3 r12_0 r12_1 r12_2 r12_3 r13_0 r13_1 r13_2 r13_3 r11d
  clear r11v r14_0 r14_1 r14_2 r14_3 r15_0 r15_1 r15_2 r15_3
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; rotate_left
    · iexact H9
    ipureintro
    refine out_writes arg9.view _ _ _ _ _ _ _ _ _ ?_ ?_ []
    · sl_open_run
      refine out0_congr _ _ _ _ _ _ _ _ _ ?_ ?_ ?_ ?_
      · refine half_cov00 arg13.view _ _ _ _ _ _ _ _ _ _ _ ((diag0 _ _ _ _ _ _ ?_).trans (aFin_pred (kB X4) (vB (v1Of X5)) (qB X3 0) hi).symm)
        exact (full_cov0 arg13.view _ _ _ _ _ _ _ _ _ _).trans rfl
      · refine half_cov01 arg13.view _ _ _ _ _ _ _ _ _ _ _ ((diag0 _ _ _ _ _ _ ?_).trans (aFin_pred (kB X4) (vB (v1Of X5)) (qB X3 0) hi).symm)
        exact (full_cov0 arg13.view _ _ _ _ _ _ _ _ _ _).trans rfl
      · refine half_cov10 arg13.view _ _ _ _ _ _ _ _ _ _ _ ((diag1 _ _ _ _ _ _ ?_).trans (aFin_pred (kB X4) (vB (v1Of X5)) (qB X3 1) hi).symm)
        refine (skip_cov arg13.view 0 512 (by decide) _ _ _ _).trans ?_
        exact (full_cov1 arg13.view _ _ _ _ _ _ _ _ _ _).trans rfl
      · refine half_cov11 arg13.view _ _ _ _ _ _ _ _ _ _ _ ((diag1 _ _ _ _ _ _ ?_).trans (aFin_pred (kB X4) (vB (v1Of X5)) (qB X3 1) hi).symm)
        refine (skip_cov arg13.view 0 512 (by decide) _ _ _ _).trans ?_
        exact (full_cov1 arg13.view _ _ _ _ _ _ _ _ _ _).trans rfl
    · sl_open_run
      refine out1_congr _ _ _ _ _ _ _ _ _ ?_ ?_ ?_ ?_
      · refine half_cov20 arg13.view _ _ _ _ _ _ _ _ _ _ _ ((diag2 _ _ _ _ _ _ ?_).trans (aFin_pred (kB X4) (vB (v1Of X5)) (qB X3 2) hi).symm)
        refine (skip_cov arg13.view 512 1024 (by decide) _ _ _ _).trans ?_
        refine (skip_cov arg13.view 0 1024 (by decide) _ _ _ _).trans ?_
        exact (full_cov2 arg13.view _ _ _ _ _ _ _ _ _ _).trans rfl
      · refine half_cov21 arg13.view _ _ _ _ _ _ _ _ _ _ _ ((diag2 _ _ _ _ _ _ ?_).trans (aFin_pred (kB X4) (vB (v1Of X5)) (qB X3 2) hi).symm)
        refine (skip_cov arg13.view 512 1024 (by decide) _ _ _ _).trans ?_
        refine (skip_cov arg13.view 0 1024 (by decide) _ _ _ _).trans ?_
        exact (full_cov2 arg13.view _ _ _ _ _ _ _ _ _ _).trans rfl
      · refine half_cov30 arg13.view _ _ _ _ _ _ _ _ _ _ _ ((diag3 _ _ _ _ _ _ ?_).trans (aFin_pred (kB X4) (vB (v1Of X5)) (qB X3 3) hi).symm)
        refine (skip_cov arg13.view 1024 1536 (by decide) _ _ _ _).trans ?_
        refine (skip_cov arg13.view 512 1536 (by decide) _ _ _ _).trans ?_
        refine (skip_cov arg13.view 0 1536 (by decide) _ _ _ _).trans ?_
        exact (full_cov3 arg13.view _ _ _ _ _ _ _ _ _ _).trans rfl
      · refine half_cov31 arg13.view _ _ _ _ _ _ _ _ _ _ _ ((diag3 _ _ _ _ _ _ ?_).trans (aFin_pred (kB X4) (vB (v1Of X5)) (qB X3 3) hi).symm)
        refine (skip_cov arg13.view 1024 1536 (by decide) _ _ _ _).trans ?_
        refine (skip_cov arg13.view 512 1536 (by decide) _ _ _ _).trans ?_
        refine (skip_cov arg13.view 0 1536 (by decide) _ _ _ _).trans ?_
        exact (full_cov3 arg13.view _ _ _ _ _ _ _ _ _ _).trans rfl
  isplitl [H10]; · iexists _; iexact H10
  isplitl [H11]
  · iexists _; isplitr; rotate_left
    · iexact H11
    ipureintro; exact k11
  isplitl [H12]; · iexists _; iexact H12
  isplitl [H13]; · iexists _; iexact H13
  isplitl [H14]; · iexists _; iexact H14
  iexists _; iexact H15

end Cert.KernelIdeal.Attn
-- ==== Proof.Attn.Run.lean ====
module

public import proofs.«01_k».proof.Proof.Gen.KernelIdeal.Frame
public import proofs.«01_k».proof.Proof.Attn.First
public import proofs.«01_k».proof.Proof.Attn.Later

/-! The run of the attention call: what every point finds and leaves, and the run of the whole program from any memory.

Each point's result buffer holds the tile's result (`outB`) computed from the point's blocks. Between points only one
scratch buffer is described: the values with their ones columns, made at a head's first tile and read by its later tiles. -/

@[expose] public section

set_option maxRecDepth 16384

noncomputable section

namespace Cert.KernelIdeal.Attn

open Cert.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What point `t` leaves in the result's buffer. -/
def outAt (c : Dev nD) (t : Fin cfg0.N) : Vec F S1x512x256 .bf16 :=
  outB (fun b => aFin (kB (iblk m c 1 t)) (vB (v1Of (iblk m c 2 t))) (qB (iblk m c 0 t) b) ((grid0.coords t) 2).val)
    (iblk m c 3 t) (iblk m c 4 t) (iblk m c 5 t)

/-- A scratch buffer whole, at some contents. -/
abbrev scr (c : Dev nD) (b : Ref sig .tc) : sProp 𝕄 := iprop(∃ f : Buf (Elt F) ((c : Thread nD τ).loc b), (((c : Thread nD τ).loc b) ↦{fullShare} f))

/-- The scratch buffers before point `t`: the values' buffer holds what the point before read, the others hold anything. -/
def Φs (c : Dev nD) (t : Fin (cfg0.N + 1)) : sProp 𝕄 :=
  iprop((scr c cc0_scratch0
    ∗ (∃ f : Buf (Elt F) ((c : Thread nD τ).loc cc0_scratch1), ⌜∀ s : Fin cfg0.N, s.val + 1 = t.val → (Memref.whole cc0_scratch1).view.read (Elt F) f = v1Of (iblk m c 2 s)⌝ ∗ (((c : Thread nD τ).loc cc0_scratch1) ↦{fullShare} f))
    ∗ scr c cc0_scratch2 ∗ scr c cc0_scratch3 ∗ scr c cc0_scratch4 ∗ scr c cc0_scratch5) ∗ ∃ r, prngReg c r)

/-- The one pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Φs m c t
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A tile's place in its head. -/
theorem tile_val (t : Fin cfg0.N) : ((grid0.coords t) 2).val = t.val % 8 := by
  refine (Pipeline.Grid.coords_val (G := grid0) t 2 (S := 1) (B := 8) (by decide) rfl).trans ?_
  rw [Nat.div_one]

/-- Within a head the values' block stays. -/
theorem vals_same (c : Dev nD) (s t : Fin cfg0.N) (hst : s.val + 1 = t.val) (ht : t.val % 8 ≠ 0) : iblk m c 2 s = iblk m c 2 t := by
  have hf : (cfg0.win 2).fetch t = false := by
    cases h : (cfg0.win 2).fetch t
    · rfl
    · exact absurd ((fetch0_2 t).1 h) ht
  obtain ⟨h0, hix⟩ := (cfg0.win 2).index_eq_of_fetch rfl t hf
  have hs : (⟨t.val - 1, Nat.lt_of_le_of_lt (Nat.sub_le _ _) t.isLt⟩ : Fin cfg0.N) = s := Fin.ext (by show t.val - 1 = s.val; omega)
  rw [hs] at hix
  have key : ∀ u, (dats m 0 c).fetched 2 u (iblk m c 2 t) = iblk m c 2 u := fun u => by
    unfold Dat.fetched Dat.blockOf iblk; rw [A_eq]; try rfl
  rw [← key s, ← key t]
  exact (dats m 0 c).fetched_congr 2 hix.symm rfl _

section Body
variable (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x256 .bf16) (harg9 : arg9.IsWhole) (arg10 : Memref sig .tc .vmem S2048x128 .bf16) (harg10 : arg10.IsWhole) (arg11 : Memref sig .tc .vmem S4096x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x512 .bf16) (harg14 : arg14.IsWhole) (arg15 : Memref sig .tc .vmem S2048x128 .f32) (harg15 : arg15.IsWhole)

/-- Any tile: the first of a head or a later one. -/
theorem body_any (𝒱 : Variants) (c : Dev nD) (bd : Option 𝒱.V) (E : Set ℕ) (i : grid0.Coords)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (X3 : Vec F S1x512x256 .bf16) (X4 : Vec F S1x4096x128 .bf16) (X5 : Vec F S1x4096x128 .bf16) (X6 : Vec F S1x512x256 .bf16) (X7 : Vec F S4x64 .f32) (X8 : Vec F S1x128 .f32)
    (h3 : arg3.view.read (Elt F) f3 = X3) (h4 : arg4.view.read (Elt F) f4 = X4) (h5 : arg5.view.read (Elt F) f5 = X5) (h6 : arg6.view.read (Elt F) f6 = X6) (h7 : arg7.view.read (Elt F) f7 = X7) (h8 : arg8.view.read (Elt F) f8 = X8) (h11 : (i 2).val ≠ 0 → arg11.view.read (Elt F) f11 = v1Of X5) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
    ⊢ wp frame (wpE (defs₀ (F := F)) 𝒱 (c : Thread nD τ) bd) E (cc0_attn_prompt (F := F) i arg3 harg3 arg4 harg4 arg5 harg5 arg6 harg6 arg7 harg7 arg8 harg8 arg9 harg9 arg10 harg10 arg11 harg11 arg12 harg12 arg13 harg13 arg14 harg14 arg15 harg15)
        (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, ⌜arg9.view.read (Elt F) f = outB (fun b => aFin (kB X4) (vB (v1Of X5)) (qB X3 b) (i 2).val) X6 X7 X8⌝ ∗ (arg9.view.loc (c : Thread nD τ) ↦[arg9.view.set]{fullShare} f)) ∗ (∃ f, (arg10.view.loc (c : Thread nD τ) ↦[arg10.view.set]{fullShare} f)) ∗ (∃ f, ⌜arg11.view.read (Elt F) f = v1Of X5⌝ ∗ (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) := by
  by_cases hi : (i 2).val = 0
  · exact body_first arg3 harg3 arg4 harg4 arg5 harg5 arg6 harg6 arg7 harg7 arg8 harg8 arg9 harg9 arg10 harg10 arg11 harg11 arg12 harg12 arg13 harg13 arg14 harg14 arg15 harg15 𝒱 c bd E i hi f3 f4 f5 f6 f7 f8 f9 f10 f11 f12 f13 f14 f15 X3 X4 X5 X6 X7 X8 h3 h4 h5 h6 h7 h8 h11
  · exact body_later arg3 harg3 arg4 harg4 arg5 harg5 arg6 harg6 arg7 harg7 arg8 harg8 arg9 harg9 arg10 harg10 arg11 harg11 arg12 harg12 arg13 harg13 arg14 harg14 arg15 harg15 𝒱 c bd E i hi f3 f4 f5 f6 f7 f8 f9 f10 f11 f12 f13 f14 f15 X3 X4 X5 X6 X7 X8 h3 h4 h5 h6 h7 h8 h11

end Body

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = Φs m c t.succ from rfl, show (dats m 0 c).Φ t.castSucc = Φs m c t.castSucc from rfl,
    show (dats m 0 c).owesAt () t.succ = (dats m 0 c).owesAt () t.castSucc from rfl,
    after_0, after_1, after_2, after_3, after_4, after_5, after_6]
  unfold Φs scr owns
  iintro ⟨⟨⟨⟨%g0, G0⟩, ⟨%g1, %e1, G1⟩, ⟨%g2, G2⟩, ⟨%g3, G3⟩, ⟨%g4, G4⟩, ⟨%g5, G5⟩⟩, HP⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  have h11 : ((grid0.coords t) 2).val ≠ 0 → (Memref.whole cc0_scratch1).view.read (Elt F) g1 = v1Of (iblk m c 2 t) := fun h => by
    rw [tile_val] at h
    have hlt : t.val - 1 < cfg0.N := Nat.lt_of_le_of_lt (Nat.sub_le _ _) t.isLt
    have hst : (⟨t.val - 1, hlt⟩ : Fin cfg0.N).val + 1 = t.val := by show t.val - 1 + 1 = t.val; omega
    rw [e1 ⟨t.val - 1, hlt⟩ hst, vals_same m c _ t hst h]
  have key := body_any (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) Variants.none c none Set.univ (grid0.coords t) f0 f1 f2 f3 f4 f5 f6 g0 g1 g2 g3 g4 g5 _ _ _ _ _ _ hf0 hf1 hf2 hf3 hf4 hf5 h11
  simp only [Memref.view_whole, View.set_whole] at key
  iapply (wp_wand_r _ _ _)
  isplitl [H0 H1 H2 H3 H4 H5 H6 G0 G1 G2 G3 G4 G5]
  · iapply key $$ [H0 H1 H2 H3 H4 H5 H6 G0 G1 G2 G3 G4 G5]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexact G0
    isplitl [G1]; · iexact G1
    isplitl [G2]; · iexact G2
    isplitl [G3]; · iexact G3
    isplitl [G4]; · iexact G4
    iexact G5
  iintro %a ⟨H0, H1, H2, H3, H4, H5, ⟨%f6', %hf6', H6⟩, ⟨%g0', G0⟩, ⟨%g1', %e1', G1⟩, ⟨%g2', G2⟩, ⟨%g3', G3⟩, ⟨%g4', G4⟩, ⟨%g5', G5⟩⟩
  isplitl [G0 G1 G2 G3 G4 G5 HP]
  · isplitr [HP]
    · isplitl [G0]; · iexists _; iexact G0
      isplitl [G1]
      · iexists _; isplitr; rotate_left
        · iexact G1
        ipureintro
        intro s hs
        have : s = t := Fin.ext (Nat.succ.inj hs)
        rw [this]; exact e1'
      isplitl [G2]; · iexists _; iexact G2
      isplitl [G3]; · iexists _; iexact G3
      isplitl [G4]; · iexists _; iexact G4
      iexists _; iexact G5
    · iexact HP
  isplitl [Ho]; · iexact Ho
  isplitl [H0]
  · iexists _; isplitr; rotate_left
    · iexact H0
    ipureintro; exact hf0
  isplitl [H1]
  · iexists _; isplitr; rotate_left
    · iexact H1
    ipureintro; exact hf1
  isplitl [H2]
  · iexists _; isplitr; rotate_left
    · iexact H2
    ipureintro; exact hf2
  isplitl [H3]
  · iexists _; isplitr; rotate_left
    · iexact H3
    ipureintro; exact hf3
  isplitl [H4]
  · iexists _; isplitr; rotate_left
    · iexact H4
    ipureintro; exact hf4
  isplitl [H5]
  · iexists _; isplitr; rotate_left
    · iexact H5
    ipureintro; exact hf5
  iexists _; isplitr; rotate_left
  · iexact H6
  ipureintro; exact hf6'

/-- The library's own case of the pipeline called with a point and its buffers is the body. -/
theorem defs₀_row (t : Fin cfg0.N) : defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

/-- Entering: the scratch buffers hold anything. -/
theorem phi_in (c : Dev nD) : (Pipeline.ΦA spec0 c : sProp 𝕄) ⊢ (dats m 0 c).Φ 0 := by
  rw [show (dats m 0 c).Φ 0 = Φs m c 0 from rfl]
  unfold Pipeline.ΦA Φs scr
  rw [scopedRest0_eq]
  iintro ⟨⟨G0, ⟨%g1, G1⟩, G2⟩, HP⟩
  isplitr [HP]
  · isplitl [G0]; · iexact G0
    isplitl [G1]
    · iexists g1; isplitr; rotate_left
      · iexact G1
      ipureintro
      exact fun s h => absurd h (Nat.succ_ne_zero _)
    iexact G2
  · iexact HP

/-- Leaving: what they hold is forgotten. -/
theorem phi_out (c : Dev nD) : (dats m 0 c).Φ (Fin.last cfg0.N) ⊢ (Pipeline.ΦA spec0 c : sProp 𝕄) := by
  rw [show (dats m 0 c).Φ (Fin.last cfg0.N) = Φs m c (Fin.last cfg0.N) from rfl]
  unfold Pipeline.ΦA Φs scr
  rw [scopedRest0_eq]
  iintro ⟨⟨G0, ⟨%g1, %e1, G1⟩, G2⟩, HP⟩
  isplitr [HP]
  · isplitl [G0]; · iexact G0
    isplitl [G1]
    · iexists g1; iexact G1
    iexact G2
  · iexact HP

set_option backward.isDefEq.respectTransparency.types false in
set_option maxHeartbeats 1000000 in
/-- Every run ends, with every window's array as the proof data say, every other buffer as the host left it and every
    counter at zero. -/
theorem run_main : θ_run defs (onTc (τ := τ) (main (F := F))) (s₀ m ρ) (fun r => Pipeline.FramePost cfgs (dats m) 0 (V m) r ∧ r.2.sem = fun _ => 0) :=
  Pipeline.θ_run_frame_track_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := phi_in m) (hout := phi_out m)
    (Q' := fun r => Pipeline.FramePost cfgs (dats m) 0 (V m) r ∧ r.2.sem = fun _ => 0) (hQ' := fun _ h => h)

/-- The arguments a run ends with are the ones it began with. -/
theorem kept (r : PUnit × MemSt nD τ sig (Elt F)) (h : Pipeline.FramePost cfgs (dats m) 0 (V m) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  fun c => ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩

/-- Every run ends with the arguments as they were and every counter at zero. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨kept m r h.1, h.2⟩) (run_main m ρ)

end Cert.KernelIdeal.Attn
-- ==== Proof.Frames.lean ====
module

public import proofs.«01_k».proof.Defs
public import proofs.«01_k».proof.Proof.Attn.Run
public import proofs.«01_k».proof.Proof.Gen.Kernel
public import proofs.«01_k».proof.Proof.Gen.ReferenceIdeal
public import proofs.«01_k».proof.Proof.Gen.ReferenceIdeal.Run
public import proofs.«01_k».proof.Proof.Gen.KernelIdeal
public import proofs.«01_k».proof.Proof.Gen.Pre_finite_inputs

/-! The frames of the two kernels. They differ only in one constant, which the ideal one reads by name: over floats as
words, give the name back the word it stands for, and the one run is the run of both. -/

@[expose] public section

set_option maxRecDepth 16384

noncomputable section

namespace Cert.Proof

open Idealize.ShloMosaic Idealize.SL.Sem

/-- Over floats as words, a named constant is its word. -/
@[reducible] def namedBits : Named Bits := ⟨fun _ _ {φ} bits => Scalar.ofBits φ bits⟩

attribute [local instance] namedBits

set_option backward.isDefEq.respectTransparency false
set_option backward.isDefEq.respectTransparency.types false

/-- Read so, the body the ideal program names is the kernel's. -/
theorem body_same : Cert.Kernel.cc0_attn_prompt (F := Bits) = Cert.KernelIdeal.cc0_attn_prompt (F := Bits) := by
  with_unfolding_all rfl

theorem defs₀_same : Cert.Kernel.defs₀ (F := Bits) = Cert.KernelIdeal.defs₀ (F := Bits) := by
  unfold Cert.Kernel.defs₀ Cert.KernelIdeal.defs₀
  rw [body_same]
  refine congrArg (Defs.onTc (nD := Cert.KernelIdeal.nD) (τ := Cert.KernelIdeal.τ) (sig := Cert.KernelIdeal.sig) (Val := Elt Bits) (Λ := Cert.KernelIdeal.Λ₀)) ?_
  funext l a
  match l, a with
  | 0, (t, s) => rfl
  | ⟨_ + 1, h⟩, _ => exact absurd h (Nat.not_lt.2 (Nat.le_add_left _ _))

theorem defs_same : Cert.Kernel.defs (F := Bits) = Cert.KernelIdeal.defs (F := Bits) := by
  unfold Cert.Kernel.defs Cert.KernelIdeal.defs
  rw [defs₀_same]
  with_unfolding_all rfl

theorem frame_kernel : Cert.quiescent_Kernel := fun m ρ _ => by
  have h := Cert.KernelIdeal.Attn.frame_quiet (F := Bits) m ρ
  rw [← defs_same] at h
  exact h

theorem frame_kernelIdeal : Cert.quiescent_KernelIdeal := fun m ρ _ => Cert.KernelIdeal.Attn.frame_quiet (F := Ideal) m ρ

theorem frame_kernelIdeal_pre : Cert.quiescent_KernelIdeal_pre_finite_inputs := fun m ρ _ => Cert.KernelIdeal.Attn.frame_quiet (F := Ideal) m ρ

/-- The reference is host code alone: its generated run, and it declares no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_finite_inputs := fun m ρ _ =>
  frame_referenceIdeal m ρ trivial

/-- The one named constant: its word stands for the real it is named for. -/
theorem preserves : Cert.preserves_Kernel_KernelIdeal :=
  IdealRules.named_const.statement Cert.KernelIdeal.κ "qk_scale" .f32 0x3E38AA3B#32 _ rfl

end Cert.Proof
-- ==== Proof.Attn.Math.lean ====
/-
  The mathematics of attention computed block by block, over the extended reals and with no program in it. `Inv` is what the running
  maximum and a running sum of a query row satisfy after the first `T` keys; `Inv.step` is one block of keys; `Inv.quotient` is the
  quotient at the end. `textbook` is the same row computed the plain way, all keys at once. Both are `soft`, the real weighted mean.
-/
module

public import Idealize.ShloMosaic.PureOps.Ideal
public import Mathlib.Data.EReal.Inv
public import Mathlib.Analysis.SpecialFunctions.Pow.Real

@[expose] public section

noncomputable section

namespace Cert.Attn

open Idealize.ShloMosaic
open scoped BigOperators

/-- The mean of the first `T` values weighted by the exponentials of the scores. -/
def soft (T : ℕ) (σ v : ℕ → ℝ) : ℝ := (∑ j ∈ Finset.range T, Real.exp (σ j) * v j) / ∑ j ∈ Finset.range T, Real.exp (σ j)

theorem coe_sum {ι : Type} (S : Finset ι) (f : ι → ℝ) : ∑ i ∈ S, (f i : EReal) = ((∑ i ∈ S, f i : ℝ) : EReal) := by
  classical
  induction S using Finset.induction_on with
  | empty => simp
  | insert a S h ih => rw [Finset.sum_insert h, Finset.sum_insert h, ih, EReal.coe_add]

/-- A sum over `n` places of which the first `V` hold anything. -/
theorem sum_first {n V : ℕ} (hV : V ≤ n) (f : ℕ → ℝ) :
    ∑ c : Fin n, (if c.val < V then f c.val else 0) = ∑ c ∈ Finset.range V, f c := by
  rw [Fin.sum_univ_eq_sum_range (fun c => if c < V then f c else 0) n, ← Finset.sum_filter]
  refine Finset.sum_congr ?_ fun _ _ => rfl
  ext c; simp only [Finset.mem_filter, Finset.mem_range]; omega

/-- The greatest of scores of which at least one is a number and none is plus infinity is a number. -/
theorem fold_real {n V : ℕ} (h0 : 0 < V) (hV : V ≤ n) (s : ℕ → ℝ) (x : Fin n → EReal)
    (hx : ∀ c, x c = if c.val < V then (s c.val : EReal) else ⊥) : ∃ μ : ℝ, Finset.univ.fold max ⊥ x = (μ : EReal) := by
  have e : Finset.univ.fold max ⊥ x = Finset.univ.sup x := rfl
  have ht : Finset.univ.sup x ≠ ⊤ := by
    refine ((Finset.sup_lt_iff bot_lt_top).2 fun c _ => ?_).ne
    rw [hx]; split_ifs
    · exact EReal.coe_lt_top _
    · exact bot_lt_top
  have hb : Finset.univ.sup x ≠ ⊥ := by
    intro hb
    have h1 : x ⟨0, by omega⟩ ≤ Finset.univ.sup x := Finset.le_sup (Finset.mem_univ _)
    rw [hb, hx, if_pos h0, le_bot_iff] at h1
    exact EReal.coe_ne_bot _ h1
  exact ⟨_, e.trans (EReal.coe_toReal ht hb).symm⟩

/-- After the first `T` keys: the running maximum `m` is a number (or no key was seen), and the running sum `a` is the sum of the
    values, each weighted by two to the power of its score less that number. -/
def Inv (T : ℕ) (s w : ℕ → ℝ) (m a : EReal) : Prop :=
  ∃ μ : ℝ, (m = (μ : EReal) ∨ (m = ⊥ ∧ T = 0)) ∧ a = ((∑ j ∈ Finset.range T, (2 : ℝ) ^ (s j - μ) * w j : ℝ) : EReal)

theorem Inv.init (s w : ℕ → ℝ) : Inv 0 s w ⊥ 0 := ⟨0, Or.inr ⟨rfl, rfl⟩, by simp⟩

theorem exp2_real (x : ℝ) : Ideal.exp2 (x : EReal) = (((2 : ℝ) ^ x : ℝ) : EReal) := rfl

/-- One block of 512 keys, of which the first `V` are seen. -/
theorem Inv.step {T V : ℕ} {s w : ℕ → ℝ} {m a : EReal} (h : Inv T s w m a) (h0 : 0 < V) (hV : V ≤ 512) (x W : Fin 512 → EReal)
    (hx : ∀ c, x c = if c.val < V then (s (T + c.val) : EReal) else ⊥) (hW : ∀ c, W c = (w (T + c.val) : EReal)) {m' : EReal}
    (hm : m' = max m (Finset.univ.fold max ⊥ x)) :
    Inv (T + V) s w m' (Ideal.exp2 (m - m') * a + ∑ c, Ideal.exp2 (x c - m') * W c) := by
  obtain ⟨μ, hμ, rfl⟩ := h
  obtain ⟨ν, hν⟩ := fold_real h0 hV (fun c => s (T + c)) x hx
  rw [hν] at hm
  obtain ⟨μ', rfl⟩ : ∃ μ' : ℝ, m' = (μ' : EReal) := by
    rcases hμ with rfl | ⟨rfl, -⟩
    · exact ⟨max μ ν, hm.trans (EReal.coe_strictMono.monotone.map_max).symm⟩
    · exact ⟨ν, hm.trans (max_eq_right bot_le)⟩
  refine ⟨μ', Or.inl rfl, ?_⟩
  have e1 : ∑ c, Ideal.exp2 (x c - (μ' : EReal)) * W c
      = ((∑ c ∈ Finset.range V, (2 : ℝ) ^ (s (T + c) - μ') * w (T + c) : ℝ) : EReal) := by
    rw [← sum_first hV, ← coe_sum]
    refine Finset.sum_congr rfl fun c _ => ?_
    rw [hx, hW]
    split_ifs
    · rw [← EReal.coe_sub, exp2_real, ← EReal.coe_mul]
    · rw [EReal.bot_sub, Ideal.exp2_bot, zero_mul, EReal.coe_zero]
  have e2 : Ideal.exp2 (m - (μ' : EReal)) * ((∑ j ∈ Finset.range T, (2 : ℝ) ^ (s j - μ) * w j : ℝ) : EReal)
      = ((∑ j ∈ Finset.range T, (2 : ℝ) ^ (s j - μ') * w j : ℝ) : EReal) := by
    rcases hμ with rfl | ⟨rfl, rfl⟩
    · rw [← EReal.coe_sub, exp2_real, ← EReal.coe_mul, Finset.mul_sum]
      refine congrArg _ (Finset.sum_congr rfl fun j _ => ?_)
      rw [← mul_assoc, ← Real.rpow_add two_pos]
      congr 2; ring
    · simp
  rw [e1, e2, ← EReal.coe_add, Finset.sum_range_add]

theorem two_rpow (x μ : ℝ) : (2 : ℝ) ^ (x - μ) = Real.exp (Real.log 2 * x) * Real.exp (-(Real.log 2 * μ)) := by
  rw [Real.rpow_def_of_pos two_pos, ← Real.exp_add]; congr 1; ring

theorem soft_shift (T : ℕ) (σ v : ℕ → ℝ) (k : ℝ) :
    (∑ j ∈ Finset.range T, Real.exp (σ j) * Real.exp k * v j) / (∑ j ∈ Finset.range T, Real.exp (σ j) * Real.exp k) = soft T σ v := by
  have h : ∀ j, Real.exp (σ j) * Real.exp k * v j = Real.exp (σ j) * v j * Real.exp k := fun j => by ring
  simp only [h]
  rw [← Finset.sum_mul, ← Finset.sum_mul, mul_div_mul_right _ _ (Real.exp_pos k).ne']
  rfl

theorem sum_exp_pos {T : ℕ} (hT : 0 < T) (f : ℕ → ℝ) (hf : ∀ j, 0 < f j) : 0 < ∑ j ∈ Finset.range T, f j :=
  Finset.sum_pos (fun j _ => hf j) ⟨0, Finset.mem_range.2 hT⟩

theorem div_real (x : ℝ) {y : ℝ} (h : y ≠ 0) : Ideal.div (x : EReal) (y : EReal) = ((x / y : ℝ) : EReal) := by
  rw [Ideal.div_coe h, ← EReal.coe_mul, mul_one_div]

/-- The sum of the weighted values over the sum of the weights is the weighted mean: the running maximum falls out. -/
theorem Inv.quotient {T : ℕ} (hT : 0 < T) {s v : ℕ → ℝ} {m a l : EReal} (h : Inv T s v m a) (h1 : Inv T s (fun _ => 1) m l) :
    Ideal.div a l = (soft T (fun j => Real.log 2 * s j) v : EReal) := by
  obtain ⟨μ, hμ, rfl⟩ := h
  obtain ⟨ν, hν, rfl⟩ := h1
  have e : μ = ν := by
    rcases hμ with rfl | ⟨-, h⟩
    · rcases hν with h | ⟨-, h⟩
      · exact EReal.coe_injective h
      · omega
    · omega
  subst e
  have hp : 0 < ∑ j ∈ Finset.range T, (2 : ℝ) ^ (s j - μ) * 1 := sum_exp_pos hT _ fun j => by rw [mul_one]; exact Real.rpow_pos_of_pos two_pos _
  rw [div_real _ hp.ne', ← soft_shift T _ v (-(Real.log 2 * μ))]
  simp only [two_rpow, mul_one]

/-- The weights of one row, all keys at once: key `j`'s is the exponential of its score less the greatest, over the sum of them all. -/
theorem weight {T n : ℕ} (hT : 0 < T) (hn : T ≤ n) (σ : ℕ → ℝ) (x : Fin n → EReal) (hx : ∀ j, x j = if j.val < T then (σ j.val : EReal) else ⊥)
    {M Z : EReal} (hM : M = max ⊥ (Finset.univ.fold max ⊥ x)) (hZ : Z = ∑ j, Ideal.exp (x j - M)) (j : Fin n) :
    Ideal.div (Ideal.exp (x j - M)) Z
      = (((if j.val < T then Real.exp (σ j.val) / ∑ i ∈ Finset.range T, Real.exp (σ i) else 0 : ℝ)) : EReal) := by
  obtain ⟨ν, hν⟩ := fold_real hT hn σ x hx
  rw [hν, max_eq_right bot_le] at hM
  subst hM
  have e : ∀ i : Fin n, Ideal.exp (x i - (ν : EReal)) = ((if i.val < T then Real.exp (σ i.val) * Real.exp (-ν) else 0 : ℝ) : EReal) := by
    intro i
    rw [hx]
    split_ifs
    · rw [← EReal.coe_sub, Ideal.exp_coe, sub_eq_add_neg, Real.exp_add]
    · rw [EReal.bot_sub, Ideal.exp_bot, EReal.coe_zero]
  have hZ' : Z = ((∑ i ∈ Finset.range T, Real.exp (σ i) * Real.exp (-ν) : ℝ) : EReal) := by
    rw [hZ, ← sum_first hn, ← coe_sum]
    exact Finset.sum_congr rfl fun i _ => e i
  have hp : 0 < ∑ i ∈ Finset.range T, Real.exp (σ i) * Real.exp (-ν) := sum_exp_pos hT _ fun i => mul_pos (Real.exp_pos _) (Real.exp_pos _)
  rw [e, hZ', div_real _ hp.ne']
  split_ifs
  · rw [← Finset.sum_mul, mul_div_mul_right _ _ (Real.exp_pos _).ne']
  · rw [zero_div]

/-- The difference of two rows of weights, the second scaled, summed against the values: the difference of the two weighted means. -/
theorem textbook {T n : ℕ} (hn : T ≤ n) (σ₀ σ₁ v : ℕ → ℝ) (lam : ℝ) (V p q : Fin n → EReal) (hV : ∀ j, V j = (v j.val : EReal))
    (hp : ∀ j, p j = (((if j.val < T then Real.exp (σ₀ j.val) / ∑ i ∈ Finset.range T, Real.exp (σ₀ i) else 0 : ℝ)) : EReal))
    (hq : ∀ j, q j = (((if j.val < T then Real.exp (σ₁ j.val) / ∑ i ∈ Finset.range T, Real.exp (σ₁ i) else 0 : ℝ)) : EReal)) :
    ∑ j, V j * (p j - (lam : EReal) * q j) = ((soft T σ₀ v - lam * soft T σ₁ v : ℝ) : EReal) := by
  have e : ∀ j : Fin n, V j * (p j - (lam : EReal) * q j)
      = ((if j.val < T then Real.exp (σ₀ j.val) * v j.val / (∑ i ∈ Finset.range T, Real.exp (σ₀ i))
          - lam * (Real.exp (σ₁ j.val) * v j.val / (∑ i ∈ Finset.range T, Real.exp (σ₁ i))) else 0 : ℝ) : EReal) := by
    intro j
    rw [hV, hp, hq, ← EReal.coe_mul, ← EReal.coe_sub, ← EReal.coe_mul]
    split_ifs
    · congr 1; ring
    · simp
  rw [Finset.sum_congr rfl fun j _ => e j, coe_sum, sum_first hn (fun j => Real.exp (σ₀ j) * v j / (∑ i ∈ Finset.range T, Real.exp (σ₀ i))
          - lam * (Real.exp (σ₁ j) * v j / (∑ i ∈ Finset.range T, Real.exp (σ₁ i)))), Finset.sum_sub_distrib, ← Finset.mul_sum,
    ← Finset.sum_div, ← Finset.sum_div]
  rfl

end Cert.Attn
-- ==== Proof.Attn.Pay.lean ====
/-
  What the program's payloads are at an index, over the extended reals: the scores of a block of keys, the running maximum after it, its
  weights, the factor the earlier sums shrink by, and the sums after it. The running maximum is kept in 128 equal lanes; `lanes` carries that.
-/
module

public import proofs.«01_k».proof.Proof.Attn.Model
public import proofs.«01_k».proof.Proof.Attn.Math
public import Idealize.ShloMosaic.Lib.Pointwise
public import Idealize.ShloMosaic.Lib.WordCmp

@[expose] public section

set_option maxRecDepth 16384

noncomputable section

namespace Cert.KernelIdeal.Attn

open Idealize.ShloMosaic Cert.Attn
open Cert.KernelIdeal.Gen

theorem bits_bot : Ideal.ofBits .f32 0xFF800000#32 = ⊥ := by
  simp [Ideal.ofBits, Ideal.ieee]

theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb]
  by_cases h : b ≤ a <;> simp [Scalar.select, h]

theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  by_cases h : a < b <;> simp [Scalar.select, h]

/-- Row `r`'s score against key `c` of a block. -/
def sc (K : Vec Ideal S1x512x128 .bf16) (Q : Vec Ideal S512x128 .bf16) (r c : Fin 512) : EReal := ∑ d : Fin 128, Q (ix2 r d) * K (ix3 0 c d)

/-- The same in the tile's own block, a later key's being minus infinity. -/
def scD (K : Vec Ideal S1x512x128 .bf16) (Q : Vec Ideal S512x128 .bf16) (r c : Fin 512) : EReal := if c.val ≤ r.val then sc K Q r c else ⊥

section
variable (K : Vec Ideal S1x512x128 .bf16) (Q : Vec Ideal S512x128 .bf16) (M : Vec Ideal S512x128 .f32) (W : Vec Ideal S512x256 .bf16)

theorem pay3_apply (r c : Fin 512) : k0_pay3 K Q (ix2 r c) = sc K Q r c := by
  pointwise [k0_pay3, k0_pay2, sc]

theorem pay4_apply (r : Fin 512) (l : Fin 128) : k0_pay4 K Q M (ix2 r l) = max (M (ix2 r l)) (Finset.univ.fold max ⊥ (sc K Q r)) := by
  pointwise [k0_pay4, pay3_apply, bits_bot]

theorem pay5_apply (r : Fin 512) (l : Fin 128) : k0_pay5 K Q M (ix2 r l) = max (M (ix2 r l)) (Finset.univ.fold max ⊥ (sc K Q r)) := by
  pointwise [k0_pay5, pay4_apply]

theorem pay6_apply (r c : Fin 512) {μ : EReal} (h : ∀ l, M (ix2 r l) = μ) :
    k0_pay6 K Q M (ix2 r c) = Ideal.exp2 (sc K Q r c - max μ (Finset.univ.fold max ⊥ (sc K Q r))) := by
  pointwise [k0_pay6, pay4_apply, pay3_apply, h]
  simp only [dite_eq_ite, ite_self]
  rfl

theorem pay7_apply (r : Fin 512) (l : Fin 128) :
    k0_pay7 K Q M (ix2 r l) = Ideal.exp2 (M (ix2 r l) - max (M (ix2 r l)) (Finset.univ.fold max ⊥ (sc K Q r))) := by
  pointwise [k0_pay7, pay4_apply]
  rfl

theorem pay19_apply (P : Vec Ideal S512x512 .bf16) (A : Vec Ideal S512x256 .f32) (L : Vec Ideal S512x128 .f32) (r : Fin 512) (e : Fin 256) {α : EReal} (h : ∀ l, L (ix2 r l) = α) :
    k0_pay19 W P L A (ix2 r e) = α * A (ix2 r e) + ∑ c : Fin 512, P (ix2 r c) * W (ix2 c e) := by
  pointwise [k0_pay19, h]
  simp

theorem pay98_apply (r c : Fin 512) : k0_pay98 K Q (ix2 r c) = scD K Q r c := by
  pointwise [k0_pay98, k0_pay97, k0_pay96, scD, sc, bits_bot]
  exact select_sge (by have := r.isLt; omega) (by have := c.isLt; omega) _ _

theorem pay99_apply (r : Fin 512) (l : Fin 128) : k0_pay99 K Q M (ix2 r l) = max (M (ix2 r l)) (Finset.univ.fold max ⊥ (scD K Q r)) := by
  pointwise [k0_pay99, pay98_apply, bits_bot]

theorem pay100_apply (r : Fin 512) (l : Fin 128) :
    k0_pay100 K Q M (ix2 r l) = Ideal.exp2 (M (ix2 r l) - max (M (ix2 r l)) (Finset.univ.fold max ⊥ (scD K Q r))) := by
  pointwise [k0_pay100, pay99_apply]
  rfl

theorem pay101_apply (r : Fin 512) (e : Fin 256) {μ : EReal} (h : ∀ l, M (ix2 r l) = μ) :
    k0_pay101 K W Q M (ix2 r e)
      = ∑ c : Fin 512, Ideal.exp2 (scD K Q r c - max μ (Finset.univ.fold max ⊥ (scD K Q r))) * W (ix2 c e) := by
  pointwise [k0_pay101, pay99_apply, pay98_apply, h]
  simp only [dite_eq_ite, ite_self]
  rfl

theorem pay102_apply (P A : Vec Ideal S512x256 .f32) (L : Vec Ideal S512x128 .f32) (r : Fin 512) (e : Fin 256) {α : EReal} (h : ∀ l, L (ix2 r l) = α) :
    k0_pay102 L P A (ix2 r e) = α * A (ix2 r e) + P (ix2 r e) := by
  pointwise [k0_pay102, h]
  simp only [dite_eq_ite, ite_self]

end

/-- The factor every query is scaled by. -/
def qs : EReal := (((1 / 8) * (Real.log 2)⁻¹ : ℝ) : EReal)

theorem named_qs : (Named.named κ "qk_scale" (φ := .f32) 0x3E38AA3B#32 : Ideal .f32) = qs := rfl

section
variable (X : Vec Ideal S1x512x128 .bf16) (r : Fin 512) (d : Fin 128)

theorem pay78_apply : k0_pay78 X (ix2 r d) = X (ix3 0 r d) * qs := by
  pointwise [k0_pay78, named_qs]

theorem pay81_apply : k0_pay81 X (ix2 r d) = X (ix3 0 r d) * qs := by
  pointwise [k0_pay81, named_qs]

theorem pay79_apply : k0_pay79 X (ix2 r d) = if d.val < 64 then X (ix3 0 r d) * qs else 0 := by
  pointwise [k0_pay79, pay78_apply]
  exact select_slt (by have := d.isLt; omega) (by omega) _ _

theorem pay80_apply : k0_pay80 X (ix2 r d) = if 64 ≤ d.val then X (ix3 0 r d) * qs else 0 := by
  pointwise [k0_pay80, pay78_apply]
  exact select_sge (by have := d.isLt; omega) (by omega) _ _

theorem pay83_apply : k0_pay83 (k0_pay82 X) (ix2 r d) = if d.val < 64 then X (ix3 0 r d) * qs else 0 := by
  pointwise [k0_pay83, k0_pay82, pay81_apply]
  exact select_slt (by have := d.isLt; omega) (by omega) _ _

theorem pay84_apply : k0_pay84 (iota .tc S512x128 32 [1] iota_S512x128_d1_w32) (k0_pay81 X) (ix2 r d) = if 64 ≤ d.val then X (ix3 0 r d) * qs else 0 := by
  pointwise [k0_pay84, pay81_apply]
  exact select_sge (by have := d.isLt; omega) (by omega) _ _

end

/-- A row of results made ready: over the root of its mean square, weighed, scaled and gated. -/
def finish (o S : Fin 128 → EReal) (g : EReal) (e : Fin 128) : EReal :=
  o e * Ideal.rsqrt (Ideal.div (∑ i, o i * o i) (Ideal.ofBits .f32 0x43000000#32) + Ideal.ofBits .f32 0x3727C5AC#32) * S e
    * Ideal.ofBits .f32 0x3F4CCCCD#32 * g

/-- The scalar the second half is scaled by. -/
def lamOf (L : Fin 4 → Fin 64 → EReal) : EReal :=
  Ideal.exp (∑ d, L 0 d * L 1 d) - Ideal.exp (∑ d, L 2 d * L 3 d) + Ideal.ofBits .f32 0x3E4CCCCD#32

theorem pay117_apply (L : Vec Ideal S4x64 .f32) : k0_pay117 L (ix2 0 0) = lamOf fun i d => L (ix2 i d) := by
  pointwise [k0_pay117, lamOf]

section
variable (A B : Vec Ideal S512x256 .f32) (G : Vec Ideal S1x512x128 .bf16) (L : Vec Ideal S4x64 .f32) (S : Vec Ideal S1x128 .f32)

theorem numer_apply (r : Fin 512) (e : Fin 128) : numer A (ix2 r e) = A (ix2 r ⟨e.val, by omega⟩) := by
  unfold numer blk
  refine congrArg A (funext fun a => Fin.ext ?_)
  match a with
  | 0 => show (0 + r.val) % 512 = r.val; omega
  | 1 => show (0 + e.val) % 256 = e.val; omega

theorem denom_apply (r : Fin 512) (e : Fin 128) : denom A (ix2 r e) = A (ix2 r ⟨128 + e.val, by omega⟩) := by
  unfold denom blk
  refine congrArg A (funext fun a => Fin.ext ?_)
  match a with
  | 0 => show (0 + r.val) % 512 = r.val; omega
  | 1 => show (128 + e.val) % 256 = 128 + e.val; omega

/-- A row's difference of its two halves' means. -/
def diffRow (A B : Vec Ideal S512x256 .f32) (lam : EReal) (r : Fin 512) (e : Fin 128) : EReal :=
  Ideal.div (A (ix2 r ⟨e.val, by omega⟩)) (A (ix2 r ⟨128 + e.val, by omega⟩))
    - lam * Ideal.div (B (ix2 r ⟨e.val, by omega⟩)) (B (ix2 r ⟨128 + e.val, by omega⟩))

theorem out0_apply (r : Fin 512) (e : Fin 128) : out0 A B G L S (ix3 0 r e)
    = finish (diffRow A B (lamOf fun i d => L (ix2 i d)) r) (fun e => S (ix2 0 e)) (G (ix3 0 r e)) e := by
  unfold out0 finish diffRow
  pointwise [k0_pay120, k0_pay118, k0_pay119, pay117_apply, numer_apply, denom_apply]

theorem out1_apply (r : Fin 512) (e : Fin 128) : out1 A B G L S (ix3 0 r e)
    = finish (diffRow A B (lamOf fun i d => L (ix2 i d)) r) (fun e => S (ix2 0 e)) (G (ix3 0 r e)) e := by
  unfold out1 finish diffRow
  pointwise [k0_pay1, k0_pay123, k0_pay121, k0_pay122, pay117_apply, numer_apply, denom_apply]

end

end Cert.KernelIdeal.Attn
-- ==== Proof.Attn.State.lean ====
/-
  One query row through the blocks of keys, over the extended reals: with every score a real number and every value a real number, the
  running maximum and the running sums satisfy `Inv`, block after block, and the quotient at the end is the real weighted mean.
-/
module

public import proofs.«01_k».proof.Proof.Attn.Pay

@[expose] public section

noncomputable section

namespace Cert.KernelIdeal.Attn

open Idealize.ShloMosaic Cert.Attn
open Cert.KernelIdeal.Gen

theorem bits_zero : Ideal.ofBits .f32 0x00000000#32 = 0 := by simp [Ideal.ofBits, Ideal.ieee]

section
variable (K : ℕ → Vec Ideal S1x512x128 .bf16) (W : ℕ → Vec Ideal S512x256 .bf16) (Q : Vec Ideal S512x128 .bf16) (r : Fin 512)

theorem mSt_zero (l : Fin 128) : mSt K Q 0 (ix2 r l) = ⊥ := bits_bot

theorem mSt_succ (n : ℕ) (l : Fin 128) :
    mSt K Q (n + 1) (ix2 r l) = max (mSt K Q n (ix2 r l)) (Finset.univ.fold max ⊥ (sc (K n) Q r)) := pay5_apply _ _ _ r l

/-- All lanes of the running maximum are equal. -/
theorem lanes (n : ℕ) : ∀ l, mSt K Q n (ix2 r l) = mSt K Q n (ix2 r 0) := by
  induction n with
  | zero => intro l; rw [mSt_zero, mSt_zero]
  | succ n ih => intro l; rw [mSt_succ, mSt_succ, ih]

variable (e : Fin 256) {s w : ℕ → ℝ}

theorem inv_st (hs : ∀ n (c : Fin 512), sc (K n) Q r c = (s (512 * n + c.val) : EReal))
    (hw : ∀ n (c : Fin 512), W n (ix2 c e) = (w (512 * n + c.val) : EReal)) (n : ℕ) :
    Inv (512 * n) s w (mSt K Q n (ix2 r 0)) (aSt K W Q n (ix2 r e)) := by
  induction n with
  | zero =>
    rw [mSt_zero, show aSt K W Q 0 (ix2 r e) = 0 from bits_zero]
    exact Inv.init s w
  | succ n ih =>
    have h := ih.step (V := 512) (by omega) le_rfl (sc (K n) Q r) (fun c => W n (ix2 c e)) (fun c => by rw [if_pos c.isLt]; exact hs n c)
      (fun c => hw n c) (mSt_succ K Q r n 0)
    rw [show aSt K W Q (n + 1) (ix2 r e) = _ from
      pay19_apply _ _ _ _ r e (α := Ideal.exp2 (mSt K Q n (ix2 r 0) - mSt K Q (n + 1) (ix2 r 0))) (fun l => by
        rw [show lSt K Q n (ix2 r l) = _ from pay7_apply _ _ _ r l, lanes K Q r n l, mSt_succ])]
    rw [show 512 * (n + 1) = 512 * n + 512 by ring]
    refine Eq.mp (congrArg _ ?_) h
    refine congrArg _ (Finset.sum_congr rfl fun c _ => ?_)
    rw [show pSt K Q n (ix2 r c) = _ from pay6_apply _ _ _ r c (lanes K Q r n), mSt_succ]

theorem inv_fin (hs : ∀ n (c : Fin 512), sc (K n) Q r c = (s (512 * n + c.val) : EReal))
    (hw : ∀ n (c : Fin 512), W n (ix2 c e) = (w (512 * n + c.val) : EReal)) (n : ℕ) :
    Inv (512 * n + (r.val + 1)) s w (max (mSt K Q n (ix2 r 0)) (Finset.univ.fold max ⊥ (scD (K n) Q r))) (aFin K W Q n (ix2 r e)) := by
  have h := (inv_st K W Q r e hs hw n).step (V := r.val + 1) (by omega) (by have := r.isLt; omega) (scD (K n) Q r) (fun c => W n (ix2 c e))
    (fun c => by
      unfold scD
      by_cases hc : c.val ≤ r.val
      · rw [if_pos hc, if_pos (by omega), hs]
      · rw [if_neg hc, if_neg (by omega)])
    (fun c => hw n c) rfl
  refine Eq.mp (congrArg _ ?_) h
  rw [show aFin K W Q n (ix2 r e) = _ from
      pay102_apply _ _ _ r e (α := Ideal.exp2 (mSt K Q n (ix2 r 0) - max (mSt K Q n (ix2 r 0)) (Finset.univ.fold max ⊥ (scD (K n) Q r)))) (fun l => by
        rw [pay100_apply, lanes K Q r n l]), pay101_apply _ _ _ _ r e (lanes K Q r n)]

end

/-- The quotient of a value column by a column of ones. -/
theorem quot_fin (K : ℕ → Vec Ideal S1x512x128 .bf16) (W : ℕ → Vec Ideal S512x256 .bf16) (Q : Vec Ideal S512x128 .bf16) (r : Fin 512)
    (e : Fin 128) {s v : ℕ → ℝ} (hs : ∀ n (c : Fin 512), sc (K n) Q r c = (s (512 * n + c.val) : EReal))
    (hv : ∀ n (c : Fin 512), W n (ix2 c ⟨e.val, by omega⟩) = (v (512 * n + c.val) : EReal))
    (h1 : ∀ n (c : Fin 512), W n (ix2 c ⟨128 + e.val, by omega⟩) = 1) (n : ℕ) :
    Ideal.div (aFin K W Q n (ix2 r ⟨e.val, by omega⟩)) (aFin K W Q n (ix2 r ⟨128 + e.val, by omega⟩))
      = (soft (512 * n + (r.val + 1)) (fun j => Real.log 2 * s j) v : EReal) :=
  Inv.quotient (by omega) (inv_fin K W Q r _ hs hv n) (inv_fin K W Q r _ hs (fun n c => (h1 n c).trans EReal.coe_one.symm) n)

end Cert.KernelIdeal.Attn
-- ==== Proof.Attn.Tile.lean ====
/-
  One tile's output block over the extended reals, from blocks of real numbers: at row `r`, head `g` of the pair and column `e`, `finish` of the
  row's differences of two weighted means, in which the query at row `r` of tile `n` sees the first `512 n + r + 1` keys.
-/
module

public import proofs.«01_k».proof.Proof.Attn.State

@[expose] public section

noncomputable section

namespace Cert.KernelIdeal.Attn

open Idealize.ShloMosaic Cert.Attn
open Cert.KernelIdeal.Gen

/-- The score of a 64-wide query against a key: their product over eight. -/
def dotR (k q : ℕ → ℝ) : ℝ := (∑ d ∈ Finset.range 64, k d * q d) * (1 / 8)

/-- The difference of the two halves' weighted means: both halves weigh the same values, the second scaled by `lam`. -/
def rowR (T : ℕ) (q : ℕ → ℝ) (k v : ℕ → ℕ → ℝ) (lam : ℝ) (e : ℕ) : ℝ :=
  soft T (fun j => dotR (k j) q) (fun j => v j e) - lam * soft T (fun j => dotR (fun d => k j (64 + d)) (fun d => q (64 + d))) (fun j => v j e)

theorem sum_last {n : ℕ} (f : ℕ → ℝ) : ∑ d : Fin (n + n), (if n ≤ d.val then f d.val else 0) = ∑ d ∈ Finset.range n, f (n + d) := by
  rw [Fin.sum_univ_eq_sum_range (fun d => if n ≤ d then f d else 0) (n + n), Finset.sum_range_add, Finset.sum_eq_zero, zero_add]
  · exact Finset.sum_congr rfl fun d _ => if_pos (by omega)
  · intro d hd; exact if_neg (by have := Finset.mem_range.1 hd; omega)

theorem qs_real : qs = (((1 / 8) * (Real.log 2)⁻¹ : ℝ) : EReal) := rfl

theorem log_two_ne : Real.log 2 ≠ 0 := (Real.log_pos (by norm_num)).ne'

section
variable {X : Vec Ideal S1x512x128 .bf16} {K : Vec Ideal S1x512x128 .bf16} {Q : Vec Ideal S512x128 .bf16} {r c : Fin 512} {q k : ℕ → ℝ}

/-- A score with the first 64 columns of the query kept. -/
theorem sc_first (hQ : ∀ d, Q (ix2 r d) = if d.val < 64 then X (ix3 0 r d) * qs else 0) (hX : ∀ d : Fin 128, X (ix3 0 r d) = (q d.val : EReal))
    (hK : ∀ d : Fin 128, K (ix3 0 c d) = (k d.val : EReal)) : sc K Q r c = (((Real.log 2)⁻¹ * dotR k q : ℝ) : EReal) := by
  have e : ∀ d : Fin 128, Q (ix2 r d) * K (ix3 0 c d)
      = ((if d.val < 64 then q d.val * ((1 / 8) * (Real.log 2)⁻¹) * k d.val else 0 : ℝ) : EReal) := by
    intro d
    rw [hQ, hX, hK, qs_real]
    split_ifs
    · rw [← EReal.coe_mul, ← EReal.coe_mul]
    · simp
  unfold sc
  rw [Finset.sum_congr rfl fun d _ => e d, coe_sum, sum_first (by omega) (fun d => q d * ((1 / 8) * (Real.log 2)⁻¹) * k d)]
  unfold dotR
  rw [Finset.sum_mul, Finset.mul_sum]
  exact congrArg _ (Finset.sum_congr rfl fun d _ => by ring)

/-- A score with the last 64 columns kept. -/
theorem sc_last (hQ : ∀ d, Q (ix2 r d) = if 64 ≤ d.val then X (ix3 0 r d) * qs else 0) (hX : ∀ d : Fin 128, X (ix3 0 r d) = (q d.val : EReal))
    (hK : ∀ d : Fin 128, K (ix3 0 c d) = (k d.val : EReal)) :
    sc K Q r c = (((Real.log 2)⁻¹ * dotR (fun d => k (64 + d)) (fun d => q (64 + d)) : ℝ) : EReal) := by
  have e : ∀ d : Fin 128, Q (ix2 r d) * K (ix3 0 c d)
      = ((if 64 ≤ d.val then q d.val * ((1 / 8) * (Real.log 2)⁻¹) * k d.val else 0 : ℝ) : EReal) := by
    intro d
    rw [hQ, hX, hK, qs_real]
    split_ifs
    · rw [← EReal.coe_mul, ← EReal.coe_mul]
    · simp
  unfold sc
  rw [Finset.sum_congr rfl fun d _ => e d, coe_sum, sum_last (n := 64) (fun d => q d * ((1 / 8) * (Real.log 2)⁻¹) * k d)]
  unfold dotR
  rw [Finset.sum_mul, Finset.mul_sum]
  exact congrArg _ (Finset.sum_congr rfl fun d _ => by ring)

end

/-- A query row's difference of means, from the two halves' blocks of scaled queries. -/
theorem diff_row {K : ℕ → Vec Ideal S1x512x128 .bf16} {W : ℕ → Vec Ideal S512x256 .bf16} {Q₀ Q₁ : Vec Ideal S512x128 .bf16}
    {X : Vec Ideal S1x512x128 .bf16} {r : Fin 512} {q : ℕ → ℝ} {k v : ℕ → ℕ → ℝ} {lam : EReal} {l : ℝ}
    (h₀ : ∀ d, Q₀ (ix2 r d) = if d.val < 64 then X (ix3 0 r d) * qs else 0)
    (h₁ : ∀ d, Q₁ (ix2 r d) = if 64 ≤ d.val then X (ix3 0 r d) * qs else 0)
    (hX : ∀ d : Fin 128, X (ix3 0 r d) = (q d.val : EReal))
    (hK : ∀ n (c : Fin 512) (d : Fin 128), K n (ix3 0 c d) = (k (512 * n + c.val) d.val : EReal))
    (hV : ∀ n (c : Fin 512) (e : Fin 128), W n (ix2 c ⟨e.val, by omega⟩) = (v (512 * n + c.val) e.val : EReal))
    (h1 : ∀ n (c : Fin 512) (e : Fin 128), W n (ix2 c ⟨128 + e.val, by omega⟩) = 1) (hl : lam = (l : EReal)) (n : ℕ) (e : Fin 128) :
    diffRow (aFin K W Q₀ n) (aFin K W Q₁ n) lam r e = (rowR (512 * n + (r.val + 1)) q k v l e.val : EReal) := by
  unfold diffRow rowR
  rw [quot_fin K W Q₀ r e (s := fun j => (Real.log 2)⁻¹ * dotR (k j) q) (v := fun j => v j e.val)
      (fun n c => sc_first h₀ hX (fun d => hK n c d)) (fun n c => hV n c e) (fun n c => h1 n c e) n,
    quot_fin K W Q₁ r e (s := fun j => (Real.log 2)⁻¹ * dotR (fun d => k j (64 + d)) (fun d => q (64 + d))) (v := fun j => v j e.val)
      (fun n c => sc_last h₁ hX (fun d => hK n c d)) (fun n c => hV n c e) (fun n c => h1 n c e) n, hl,
    ← EReal.coe_mul, ← EReal.coe_sub]
  simp only [mul_inv_cancel_left₀ log_two_ne]

theorem qH_apply (X : Vec Ideal S1x512x256 .bf16) (r : Fin 512) (d : Fin 128) {g : ℕ} (hg : g < 2) :
    qH X g (ix3 0 r d) = X (ix3 0 r ⟨128 * g + d.val, by omega⟩) := by
  unfold qH blk
  refine congrArg X (funext fun a => Fin.ext ?_)
  match a with
  | 0 => rfl
  | 1 => show (0 + r.val) % 512 = r.val; omega
  | 2 => show (128 * g + d.val) % 256 = 128 * g + d.val; omega

theorem kB_apply (X : Vec Ideal S1x4096x128 .bf16) (n : ℕ) (c : Fin 512) (d : Fin 128) :
    kB X n (ix3 0 c d) = X (ix3 0 ⟨(512 * n + c.val) % 4096, Nat.mod_lt _ (by omega)⟩ d) := by
  unfold kB blk
  refine congrArg X (funext fun a => Fin.ext ?_)
  match a with
  | 0 => rfl
  | 1 => rfl
  | 2 => show (0 + d.val) % 128 = d.val; omega

theorem pay76_apply (X : Vec Ideal S1x4096x128 .bf16) (j : Fin 4096) (e : Fin 128) : k0_pay76 X (ix2 j e) = X (ix3 0 j e) := by
  pointwise [k0_pay76]

theorem pay77_apply (j : Fin 4096) (e : Fin 128) : k0_pay77 (F := Ideal) (ix2 j e) = 1 := by
  pointwise [k0_pay77]

theorem vB_val (X : Vec Ideal S1x4096x128 .bf16) (n : ℕ) (c : Fin 512) (e : Fin 128) :
    vB (v1Of X) n (ix2 c ⟨e.val, by omega⟩) = X (ix3 0 ⟨(512 * n + c.val) % 4096, Nat.mod_lt _ (by omega)⟩ e) := by
  have h : (0 + e.val) % 256 = e.val := by omega
  refine (dif_pos (show (0 + e.val) % 256 < 128 by omega)).trans ?_
  refine Eq.trans ?_ (pay76_apply X ⟨(512 * n + c.val) % 4096, Nat.mod_lt _ (by omega)⟩ e)
  refine congrArg (k0_pay76 X) (funext fun a => Fin.ext ?_)
  match a with
  | 0 => rfl
  | 1 => exact h

theorem vB_one (X : Vec Ideal S1x4096x128 .bf16) (n : ℕ) (c : Fin 512) (e : Fin 128) :
    vB (v1Of X) n (ix2 c ⟨128 + e.val, by omega⟩) = 1 := by
  refine (dif_neg (show ¬ (0 + (128 + e.val)) % 256 < 128 by omega)).trans ?_
  rw [← pay77_apply ⟨(512 * n + c.val) % 4096, Nat.mod_lt _ (by omega)⟩ e]
  refine congrArg k0_pay77 (funext fun a => Fin.ext ?_)
  match a with
  | 0 => rfl
  | 1 => show (0 + (128 + e.val)) % 256 - 128 = e.val; omega

section
variable (A : Fin 4 → Vec Ideal S512x256 .f32) (X6 : Vec Ideal S1x512x256 .bf16) (L : Vec Ideal S4x64 .f32) (S : Vec Ideal S1x128 .f32) (r : Fin 512) (e : Fin 128)

theorem outB_first : outB A X6 L S (ix3 0 r ⟨128 * 0 + e.val, by omega⟩)
    = finish (diffRow (A 0) (A 1) (lamOf fun i d => L (ix2 i d)) r) (fun e => S (ix2 0 e)) (X6 (ix3 0 r ⟨128 * 0 + e.val, by omega⟩)) e := by
  refine (dif_pos (show 128 * 0 + e.val < 128 by omega)).trans ?_
  rw [← qH_apply X6 r e (by omega), ← out0_apply]
  refine congrArg (out0 _ _ _ L S) (funext fun a => Fin.ext ?_)
  match a with
  | 0 => rfl
  | 1 => rfl
  | 2 => show 128 * 0 + e.val = e.val; omega

theorem outB_last : outB A X6 L S (ix3 0 r ⟨128 * 1 + e.val, by omega⟩)
    = finish (diffRow (A 2) (A 3) (lamOf fun i d => L (ix2 i d)) r) (fun e => S (ix2 0 e)) (X6 (ix3 0 r ⟨128 * 1 + e.val, by omega⟩)) e := by
  refine (dif_neg (show ¬ 128 * 1 + e.val < 128 by omega)).trans ?_
  rw [← qH_apply X6 r e (by omega), ← out1_apply]
  refine congrArg (out1 _ _ _ L S) (funext fun a => Fin.ext ?_)
  match a with
  | 0 => rfl
  | 1 => rfl
  | 2 => show 128 * 1 + e.val - 128 = e.val; omega

end

/-- **One tile.** -/
theorem tile {X3 X6 : Vec Ideal S1x512x256 .bf16} {X4 X5 : Vec Ideal S1x4096x128 .bf16} {L : Vec Ideal S4x64 .f32} {S : Vec Ideal S1x128 .f32}
    {r : Fin 512} {g : ℕ} (hg : g < 2) {q : ℕ → ℝ} {k v : ℕ → ℕ → ℝ} {l : ℝ}
    (hq : ∀ d : Fin 128, X3 (ix3 0 r ⟨128 * g + d.val, by omega⟩) = (q d.val : EReal))
    (hk : ∀ j (d : Fin 128), X4 (ix3 0 ⟨j % 4096, Nat.mod_lt _ (by omega)⟩ d) = (k j d.val : EReal))
    (hv : ∀ j (e : Fin 128), X5 (ix3 0 ⟨j % 4096, Nat.mod_lt _ (by omega)⟩ e) = (v j e.val : EReal))
    (hl : (lamOf fun i d => L (ix2 i d)) = (l : EReal)) (n : ℕ) (e : Fin 128) :
    outB (fun b => aFin (kB X4) (vB (v1Of X5)) (qB X3 b) n) X6 L S (ix3 0 r ⟨128 * g + e.val, by omega⟩)
      = finish (fun e => (rowR (512 * n + (r.val + 1)) q k v l e.val : EReal)) (fun e => S (ix2 0 e)) (X6 (ix3 0 r ⟨128 * g + e.val, by omega⟩)) e := by
  have hK : ∀ n (c : Fin 512) (d : Fin 128), kB X4 n (ix3 0 c d) = (k (512 * n + c.val) d.val : EReal) := fun n c d => (kB_apply X4 n c d).trans (hk _ d)
  have hV : ∀ n (c : Fin 512) (e : Fin 128), vB (v1Of X5) n (ix2 c ⟨e.val, by omega⟩) = (v (512 * n + c.val) e.val : EReal) :=
    fun n c e => (vB_val X5 n c e).trans (hv _ e)
  have hX : ∀ d : Fin 128, qH X3 g (ix3 0 r d) = (q d.val : EReal) := fun d => (qH_apply X3 r d hg).trans (hq d)
  obtain rfl | rfl : g = 0 ∨ g = 1 := by omega
  · rw [outB_first]
    refine congrArg (fun o => finish o _ _ e) (funext fun e => ?_)
    exact diff_row (fun d => pay79_apply (qH X3 0) r d) (fun d => pay80_apply (qH X3 0) r d) hX hK hV (vB_one X5) hl n e
  · rw [outB_last]
    refine congrArg (fun o => finish o _ _ e) (funext fun e => ?_)
    exact diff_row (fun d => pay83_apply (qH X3 1) r d) (fun d => pay84_apply (qH X3 1) r d) hX hK hV (vB_one X5) hl n e

end Cert.KernelIdeal.Attn
-- ==== Proof.Attn.Blocks.lean ====
/-
  The blocks a point of the call reads, at coordinates of the program's arguments: point t is batch t/32, key head t/8%4, tile t%8.
-/
module

public import proofs.«01_k».proof.Proof.Attn.Run
public import proofs.«01_k».proof.Proof.Attn.Tile
public import Idealize.ShloMosaic.Lib.Pipeline.ValueKit.Geometry
public import Idealize.ShloMosaic.Lib.Claim
public import Idealize.ShloMosaic.Lib.Pointwise

@[expose] public section

set_option maxRecDepth 16384

noncomputable section

namespace Cert.KernelIdeal.Attn

open Cert.Attn Idealize.ShloMosaic Idealize.ShloMosaic.TcCoe Idealize.ShloMosaic.Tactic
open Idealize.SL.Sem
open Cert.KernelIdeal.Gen

theorem at0 : ∀ t : Fin cfg0.N, win0_0.index t = ![t.val / 32, t.val % 8, t.val / 8 % 4] := (by decide +kernel : ∀ t : Fin grid0.N, _)
theorem at1 : ∀ t : Fin cfg0.N, win0_1.index t = ![t.val / 32, 0, t.val / 8 % 4] := (by decide +kernel : ∀ t : Fin grid0.N, _)
theorem at2 : ∀ t : Fin cfg0.N, win0_2.index t = ![t.val / 32, 0, 4 + t.val / 8 % 4] := (by decide +kernel : ∀ t : Fin grid0.N, _)
theorem at3 : ∀ t : Fin cfg0.N, win0_3.index t = ![t.val / 32, t.val % 8, 4 + t.val / 8 % 4] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val / 32, t.val % 8, t.val / 8 % 4] := (by decide +kernel : ∀ t : Fin grid0.N, _)

variable (m : (ℓ : Loc nD τ sig) → Buf (Elt Ideal) ℓ) (c : Dev nD) (t : Fin cfg0.N)

theorem t_lt : t.val < 128 := t.isLt

section
variable (b : Fin 4) (s : Fin 4096)

set_option maxHeartbeats 2000000 in
theorem arr3 (d : Fin 1024) : V m c main_v3 (ix3 b s ⟨d.val, by omega⟩) = m ((c : Thread nD τ).loc main_arg0) (ix3 b s d) := by
  entry_read
  pointwise

set_option maxHeartbeats 2000000 in
theorem arr5_k (d : Fin 512) : V m c main_v5 (ix3 b s ⟨d.val, by omega⟩) = m ((c : Thread nD τ).loc main_arg2) (ix3 b s d) := by
  entry_read
  pointwise

set_option maxHeartbeats 2000000 in
theorem arr5_v (d : Fin 512) : V m c main_v5 (ix3 b s ⟨512 + d.val, by omega⟩) = m ((c : Thread nD τ).loc main_arg3) (ix3 b s d) := by
  entry_read
  pointwise

set_option maxHeartbeats 2000000 in
theorem arr11 (d : Fin 4096) : V m c main_v11 (ix3 b s d) = m ((c : Thread nD τ).loc main_arg4) (ix3 b s d) := by
  entry_read
  pointwise

set_option maxHeartbeats 2000000 in
theorem arr12 (d : Fin 128) : V m c main_v12 (ix2 0 d) = m ((c : Thread nD τ).loc main_arg9) (ix1 d) := by
  entry_read
  pointwise

end

theorem emb0 (r : Fin 512) (x : Fin 256) : ((cfg0.win 0).blk t).view.emb (ix3 0 r x)
    = ix3 ⟨t.val / 32, by have := t_lt t; omega⟩ ⟨512 * (t.val % 8) + r.val, by omega⟩ ⟨256 * (t.val / 8 % 4) + x.val, by omega⟩ := by
  blk_ext [at0]

theorem emb3 (r : Fin 512) (x : Fin 256) : ((cfg0.win 3).blk t).view.emb (ix3 0 r x)
    = ix3 ⟨t.val / 32, by have := t_lt t; omega⟩ ⟨512 * (t.val % 8) + r.val, by omega⟩ ⟨1024 + (256 * (t.val / 8 % 4) + x.val), by omega⟩ := by
  blk_ext [at3]

theorem emb1 (j : Fin 4096) (x : Fin 128) : ((cfg0.win 1).blk t).view.emb (ix3 0 j x)
    = ix3 ⟨t.val / 32, by have := t_lt t; omega⟩ j ⟨128 * (t.val / 8 % 4) + x.val, by omega⟩ := by
  blk_ext [at1]

theorem emb2 (j : Fin 4096) (x : Fin 128) : ((cfg0.win 2).blk t).view.emb (ix3 0 j x)
    = ix3 ⟨t.val / 32, by have := t_lt t; omega⟩ j ⟨512 + (128 * (t.val / 8 % 4) + x.val), by omega⟩ := by
  blk_ext [at2]

theorem emb4 (i : Fin 4) (x : Fin 64) : ((cfg0.win 4).blk t).view.emb (ix2 i x) = ix2 i x := by
  blk_ext [at4]

theorem emb5 (x : Fin 128) : ((cfg0.win 5).blk t).view.emb (ix2 0 x) = ix2 0 x := by
  blk_ext [at5]

theorem emb6 (r : Fin 512) (x : Fin 256) : ((cfg0.win 6).blk t).view.emb (ix3 0 r x)
    = ix3 ⟨t.val / 32, by have := t_lt t; omega⟩ ⟨512 * (t.val % 8) + r.val, by omega⟩ ⟨256 * (t.val / 8 % 4) + x.val, by omega⟩ := by
  blk_ext [at6]

end Cert.KernelIdeal.Attn
-- ==== Proof.Attn.Stack.lean ====
/-
  The blocks a point of the call reads, at coordinates of the program's arguments: point t is batch t/32, key head t/8%4, tile t%8.
-/
module

public import proofs.«01_k».proof.Proof.Attn.Run
public import proofs.«01_k».proof.Proof.Attn.Tile
public import Idealize.ShloMosaic.Lib.Pipeline.ValueKit.Geometry
public import Idealize.ShloMosaic.Lib.Claim
public import Idealize.ShloMosaic.Lib.Pointwise

@[expose] public section

set_option maxRecDepth 16384

noncomputable section

namespace Cert.KernelIdeal.Attn

open Cert.Attn Idealize.ShloMosaic Idealize.ShloMosaic.TcCoe Idealize.ShloMosaic.Tactic
open Idealize.SL.Sem
open Cert.KernelIdeal.Gen

theorem at0 : ∀ t : Fin cfg0.N, win0_0.index t = ![t.val / 32, t.val % 8, t.val / 8 % 4] := (by decide +kernel : ∀ t : Fin grid0.N, _)
theorem at1 : ∀ t : Fin cfg0.N, win0_1.index t = ![t.val / 32, 0, t.val / 8 % 4] := (by decide +kernel : ∀ t : Fin grid0.N, _)
theorem at2 : ∀ t : Fin cfg0.N, win0_2.index t = ![t.val / 32, 0, 4 + t.val / 8 % 4] := (by decide +kernel : ∀ t : Fin grid0.N, _)
theorem at3 : ∀ t : Fin cfg0.N, win0_3.index t = ![t.val / 32, t.val % 8, 4 + t.val / 8 % 4] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val / 32, t.val % 8, t.val / 8 % 4] := (by decide +kernel : ∀ t : Fin grid0.N, _)

variable (m : (ℓ : Loc nD τ sig) → Buf (Elt Ideal) ℓ) (c : Dev nD) (t : Fin cfg0.N)

theorem t_lt : t.val < 128 := t.isLt

open StableHlo in
theorem after_two {l₁ l₂ : List (HloOp τ sig (Elt Ideal))} (W : Valuation τ sig (Elt Ideal)) : after (l₁ ++ l₂) W = after l₂ (after l₁ W) := by
  induction l₁ generalizing W with
  | nil => rfl
  | cons op l ih => exact ih _

open StableHlo in
theorem last_ops (W : Valuation τ sig (Elt Ideal)) : after (hostOps0.drop 11) W main_v10
    = concatenate S4x64 0 [⟨S1x64, W main_v6⟩, ⟨S1x64, W main_v7⟩, ⟨S1x64, W main_v8⟩, ⟨S1x64, W main_v9⟩] concatenates_S1x64_S1x64_S1x64_S1x64_S4x64_d0 := by
  unfold hostOps0
  simp only [List.flatten_cons, List.flatten_nil, List.append_nil, List.cons_append, List.nil_append, List.drop_succ_cons, List.drop_zero]
  simp only [after_cons, after_nil]
  refine (reshape_result_ne' _ _ _ _ _ (by decide)).trans ?_
  refine (unary_result_ne' _ _ _ _ (by decide)).trans ?_
  exact nary4_result _ _ _ _

open StableHlo in
theorem last_ops_ne (W : Valuation τ sig (Elt Ideal)) {r : Ref sig .tc} (h₁ : r ≠ main_v12) (h₂ : r ≠ main_v11) (h₃ : r ≠ main_v10) :
    after (hostOps0.drop 11) W r = W r := by
  unfold hostOps0
  simp only [List.flatten_cons, List.flatten_nil, List.append_nil, List.cons_append, List.nil_append, List.drop_succ_cons, List.drop_zero]
  simp only [after_cons, after_nil]
  refine (reshape_result_ne' _ _ _ _ _ h₁).trans ?_
  refine (unary_result_ne' _ _ _ _ h₂).trans ?_
  exact nary_result_ne' _ _ _ _ _ h₃

theorem V_split (r : Ref sig .tc) : V m c r = StableHlo.after (hostOps0.drop 11) (StableHlo.after (hostOps0.take 11) (fun b => m (c, b))) r := by
  rw [← after_two, List.take_append_drop]

/-- The stacked vectors the call reads: a row for each. -/
theorem arr10_rows : V m c main_v10
    = concatenate S4x64 0 [⟨S1x64, V m c main_v6⟩, ⟨S1x64, V m c main_v7⟩, ⟨S1x64, V m c main_v8⟩, ⟨S1x64, V m c main_v9⟩] concatenates_S1x64_S1x64_S1x64_S1x64_S4x64_d0 := by
  rw [V_split m c main_v10, last_ops, V_split m c main_v6, V_split m c main_v7, V_split m c main_v8, V_split m c main_v9,
    last_ops_ne _ (by decide) (by decide) (by decide), last_ops_ne _ (by decide) (by decide) (by decide),
    last_ops_ne _ (by decide) (by decide) (by decide), last_ops_ne _ (by decide) (by decide) (by decide)]

set_option maxHeartbeats 2000000 in
theorem row6 (d : Fin 64) : V m c main_v6 (ix2 0 d) = m ((c : Thread nD τ).loc main_arg5) (ix1 d) := by
  entry_read
  pointwise

set_option maxHeartbeats 2000000 in
theorem row7 (d : Fin 64) : V m c main_v7 (ix2 0 d) = m ((c : Thread nD τ).loc main_arg6) (ix1 d) := by
  entry_read
  pointwise

set_option maxHeartbeats 2000000 in
theorem row8 (d : Fin 64) : V m c main_v8 (ix2 0 d) = m ((c : Thread nD τ).loc main_arg7) (ix1 d) := by
  entry_read
  pointwise

set_option maxHeartbeats 2000000 in
theorem row9 (d : Fin 64) : V m c main_v9 (ix2 0 d) = m ((c : Thread nD τ).loc main_arg8) (ix1 d) := by
  entry_read
  pointwise

theorem stack_apply (a b p r : Vec Ideal S1x64 .f32) (i : Fin 4) (d : Fin 64) :
    concatenate S4x64 0 [⟨S1x64, a⟩, ⟨S1x64, b⟩, ⟨S1x64, p⟩, ⟨S1x64, r⟩] concatenates_S1x64_S1x64_S1x64_S1x64_S4x64_d0 (ix2 i d)
      = (![a (ix2 0 d), b (ix2 0 d), p (ix2 0 d), r (ix2 0 d)] : Fin 4 → EReal) i := by
  fin_cases i <;> pointwise <;> rfl

/-- The stacked vectors at an index. -/
theorem arr10 (i : Fin 4) (d : Fin 64) : V m c main_v10 (ix2 i d)
    = (![m ((c : Thread nD τ).loc main_arg5) (ix1 d), m ((c : Thread nD τ).loc main_arg6) (ix1 d), m ((c : Thread nD τ).loc main_arg7) (ix1 d), m ((c : Thread nD τ).loc main_arg8) (ix1 d)] : Fin 4 → EReal) i := by
  rw [arr10_rows, stack_apply, row6, row7, row8, row9]

end Cert.KernelIdeal.Attn
-- ==== Proof.Attn.Ref.lean ====
/-
  What the reference computes, in stages over the extended reals, and each stage at an index: the masked scores, the softmax of a row, the
  difference of the two terms' weights, the weighted values, and the norm with its gate. The last theorem reads one entry of the result
  as the kernel's tile is read: the finished row of the difference of two softmax averages.
-/
module

public import proofs.«01_k».proof.Proof.Gen.ReferenceIdeal.Run
public import proofs.«01_k».proof.Proof.Attn.Tile

@[expose] public section

set_option maxRecDepth 16384

noncomputable section

namespace Cert.ReferenceIdeal.Attn

open Idealize.ShloMosaic Idealize.ShloMosaic.TcCoe Cert.Attn Cert.KernelIdeal.Attn
open Cert.ReferenceIdeal Cert.ReferenceIdeal.Gen

section
variable {F : FTy → Type} [FloatOps F]

/-- The scores, batch first, then key head, query head, term, query and key. -/
def rawT (q : Vec F S4x4096x1024 .f32) (k : Vec F S4x4096x512 .f32) : Vec F S4x4x2x2x4096x4096 .f32 :=
  mulf (transpose S4x4x2x2x4096x4096 [0, 1, 5, 2, 4, 3] (Host.dotGeneral dot_S4x4096x4x2x64_S4x4096x4x2x2x64_S4x4x2x4096x4096x2_4_5_1_13_023_024 none
    (shapeCast _ k shapeCasts_S4x4096x512_S4x4096x4x2x64) (shapeCast _ q shapeCasts_S4x4096x1024_S4x4096x4x2x2x64))
    transposes_S4x4x2x4096x4096x2_S4x4x2x2x4096x4096_0_1_5_2_4_3) (broadcastInDim S4x4x2x2x4096x4096 ![] bcast_S_S4x4x2x2x4096x4096 (constant S_ .f32
    0x3E000000#32))

/-- The scores with every later key's set to minus infinity. -/
def scoreT (q : Vec F S4x4096x1024 .f32) (k : Vec F S4x4096x512 .f32) : Vec F S4x4x2x2x4096x4096 .f32 :=
  select (broadcastInDim S4x4x2x2x4096x4096 ![4, 5] bcast_S4096x4096_S4x4x2x2x4096x4096_4_5 (cmpi .sge (broadcastInDim S4096x4096 ![0, 1]
    bcast_S4096x1_S4096x4096_0_1 (broadcastInDim S4096x1 ![0] bcast_S4096_S4096x1_0 (iotaInDim S4096 32 0))) (broadcastInDim S4096x4096 ![0, 1]
    bcast_S1x4096_S4096x4096_0_1 (broadcastInDim S1x4096 ![1] bcast_S4096_S1x4096_1 (iotaInDim S4096 32 0))))) (rawT q k) (broadcastInDim
    S4x4x2x2x4096x4096 ![] bcast_S_S4x4x2x2x4096x4096 (id (constant S_ .f32 0xFF800000#32)))

/-- The largest of each row. -/
def maxT (x : Vec F S4x4x2x2x4096x4096 .f32) : Vec F S4x4x2x2x4096 .f32 :=
  maximumf (broadcastInDim S4x4x2x2x4096 ![] bcast_S_S4x4x2x2x4096 (constant S_ .f32 0xFF800000#32)) (Host.reduce FloatOps.maximumf x (constant S_ .f32
    0xFF800000#32) reducesTo_S4x4x2x2x4096x4096_S4x4x2x2x4096_d5 h_S_)

/-- The exponentials of the row less its largest. -/
def expT (x : Vec F S4x4x2x2x4096x4096 .f32) : Vec F S4x4x2x2x4096x4096 .f32 :=
  Host.exp (subf x (broadcastInDim S4x4x2x2x4096x4096 ![0, 1, 2, 3, 4, 5] bcast_S4x4x2x2x4096x1_S4x4x2x2x4096x4096_0_1_2_3_4_5 (broadcastInDim
    S4x4x2x2x4096x1 ![0, 1, 2, 3, 4] bcast_S4x4x2x2x4096_S4x4x2x2x4096x1_0_1_2_3_4 (maxT x))))

/-- The row's softmax. -/
def probT (x : Vec F S4x4x2x2x4096x4096 .f32) : Vec F S4x4x2x2x4096x4096 .f32 :=
  Host.divf (expT x) (broadcastInDim S4x4x2x2x4096x4096 ![0, 1, 2, 3, 4, 5] bcast_S4x4x2x2x4096x1_S4x4x2x2x4096x4096_0_1_2_3_4_5 (broadcastInDim
    S4x4x2x2x4096x1 ![0, 1, 2, 3, 4] bcast_S4x4x2x2x4096_S4x4x2x2x4096x1_0_1_2_3_4 (Host.reduceAdd (expT x) (constant S_ .f32 0x00000000#32)
    reducesTo_S4x4x2x2x4096x4096_S4x4x2x2x4096_d5 h_S_)))

/-- The factor of the second term. -/
def lamT (a b p r : Vec F S64 .f32) : Vec F S_ .f32 :=
  addf (subf (Host.exp (Host.reduceAdd (mulf a b) (constant S_ .f32 0x00000000#32) reducesTo_S64_S_d0 h_S_)) (Host.exp (Host.reduceAdd (mulf p r)
    (constant S_ .f32 0x00000000#32) reducesTo_S64_S_d0 h_S_))) (constant S_ .f32 0x3E4CCCCD#32)

/-- The first term's weights less the factor times the second's. -/
def diffT (w : Vec F S4x4x2x2x4096x4096 .f32) (l : Vec F S_ .f32) : Vec F S4x4x2x4096x4096 .f32 :=
  subf (shapeCast _ (extractStridedSlice S4x4x2x1x4096x4096 ![0, 0, 0, 0, 0, 0] w slices_S4x4x2x2x4096x4096_S4x4x2x1x4096x4096_0_0_0_0_0_0)
    shapeCasts_S4x4x2x1x4096x4096_S4x4x2x4096x4096) (mulf (broadcastInDim S4x4x2x4096x4096 ![] bcast_S_S4x4x2x4096x4096 l) (shapeCast _
    (extractStridedSlice S4x4x2x1x4096x4096 ![0, 0, 0, 1, 0, 0] w slices_S4x4x2x2x4096x4096_S4x4x2x1x4096x4096_0_0_0_1_0_0)
    shapeCasts_S4x4x2x1x4096x4096_S4x4x2x4096x4096))

/-- The weighted values. -/
def outT (v : Vec F S4x4096x512 .f32) (w : Vec F S4x4x2x4096x4096 .f32) : Vec F S4x4096x4x2x128 .f32 :=
  transpose S4x4096x4x2x128 [0, 4, 1, 3, 2] (Host.dotGeneral dot_S4x4096x4x128_S4x4x2x4096x4096_S4x4x128x2x4096_1_4_3_23_02_01 none (shapeCast _ v
    shapeCasts_S4x4096x512_S4x4096x4x128) w) transposes_S4x4x128x2x4096_S4x4096x4x2x128_0_4_1_3_2

/-- The norm, its weight, the constant, and the gate. -/
def finT (o : Vec F S4x4096x4x2x128 .f32) (S : Vec F S128 .f32) (G : Vec F S4x4096x4096 .f32) : Vec F S4x4096x1024 .bf16 :=
  truncf .bf16 (mulf (shapeCast _ (mulf (mulf (mulf o (broadcastInDim S4x4096x4x2x128 ![0, 1, 2, 3, 4] bcast_S4x4096x4x2x1_S4x4096x4x2x128_0_1_2_3_4
    (Host.rsqrt (addf (Host.divf (broadcastInDim S4x4096x4x2x1 ![0, 1, 2, 3] bcast_S4x4096x4x2_S4x4096x4x2x1_0_1_2_3 (Host.reduceAdd (mulf o o) (constant
    S_ .f32 0x00000000#32) reducesTo_S4x4096x4x2x128_S4x4096x4x2_d4 h_S_)) (broadcastInDim S4x4096x4x2x1 ![] bcast_S_S4x4096x4x2x1 (constant S_ .f32
    0x43000000#32))) (broadcastInDim S4x4096x4x2x1 ![] bcast_S_S4x4096x4x2x1 (constant S_ .f32 0x3727C5AC#32)))))) (broadcastInDim S4x4096x4x2x128 ![0, 1,
    2, 3, 4] bcast_S1x1x1x1x128_S4x4096x4x2x128_0_1_2_3_4 (broadcastInDim S1x1x1x1x128 ![4] bcast_S128_S1x1x1x1x128_4 S))) (broadcastInDim S4x4096x4x2x128
    ![] bcast_S_S4x4096x4x2x128 (constant S_ .f32 0x3F4CCCCD#32))) shapeCasts_S4x4096x4x2x128_S4x4096x1024) (extractStridedSlice S4x4096x1024 ![0, 0,
    1024] G slices_S4x4096x4096_S4x4096x1024_0_0_1024)) bitsLt_bf16_f32

end

set_option maxHeartbeats 4000000 in
/-- The reference's composed term is these stages. -/
theorem res_eq (m : (ℓ : Loc nD τ sig) → Buf (Elt Ideal) ℓ) (c : Dev nD) :
    Value.res_main_v60 m c = finT (outT (m ((c.tc : Thread nD τ).loc main_arg3)) (diffT (probT (scoreT (m ((c.tc : Thread nD τ).loc main_arg0)) (m ((c.tc : Thread nD τ).loc main_arg2))))
      (lamT (m ((c.tc : Thread nD τ).loc main_arg5)) (m ((c.tc : Thread nD τ).loc main_arg6)) (m ((c.tc : Thread nD τ).loc main_arg7)) (m ((c.tc : Thread nD τ).loc main_arg8)))))
      (m ((c.tc : Thread nD τ).loc main_arg9)) (m ((c.tc : Thread nD τ).loc main_arg4)) := rfl

section
variable {n0 n1 n2 n3 n4 n5 : ℕ} (hd : (⟨6, ![n0, n1, n2, n3, n4, n5]⟩ : Shape).ReducesTo [5] ⟨5, ![n0, n1, n2, n3, n4]⟩)
  (a : Fin n0) (b : Fin n1) (c : Fin n2) (d : Fin n3) (e : Fin n4)

/-- The indices a reduction of the last of six axes folds at one place of its result. -/
theorem row6 (i : (⟨6, ![n0, n1, n2, n3, n4, n5]⟩ : Shape).Idx) : hd.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem max6 {u : Shape} (x : FVec Ideal ⟨6, ![n0, n1, n2, n3, n4, n5]⟩ .f32) (init : FVec Ideal u .f32) (hu : 0 < u.numel) :
    Host.reduce FloatOps.maximumf x init hd hu (ix5 a b c d e) = Finset.univ.fold max (init (Shape.Idx.first hu)) fun k => x (ix6 a b c d e k) :=
  (Host.reduce_eq_fold (max : EReal → EReal → EReal) x init hd hu (ix5 a b c d e)).trans
    (Finset.fold_filter_eq_fold_of_fiber max _ (fun k : Fin n5 => ix6 a b c d e k) (fun _ _ q => congrFun q 5) (row6 hd a b c d e) _ x)

theorem sum6 {u : Shape} (x : FVec Ideal ⟨6, ![n0, n1, n2, n3, n4, n5]⟩ .f32) (init : FVec Ideal u .f32) (hu : 0 < u.numel) :
    Host.reduceAdd x init hd hu (ix5 a b c d e) = init (Shape.Idx.first hu) + ∑ k : Fin n5, (x (ix6 a b c d e k) : EReal) :=
  congrArg (init (Shape.Idx.first hu) + ·) (Finset.sum_filter_eq_sum_of_fiber _ (fun k : Fin n5 => ix6 a b c d e k) (fun _ _ q => congrFun q 5) (row6 hd a b c d e) x)

end

theorem rawT_apply (q : Vec Ideal S4x4096x1024 .f32) (k : Vec Ideal S4x4096x512 .f32) (b h : Fin 4) (g c : Fin 2) (t s : Fin 4096) :
    rawT q k (ix6 b h g c t s) = (∑ d : Fin 64, k (ix3 b s ⟨h.val * 128 + c.val * 64 + d.val, by omega⟩)
      * q (ix3 b t ⟨h.val * 256 + g.val * 128 + c.val * 64 + d.val, by omega⟩)) * Ideal.ofBits .f32 0x3E000000#32 := by
  pointwise [rawT]

theorem scoreT_apply (q : Vec Ideal S4x4096x1024 .f32) (k : Vec Ideal S4x4096x512 .f32) (b h : Fin 4) (g c : Fin 2) (t s : Fin 4096) :
    scoreT q k (ix6 b h g c t s) = if s.val ≤ t.val then rawT q k (ix6 b h g c t s) else ⊥ := by
  pointwise [scoreT]
  refine Eq.trans ?_ (congrArg (fun z => if s.val ≤ t.val then rawT q k (ix6 b h g c t s) else z) bits_bot)
  exact select_sge (by have := t.isLt; omega) (by have := s.isLt; omega) _ _

section
variable (x : Vec Ideal S4x4x2x2x4096x4096 .f32) (b h : Fin 4) (g c : Fin 2) (t s : Fin 4096)

theorem maxT_apply : maxT x (ix5 b h g c t) = max ⊥ (Finset.univ.fold max ⊥ fun s => x (ix6 b h g c t s)) := by
  have e : Host.reduce (FloatOps.maximumf (F := Ideal) (φ := .f32)) x (constant (F := Ideal) S_ .f32 0xFF800000#32) reducesTo_S4x4x2x2x4096x4096_S4x4x2x2x4096_d5 h_S_ (ix5 b h g c t)
      = Finset.univ.fold (max : EReal → EReal → EReal) ⊥ (fun s => x (ix6 b h g c t s)) := (max6 _ b h g c t x _ _).trans (congrArg (fun z : EReal => Finset.univ.fold max z fun s => x (ix6 b h g c t s)) bits_bot)
  have h : ∀ w : Vec Ideal S4x4x2x2x4096 .f32, maximumf (broadcastInDim S4x4x2x2x4096 ![] bcast_S_S4x4x2x2x4096 (constant (F := Ideal) S_ .f32 0xFF800000#32)) w (ix5 b h g c t)
      = max ⊥ (w (ix5 b h g c t)) := by
    intro w
    pointwise [bits_bot]
  exact (h _).trans (congrArg (max ⊥) e)

theorem expT_apply : expT x (ix6 b h g c t s) = Ideal.exp (x (ix6 b h g c t s) - maxT x (ix5 b h g c t)) := by
  pointwise [expT]

theorem probT_apply : probT x (ix6 b h g c t s) = Ideal.div (expT x (ix6 b h g c t s)) (∑ i, expT x (ix6 b h g c t i)) := by
  have e : Host.reduceAdd (expT x) (constant (F := Ideal) S_ .f32 0x00000000#32) reducesTo_S4x4x2x2x4096x4096_S4x4x2x2x4096_d5 h_S_ (ix5 b h g c t)
      = ∑ i, expT x (ix6 b h g c t i) := (sum6 _ b h g c t (expT x) _ _).trans ((congrArg (· + ∑ i, expT x (ix6 b h g c t i)) bits_zero).trans (zero_add _))
  refine Eq.trans ?_ (congrArg (Ideal.div (expT x (ix6 b h g c t s))) e)
  unfold probT
  generalize Host.reduceAdd (expT x) (constant (F := Ideal) S_ .f32 0x00000000#32) reducesTo_S4x4x2x2x4096x4096_S4x4x2x2x4096_d5 h_S_ = w
  generalize expT x = y
  pointwise

end

theorem lamT_apply (a b p r : Vec Ideal S64 .f32) (i) : lamT a b p r i = lamOf fun n d => (![a, b, p, r] n) (ix1 d) := by
  pointwise [lamT, lamOf, bits_zero]

theorem diffT_apply (w : Vec Ideal S4x4x2x2x4096x4096 .f32) (l : Vec Ideal S_ .f32) (b h : Fin 4) (g : Fin 2) (t s : Fin 4096) :
    diffT w l (ix5 b h g t s) = w (ix6 b h g 0 t s) - l ix0 * w (ix6 b h g 1 t s) := by
  pointwise [diffT]

theorem outT_apply (v : Vec Ideal S4x4096x512 .f32) (w : Vec Ideal S4x4x2x4096x4096 .f32) (b h : Fin 4) (g : Fin 2) (t : Fin 4096) (e : Fin 128) :
    outT v w (ix5 b t h g e) = ∑ s : Fin 4096, v (ix3 b s ⟨h.val * 128 + e.val, by omega⟩) * w (ix5 b h g t s) := by
  pointwise [outT]

theorem finT_apply (o : Vec Ideal S4x4096x4x2x128 .f32) (S : Vec Ideal S128 .f32) (G : Vec Ideal S4x4096x4096 .f32) (b h : Fin 4) (g : Fin 2) (t : Fin 4096) (e : Fin 128) :
    finT o S G (ix3 b t ⟨256 * h.val + (128 * g.val + e.val), by omega⟩)
      = finish (fun i => o (ix5 b t h g i)) (fun i => S (ix1 i)) (G (ix3 b t ⟨1024 + (256 * h.val + (128 * g.val + e.val)), by omega⟩)) e := by
  pointwise [finT, finish, bits_zero]

end Cert.ReferenceIdeal.Attn
-- ==== Proof.Attn.RefRow.lean ====
/-
  One row of the reference at real arguments: the weighted values of a query are the difference of two softmax averages over the keys up to
  the query's own place, as the kernel's tile computes it; and the whole result at an index.
-/
module

public import proofs.«01_k».proof.Proof.Attn.Ref

@[expose] public section

set_option maxRecDepth 16384

noncomputable section

namespace Cert.ReferenceIdeal.Attn

open Idealize.ShloMosaic Cert.Attn Cert.KernelIdeal.Attn
open Cert.ReferenceIdeal Cert.ReferenceIdeal.Gen

theorem bits_eighth : Ideal.ofBits .f32 0x3E000000#32 = ((1 / 8 : ℝ) : EReal) := by
  simp [Ideal.ofBits, Ideal.ieee]
  exact (EReal.coe_mul _ _).symm.trans (congrArg _ (by norm_num))

section
variable {Q : Vec Ideal S4x4096x1024 .f32} {K V : Vec Ideal S4x4096x512 .f32} {b h : Fin 4} {g : Fin 2} {t : Fin 4096} {q : ℕ → ℝ} {k v : ℕ → ℕ → ℝ}

/-- A score at real queries and keys. -/
theorem score_real (hq : ∀ d : Fin 128, Q (ix3 b t ⟨256 * h.val + (128 * g.val + d.val), by omega⟩) = (q d.val : EReal))
    (hk : ∀ (j : Fin 4096) (d : Fin 128), K (ix3 b j ⟨128 * h.val + d.val, by omega⟩) = (k j.val d.val : EReal)) (c : Fin 2) (s : Fin 4096) :
    scoreT Q K (ix6 b h g c t s)
      = if s.val < t.val + 1 then (dotR (fun d => k s.val (64 * c.val + d)) (fun d => q (64 * c.val + d)) : EReal) else ⊥ := by
  rw [scoreT_apply, rawT_apply, bits_eighth]
  have e : ∀ d : Fin 64, K (ix3 b s ⟨h.val * 128 + c.val * 64 + d.val, by omega⟩) * Q (ix3 b t ⟨h.val * 256 + g.val * 128 + c.val * 64 + d.val, by omega⟩)
      = ((k s.val (64 * c.val + d.val) * q (64 * c.val + d.val) : ℝ) : EReal) := by
    intro d
    have e₁ := hk s ⟨64 * c.val + d.val, by omega⟩
    have e₂ := hq ⟨64 * c.val + d.val, by omega⟩
    rw [EReal.coe_mul, ← e₁, ← e₂]
    refine congrArg₂ (fun x y => K (ix3 b s x) * Q (ix3 b t y)) (Fin.ext ?_) (Fin.ext ?_)
    · show h.val * 128 + c.val * 64 + d.val = 128 * h.val + (64 * c.val + d.val)
      omega
    · show h.val * 256 + g.val * 128 + c.val * 64 + d.val = 256 * h.val + (128 * g.val + (64 * c.val + d.val))
      omega
  rw [Finset.sum_congr rfl fun d _ => e d, coe_sum, ← EReal.coe_mul]
  unfold dotR
  rw [Finset.sum_range]
  exact if_congr (by omega) rfl rfl

/-- The weights of a row at real queries and keys. -/
theorem prob_real (hq : ∀ d : Fin 128, Q (ix3 b t ⟨256 * h.val + (128 * g.val + d.val), by omega⟩) = (q d.val : EReal))
    (hk : ∀ (j : Fin 4096) (d : Fin 128), K (ix3 b j ⟨128 * h.val + d.val, by omega⟩) = (k j.val d.val : EReal)) (c : Fin 2) (s : Fin 4096) :
    probT (scoreT Q K) (ix6 b h g c t s)
      = (((if s.val < t.val + 1 then Real.exp (dotR (fun d => k s.val (64 * c.val + d)) (fun d => q (64 * c.val + d)))
          / ∑ i ∈ Finset.range (t.val + 1), Real.exp (dotR (fun d => k i (64 * c.val + d)) (fun d => q (64 * c.val + d))) else 0 : ℝ)) : EReal) := by
  rw [probT_apply, expT_apply]
  exact weight (Nat.succ_pos _) t.isLt (fun i => dotR (fun d => k i (64 * c.val + d)) (fun d => q (64 * c.val + d)))
    (fun s => scoreT Q K (ix6 b h g c t s)) (fun s => score_real hq hk c s) (maxT_apply (scoreT Q K) b h g c t)
    (Finset.sum_congr rfl fun s _ => expT_apply (scoreT Q K) b h g c t s) s

/-- A row of the weighted values. -/
theorem out_real (hq : ∀ d : Fin 128, Q (ix3 b t ⟨256 * h.val + (128 * g.val + d.val), by omega⟩) = (q d.val : EReal))
    (hk : ∀ (j : Fin 4096) (d : Fin 128), K (ix3 b j ⟨128 * h.val + d.val, by omega⟩) = (k j.val d.val : EReal))
    (hv : ∀ (j : Fin 4096) (d : Fin 128), V (ix3 b j ⟨128 * h.val + d.val, by omega⟩) = (v j.val d.val : EReal))
    {L : Vec Ideal S_ .f32} {l : ℝ} (hl : L ix0 = (l : EReal)) (e : Fin 128) :
    outT V (diffT (probT (scoreT Q K)) L) (ix5 b t h g e) = (rowR (t.val + 1) q k v l e.val : EReal) := by
  rw [outT_apply]
  have eV : ∀ j : Fin 4096, V (ix3 b j ⟨h.val * 128 + e.val, by omega⟩) = (v j.val e.val : EReal) := by
    intro j
    rw [← hv j e]
    exact congrArg (fun x => V (ix3 b j x)) (Fin.ext (by show h.val * 128 + e.val = 128 * h.val + e.val; omega))
  have h₀ := prob_real hq hk 0
  simp only [Fin.val_zero, Nat.mul_zero, Nat.zero_add] at h₀
  have h₁ := prob_real hq hk 1
  simp only [Fin.val_one, Nat.mul_one] at h₁
  refine Eq.trans (Finset.sum_congr rfl fun j _ => ?_) (textbook t.isLt (fun j => dotR (k j) q)
    (fun j => dotR (fun d => k j (64 + d)) (fun d => q (64 + d))) (fun j => v j e.val) l (fun j => (v j.val e.val : EReal)) _ _ (fun _ => rfl) h₀ h₁)
  rw [eV, diffT_apply, hl]

end

end Cert.ReferenceIdeal.Attn
-- ==== Proof.Attn.Finite.lean ====
/-
  What the precondition gives: every entry of the queries, the keys, the values and the four lambda vectors is a real number, and so is the
  factor made of the vectors.
-/
module

public import proofs.«01_k».proof.Proof.Gen.Pre_finite_inputs
public import Idealize.ShloMosaic.Lib.ReduceAll
public import proofs.«01_k».proof.Proof.Attn.Tile

@[expose] public section

set_option maxRecDepth 16384

noncomputable section

namespace Cert.Pre_finite_inputs

open Idealize.ShloMosaic Cert.Attn Cert.KernelIdeal.Attn
open Cert.Pre_finite_inputs.Gen

theorem bits_inf : Ideal.ofBits .f32 0x7F800000#32 = ⊤ := by
  simp [Ideal.ofBits, Ideal.ieee]

/-- An extended real is a real number. -/
def IsReal (x : EReal) : Prop := ∃ r : ℝ, x = (r : EReal)

theorem IsReal.toReal {x : EReal} (h : IsReal x) : x = (x.toReal : EReal) := by
  obtain ⟨r, rfl⟩ := h
  rfl

theorem isReal_of_abs {x : EReal} (h : Ideal.cmp .olt (max x (-x)) (Ideal.ofBits .f32 0x7F800000#32) = 1#1) : IsReal x := by
  rw [bits_inf] at h
  induction x with
  | bot => exact absurd h (by simp [Ideal.cmp])
  | top => exact absurd h (by simp [Ideal.cmp])
  | coe r => exact ⟨r, rfl⟩

instance : Subsingleton S_.Idx := ⟨fun x y => funext fun a => a.elim0⟩

/-- One argument's share of the precondition. -/
theorem real_of_all {s : Shape} {axes : List (Fin s.rank)} (hb : S_.BroadcastsInDim s ![]) (hr : s.ReducesTo axes S_) (a : FVec Ideal s .f32)
    (h : Host.reduce IntOp.andi (cmpf .olt (Host.absf a) (broadcastInDim s ![] hb (constant (F := Ideal) S_ .f32 0x7F800000#32))) (constantI S_ 1 1#1) hr h_S_ ix0 = 1#1) (i : s.Idx) :
    IsReal (a i) :=
  isReal_of_abs (Host.reduce_andi_all _ _ hr h_S_ ix0 h i)

variable {a0 a1 : FVec Ideal S4x4096x1024 .f32} {a2 a3 : FVec Ideal S4x4096x512 .f32} {a4 : FVec Ideal S4x4096x4096 .f32} {a5 a6 a7 a8 : FVec Ideal S64 .f32} {a9 : FVec Ideal S128 .f32}

theorem all_real (H : fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a5 i)) ∧ (∀ i, IsReal (a6 i)) ∧ (∀ i, IsReal (a7 i)) ∧ (∀ i, IsReal (a8 i)) := by
  have h := congrFun H ix0
  unfold fn fn_part1 at h
  obtain ⟨h, h8⟩ := Idealize.ShloMosaic.IntOp.andi_eq_one.1 h
  obtain ⟨h, h7⟩ := Idealize.ShloMosaic.IntOp.andi_eq_one.1 h
  obtain ⟨h, h6⟩ := Idealize.ShloMosaic.IntOp.andi_eq_one.1 h
  obtain ⟨h, h5⟩ := Idealize.ShloMosaic.IntOp.andi_eq_one.1 h
  obtain ⟨h, h3⟩ := Idealize.ShloMosaic.IntOp.andi_eq_one.1 h
  obtain ⟨h0, h2⟩ := Idealize.ShloMosaic.IntOp.andi_eq_one.1 h
  exact ⟨real_of_all _ _ a0 h0, real_of_all _ _ a2 h2, real_of_all _ _ a3 h3, real_of_all _ _ a5 h5, real_of_all _ _ a6 h6, real_of_all _ _ a7 h7, real_of_all _ _ a8 h8⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.exp_sum {a b : Fin 64 → EReal} (ha : ∀ d, IsReal (a d)) (hb : ∀ d, IsReal (b d)) : IsReal (Ideal.exp (∑ d, a d * b d)) := by
  choose f hf using fun d => (ha d).mul (hb d)
  rw [Finset.sum_congr rfl fun d _ => hf d, coe_sum]
  exact ⟨Real.exp (∑ d, f d), rfl⟩

theorem lam_real {L : Fin 4 → Fin 64 → EReal} (h : ∀ i d, IsReal (L i d)) : IsReal (lamOf L) := by
  obtain ⟨x, hx⟩ := IsReal.exp_sum (h 0) (h 1)
  obtain ⟨y, hy⟩ := IsReal.exp_sum (h 2) (h 3)
  have hc : IsReal (Ideal.ofBits .f32 0x3E4CCCCD#32) := ⟨_, by simp only [Ideal.ofBits, Ideal.ieee]; simp; exact (EReal.coe_mul _ _).symm⟩
  obtain ⟨z, hz⟩ := hc
  unfold lamOf
  rw [hx, hy, hz]
  exact ⟨x - y + z, by rw [EReal.coe_add, EReal.coe_sub]⟩

end Cert.Pre_finite_inputs
-- ==== Proof.Attn.Result.lean ====
/-
  The result array after the call, at real arguments: the reference's own stages of the call's arguments. Point t writes one block of the
  array, and each entry of the block is a finished row on both sides.
-/
module

public import proofs.«01_k».proof.Proof.Attn.Blocks
public import proofs.«01_k».proof.Proof.Attn.Stack
public import proofs.«01_k».proof.Proof.Attn.RefRow
public import proofs.«01_k».proof.Proof.Attn.Finite

@[expose] public section

set_option maxRecDepth 16384

noncomputable section

namespace Cert.KernelIdeal.Attn

open Cert.Attn Idealize.ShloMosaic Idealize.ShloMosaic.TcCoe Idealize.ShloMosaic.Tactic
open Idealize.SL.Sem
open Cert.KernelIdeal.Gen
open Cert.Pre_finite_inputs (IsReal lam_real)
open Cert.ReferenceIdeal.Attn (finT outT diffT probT scoreT lamT finT_apply out_real lamT_apply)

/-- The reference's result as a function of the arguments. -/
def want (q : Vec Ideal S4x4096x1024 .f32) (k v : Vec Ideal S4x4096x512 .f32) (G : Vec Ideal S4x4096x4096 .f32) (a b p r : Vec Ideal S64 .f32) (S : Vec Ideal S128 .f32) :
    Vec Ideal S4x4096x1024 .bf16 :=
  finT (outT v (diffT (probT (scoreT q k)) (lamT a b p r))) S G

variable (m : (ℓ : Loc nD τ sig) → Buf (Elt Ideal) ℓ) (c : Dev nD) (t : Fin cfg0.N)

theorem blk0 (r : Fin 512) (x : Fin 256) : iblk m c 0 t (ix3 0 r x)
    = m ((c : Thread nD τ).loc main_arg0) (ix3 ⟨t.val / 32, by have := t_lt t; omega⟩ ⟨512 * (t.val % 8) + r.val, by omega⟩ ⟨256 * (t.val / 8 % 4) + x.val, by omega⟩) :=
  (congrArg (V m c main_v3) (emb0 t r x)).trans (arr3 m c _ _ ⟨256 * (t.val / 8 % 4) + x.val, by omega⟩)

theorem blk1 (j : Fin 4096) (x : Fin 128) : iblk m c 1 t (ix3 0 j x)
    = m ((c : Thread nD τ).loc main_arg2) (ix3 ⟨t.val / 32, by have := t_lt t; omega⟩ j ⟨128 * (t.val / 8 % 4) + x.val, by omega⟩) :=
  (congrArg (V m c main_v5) (emb1 t j x)).trans (arr5_k m c _ _ ⟨128 * (t.val / 8 % 4) + x.val, by omega⟩)

theorem blk2 (j : Fin 4096) (x : Fin 128) : iblk m c 2 t (ix3 0 j x)
    = m ((c : Thread nD τ).loc main_arg3) (ix3 ⟨t.val / 32, by have := t_lt t; omega⟩ j ⟨128 * (t.val / 8 % 4) + x.val, by omega⟩) :=
  (congrArg (V m c main_v5) (emb2 t j x)).trans (arr5_v m c _ _ ⟨128 * (t.val / 8 % 4) + x.val, by omega⟩)

theorem blk3 (r : Fin 512) (x : Fin 256) : iblk m c 3 t (ix3 0 r x)
    = m ((c : Thread nD τ).loc main_arg4) (ix3 ⟨t.val / 32, by have := t_lt t; omega⟩ ⟨512 * (t.val % 8) + r.val, by omega⟩ ⟨1024 + (256 * (t.val / 8 % 4) + x.val), by omega⟩) :=
  (congrArg (V m c main_v11) (emb3 t r x)).trans (arr11 m c _ _ _)

theorem blk4 (i : Fin 4) (d : Fin 64) : iblk m c 4 t (ix2 i d)
    = (![m ((c : Thread nD τ).loc main_arg5) (ix1 d), m ((c : Thread nD τ).loc main_arg6) (ix1 d), m ((c : Thread nD τ).loc main_arg7) (ix1 d), m ((c : Thread nD τ).loc main_arg8) (ix1 d)] : Fin 4 → EReal) i :=
  (congrArg (V m c main_v10) (emb4 t i d)).trans (arr10 m c i d)

theorem blk5 (x : Fin 128) : iblk m c 5 t (ix2 0 x) = m ((c : Thread nD τ).loc main_arg9) (ix1 x) :=
  (congrArg (V m c main_v12) (emb5 t x)).trans (arr12 m c x)

section
variable (q : Vec Ideal S4x4096x1024 .f32) (k v : Vec Ideal S4x4096x512 .f32) (b h : Fin 4) (g : Fin 2) (s : Fin 4096)

/-- A query, as real numbers. -/
def qR (d : ℕ) : ℝ := (q (ix3 b s ⟨(256 * h.val + (128 * g.val + d)) % 1024, Nat.mod_lt _ (by norm_num)⟩)).toReal

/-- A head's keys, or its values, as real numbers. -/
def kR (j d : ℕ) : ℝ := (k (ix3 b ⟨j % 4096, Nat.mod_lt _ (by norm_num)⟩ ⟨(128 * h.val + d) % 512, Nat.mod_lt _ (by norm_num)⟩)).toReal

theorem qR_eq (hq : ∀ i, IsReal (q i)) (d : Fin 128) : q (ix3 b s ⟨256 * h.val + (128 * g.val + d.val), by omega⟩) = (qR q b h g s d.val : EReal) := by
  refine Eq.trans ?_ (hq _).toReal
  exact congrArg (fun x => q (ix3 b s x)) (Fin.ext (Nat.mod_eq_of_lt (by omega)).symm)

theorem kR_eq (hk : ∀ i, IsReal (k i)) (j : ℕ) (d : Fin 128) :
    k (ix3 b ⟨j % 4096, Nat.mod_lt _ (by norm_num)⟩ ⟨128 * h.val + d.val, by omega⟩) = (kR k b h j d.val : EReal) := by
  refine Eq.trans ?_ (hk _).toReal
  exact congrArg (fun x => k (ix3 b _ x)) (Fin.ext (Nat.mod_eq_of_lt (by omega)).symm)

theorem kR_eq' (hk : ∀ i, IsReal (k i)) (j : Fin 4096) (d : Fin 128) :
    k (ix3 b j ⟨128 * h.val + d.val, by omega⟩) = (kR k b h j.val d.val : EReal) := by
  refine Eq.trans ?_ (kR_eq k b h hk j.val d)
  exact congrArg (fun x => k (ix3 b x _)) (Fin.ext (Nat.mod_eq_of_lt j.isLt).symm)

/-- The reference's result at an index. -/
theorem want_apply {G : Vec Ideal S4x4096x4096 .f32} {a₁ a₂ a₃ a₄ : Vec Ideal S64 .f32} {S : Vec Ideal S128 .f32} {l : ℝ}
    (hq : ∀ i, IsReal (q i)) (hk : ∀ i, IsReal (k i)) (hv : ∀ i, IsReal (v i)) (hl : (lamOf fun n d => (![a₁, a₂, a₃, a₄] n) (ix1 d)) = (l : EReal)) (e : Fin 128) :
    want q k v G a₁ a₂ a₃ a₄ S (ix3 b s ⟨256 * h.val + (128 * g.val + e.val), by omega⟩)
      = finish (fun e => (rowR (s.val + 1) (qR q b h g s) (kR k b h) (kR v b h) l e.val : EReal)) (fun i => S (ix1 i))
        (G (ix3 b s ⟨1024 + (256 * h.val + (128 * g.val + e.val)), by omega⟩)) e := by
  unfold want
  rw [finT_apply]
  refine congrArg (fun o => finish o _ _ e) (funext fun i => ?_)
  exact out_real (qR_eq q b h g s hq) (kR_eq' k b h hk) (kR_eq' v b h hv) ((lamT_apply _ _ _ _ _).trans hl) i

end

/-- One entry of what point t leaves is the reference's. -/
theorem out_apply (hq : ∀ i, IsReal (m ((c : Thread nD τ).loc main_arg0) i)) (hk : ∀ i, IsReal (m ((c : Thread nD τ).loc main_arg2) i)) (hv : ∀ i, IsReal (m ((c : Thread nD τ).loc main_arg3) i))
    (h₁ : ∀ i, IsReal (m ((c : Thread nD τ).loc main_arg5) i)) (h₂ : ∀ i, IsReal (m ((c : Thread nD τ).loc main_arg6) i))
    (h₃ : ∀ i, IsReal (m ((c : Thread nD τ).loc main_arg7) i)) (h₄ : ∀ i, IsReal (m ((c : Thread nD τ).loc main_arg8) i))
    (r : Fin 512) (g : Fin 2) (e : Fin 128) :
    outAt m c t (ix3 0 r ⟨128 * g.val + e.val, by omega⟩)
      = want (m ((c : Thread nD τ).loc main_arg0)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9))
        (ix3 ⟨t.val / 32, by have := t_lt t; omega⟩ ⟨512 * (t.val % 8) + r.val, by omega⟩ ⟨256 * (t.val / 8 % 4) + (128 * g.val + e.val), by omega⟩) := by
  have hL : ∀ i d, IsReal ((![m ((c : Thread nD τ).loc main_arg5), m ((c : Thread nD τ).loc main_arg6), m ((c : Thread nD τ).loc main_arg7), m ((c : Thread nD τ).loc main_arg8)] : Fin 4 → Vec Ideal S64 .f32) i (ix1 d)) := by
    intro i d
    fin_cases i
    · exact h₁ _
    · exact h₂ _
    · exact h₃ _
    · exact h₄ _
  obtain ⟨l, hl⟩ := lam_real hL
  have hb : t.val / 32 < 4 := by have := t_lt t; omega
  have hh : t.val / 8 % 4 < 4 := Nat.mod_lt _ (by norm_num)
  have hs : 512 * (t.val % 8) + r.val < 4096 := by omega
  have hT : 512 * (t.val % 8) + (r.val + 1) = (⟨512 * (t.val % 8) + r.val, hs⟩ : Fin 4096).val + 1 := by simp only []; omega
  rw [want_apply _ _ _ ⟨t.val / 32, hb⟩ ⟨t.val / 8 % 4, hh⟩ g ⟨512 * (t.val % 8) + r.val, hs⟩ hq hk hv hl e]
  unfold outAt
  rw [tile_val]
  refine (tile g.isLt (q := qR (m ((c : Thread nD τ).loc main_arg0)) ⟨t.val / 32, hb⟩ ⟨t.val / 8 % 4, hh⟩ g ⟨512 * (t.val % 8) + r.val, hs⟩)
    (k := kR (m ((c : Thread nD τ).loc main_arg2)) ⟨t.val / 32, hb⟩ ⟨t.val / 8 % 4, hh⟩) (v := kR (m ((c : Thread nD τ).loc main_arg3)) ⟨t.val / 32, hb⟩ ⟨t.val / 8 % 4, hh⟩)
    (fun d => (blk0 m c t r _).trans (qR_eq _ _ ⟨t.val / 8 % 4, hh⟩ g _ hq d))
    (fun j d => (blk1 m c t _ d).trans (kR_eq _ _ ⟨t.val / 8 % 4, hh⟩ hk j d))
    (fun j d => (blk2 m c t _ d).trans (kR_eq _ _ ⟨t.val / 8 % 4, hh⟩ hv j d)) (l := l) ?_ (t.val % 8) e).trans ?_
  · rw [← hl]
    refine congrArg lamOf (funext fun i => funext fun d => (blk4 m c t i d).trans ?_)
    fin_cases i <;> rfl
  · rw [hT]
    refine congrArg₂ (fun S G => finish _ S G e) (funext fun i => blk5 m c t i) (blk3 m c t r _)

end Cert.KernelIdeal.Attn
-- ==== Proof.Attn.Final.lean ====
/-
  The result array of the whole call, and the claim: at finite arguments the call and the plain mathematics compute the same array.
-/
module

public import proofs.«01_k».proof.Defs
public import proofs.«01_k».proof.Proof.Attn.Result
public import proofs.«01_k».proof.Proof.Gen.ReferenceIdeal
public import proofs.«01_k».proof.Proof.Gen.Pre_finite_inputs
public import Idealize.ShloMosaic.Lib.Pipeline.ValueKit.Geometry

@[expose] public section

set_option maxRecDepth 16384

noncomputable section

namespace Cert.KernelIdeal.Attn

open Cert.Attn Idealize.ShloMosaic Idealize.ShloMosaic.TcCoe Idealize.ShloMosaic.Tactic
open Idealize.SL.Sem
open Cert.KernelIdeal.Gen
open Cert.Pre_finite_inputs (IsReal)

variable (m : (ℓ : Loc nD τ sig) → Buf (Elt Ideal) ℓ) (c : Dev nD)

/-- The reference's result at the arguments device `c` was given. -/
def wantAt : Vec Ideal S4x4096x1024 .bf16 :=
  want (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- What the body leaves at an index of its block is the reference's result where the block sits. -/
theorem block_want (H : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1)
    (t : Fin cfg0.N) (r : Fin 512) (x : Fin 256) :
    outAt m c t (ix3 0 r x) = wantAt m c (((cfg0.win 6).blk t).view.emb (ix3 0 r x)) := by
  obtain ⟨h0, h2, h3, h5, h6, h7, h8⟩ := Cert.Pre_finite_inputs.all_real H
  have key := out_apply m c t h0 h2 h3 h5 h6 h7 h8 r ⟨x.val / 128, by omega⟩ ⟨x.val % 128, Nat.mod_lt _ (by norm_num)⟩
  have hx : 128 * (x.val / 128) + x.val % 128 = x.val := Nat.div_add_mod _ _
  simp only [hx] at key
  rw [emb6 t r x]
  unfold wantAt
  exact key

/-- The result array after the call. -/
theorem final (H : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) :
    (dats m 0 c).arrAt 6 cfg0.N = wantAt m c := by
  refine (dats m 0 c).arrAt_eq_of_covers 6 _ (by decide +kernel) fun t hf y => ?_
  blk_simp
  rw [after_6]
  idx_vars y
  obtain rfl : y0 = 0 := Subsingleton.elim _ _
  have key := block_want m c H t y1 y2
  generalize wantAt m c = G at key ⊢
  rw [key]

end Cert.KernelIdeal.Attn

namespace Cert.Proof

open Idealize.ShloMosaic Idealize.ShloMosaic.TcCoe Idealize.SL.Sem

/-- The reference's result, at arguments that are the kernel's. -/
theorem reference_want (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v60 m' c = Cert.KernelIdeal.Attn.wantAt m c := by
  obtain ⟨e0, -, e2, e3, e4, e5, e6, e7, e8, e9⟩ := h
  rw [Cert.ReferenceIdeal.Attn.res_eq]
  unfold Cert.KernelIdeal.Attn.wantAt Cert.KernelIdeal.Attn.want
  rw [e0, e2, e3, e4, e5, e6, e7, e8, e9]

/-- At finite arguments the call leaves in its result array what the plain mathematics computes. -/
theorem algebraic : Cert.algebraic_KernelIdeal_ReferenceIdeal_pre_finite_inputs := fun m g m' g' hpre h =>
  ⟨fun c => Cert.KernelIdeal.Attn.wantAt m c,
    (θ_run Cert.KernelIdeal.defs _ _).mono
      (fun r hr c => ⟨(hr.1.out_eq c 6).trans (Cert.KernelIdeal.Attn.final m c (hpre c)), Cert.KernelIdeal.Attn.kept m r hr.1 c⟩)
      (Cert.KernelIdeal.Attn.run_main (F := Ideal) m g),
    (θ_run Cert.ReferenceIdeal.defs _ _).mono
      (fun r hr c => ⟨(hr c).1.trans (reference_want m m' c (h c)), (hr c).2⟩)
      (Cert.ReferenceIdeal.Value.run (F := Ideal) m' g')⟩

end Cert.Proof
-- ==== Proof.Calls.lean ====
/- The frames of the further calls: each kernel's generated frame, and each reference's generated run (host code alone, no counter). -/
module

public import proofs.«01_k».proof.Defs
public import proofs.«01_k».proof.Proof.Gen.Merge.Frame
public import proofs.«01_k».proof.Proof.Gen.MergeIdeal.Frame
public import proofs.«01_k».proof.Proof.Gen.MergeRefIdeal.Run
public import proofs.«01_k».proof.Proof.Gen.Silu.Frame
public import proofs.«01_k».proof.Proof.Gen.SiluIdeal.Frame
public import proofs.«01_k».proof.Proof.Gen.SiluRefIdeal.Run
public import proofs.«01_k».proof.Proof.Gen.Gates.Frame
public import proofs.«01_k».proof.Proof.Gen.GatesIdeal.Frame
public import proofs.«01_k».proof.Proof.Gen.GatesRefIdeal.Run
public import proofs.«01_k».proof.Proof.Gen.Glu.Frame
public import proofs.«01_k».proof.Proof.Gen.GluIdeal.Frame
public import proofs.«01_k».proof.Proof.Gen.GluRefIdeal.Run
public import proofs.«01_k».proof.Proof.Gen.Queries.Frame
public import proofs.«01_k».proof.Proof.Gen.QueriesIdeal.Frame
public import proofs.«01_k».proof.Proof.Gen.QueriesRefIdeal.Run
public import proofs.«01_k».proof.Proof.Gen.Memory.Frame
public import proofs.«01_k».proof.Proof.Gen.MemoryIdeal.Frame
public import proofs.«01_k».proof.Proof.Gen.MemoryRefIdeal.Run
public import proofs.«01_k».proof.Proof.Gen.Keys.Frame
public import proofs.«01_k».proof.Proof.Gen.KeysIdeal.Frame
public import proofs.«01_k».proof.Proof.Gen.KeysRefIdeal.Run
public import proofs.«01_k».proof.Proof.Gen.ScanInput.Frame
public import proofs.«01_k».proof.Proof.Gen.ScanInputIdeal.Frame
public import proofs.«01_k».proof.Proof.Gen.ScanInputRefIdeal.Run
public import Idealize.ShloMosaic.Adequacy
public import Idealize.ShloMosaic.Init

@[expose] public section

set_option maxRecDepth 16384

noncomputable section

namespace Cert.Proof

open Idealize.ShloMosaic Idealize.SL.Sem

theorem frame_merge : Cert.quiescent_Merge := fun m ρ _ => Cert.Merge.Gen.frame (F := Bits) m ρ
theorem frame_mergeIdeal : Cert.quiescent_MergeIdeal := fun m ρ _ => Cert.MergeIdeal.Gen.frame (F := Ideal) m ρ
theorem frame_mergeRefIdeal : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

theorem frame_silu : Cert.quiescent_Silu := fun m ρ _ => Cert.Silu.Gen.frame (F := Bits) m ρ
theorem frame_siluIdeal : Cert.quiescent_SiluIdeal := fun m ρ _ => Cert.SiluIdeal.Gen.frame (F := Ideal) m ρ
theorem frame_siluRefIdeal : Cert.quiescent_SiluRefIdeal := fun m ρ _ =>
  (θ_run Cert.SiluRefIdeal.defs _ _).mono (fun r h => ⟨fun c => (h c).2, sem_eq_zero_of_no_sems (by decide) r.2⟩)
    (Cert.SiluRefIdeal.Value.run (F := Ideal) m ρ)

theorem frame_gates : Cert.quiescent_Gates := fun m ρ _ => Cert.Gates.Gen.frame (F := Bits) m ρ
theorem frame_gatesIdeal : Cert.quiescent_GatesIdeal := fun m ρ _ => Cert.GatesIdeal.Gen.frame (F := Ideal) m ρ
theorem frame_gatesRefIdeal : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

theorem frame_glu : Cert.quiescent_Glu := fun m ρ _ => Cert.Glu.Gen.frame (F := Bits) m ρ
theorem frame_gluIdeal : Cert.quiescent_GluIdeal := fun m ρ _ => Cert.GluIdeal.Gen.frame (F := Ideal) m ρ
theorem frame_gluRefIdeal : Cert.quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

theorem frame_queries : Cert.quiescent_Queries := fun m ρ _ => Cert.Queries.Gen.frame (F := Bits) m ρ
theorem frame_queriesIdeal : Cert.quiescent_QueriesIdeal := fun m ρ _ => Cert.QueriesIdeal.Gen.frame (F := Ideal) m ρ
theorem frame_queriesRefIdeal : Cert.quiescent_QueriesRefIdeal := fun m ρ _ =>
  (θ_run Cert.QueriesRefIdeal.defs _ _).mono (fun r h => ⟨fun c => (h c).2, sem_eq_zero_of_no_sems (by decide) r.2⟩)
    (Cert.QueriesRefIdeal.Value.run (F := Ideal) m ρ)

theorem frame_memory : Cert.quiescent_Memory := fun m ρ _ => Cert.Memory.Gen.frame (F := Bits) m ρ
theorem frame_memoryIdeal : Cert.quiescent_MemoryIdeal := fun m ρ _ => Cert.MemoryIdeal.Gen.frame (F := Ideal) m ρ
theorem frame_memoryRefIdeal : Cert.quiescent_MemoryRefIdeal := fun m ρ _ =>
  (θ_run Cert.MemoryRefIdeal.defs _ _).mono (fun r h => ⟨fun c => (h c).2, sem_eq_zero_of_no_sems (by decide) r.2⟩)
    (Cert.MemoryRefIdeal.Value.run (F := Ideal) m ρ)

theorem frame_keys : Cert.quiescent_Keys := fun m ρ _ => Cert.Keys.Gen.frame (F := Bits) m ρ
theorem frame_keysIdeal : Cert.quiescent_KeysIdeal := fun m ρ _ => Cert.KeysIdeal.Gen.frame (F := Ideal) m ρ
theorem frame_keysRefIdeal : Cert.quiescent_KeysRefIdeal := fun m ρ _ =>
  (θ_run Cert.KeysRefIdeal.defs _ _).mono (fun r h => ⟨fun c => (h c).2.2, sem_eq_zero_of_no_sems (by decide) r.2⟩)
    (Cert.KeysRefIdeal.Value.run (F := Ideal) m ρ)

theorem frame_scanInput : Cert.quiescent_ScanInput := fun m ρ _ => Cert.ScanInput.Gen.frame (F := Bits) m ρ
theorem frame_scanInputIdeal : Cert.quiescent_ScanInputIdeal := fun m ρ _ => Cert.ScanInputIdeal.Gen.frame (F := Ideal) m ρ
theorem frame_scanInputRefIdeal : Cert.quiescent_ScanInputRefIdeal := fun m ρ _ =>
  (θ_run Cert.ScanInputRefIdeal.defs _ _).mono (fun r h => ⟨fun c => (h c).2, sem_eq_zero_of_no_sems (by decide) r.2⟩)
    (Cert.ScanInputRefIdeal.Value.run (F := Ideal) m ρ)

end Cert.Proof

end
-- ==== Proof.Proj.MergeRef.lean ====
/-
  The reference of the merge call, read at an index: the four branches through their own weights, gated and summed, the output
  projection, and the LayerNorm of the sum with the scaled input.
-/
module

public import proofs.«01_k».proof.Defs
public import proofs.«01_k».proof.Proof.Gen.MergeRefIdeal
public import proofs.«01_k».proof.Proof.Gen.MergeRefIdeal.Run
public import Idealize.ShloMosaic.Lib.Claim
public import Idealize.ShloMosaic.Lib.Pointwise

@[expose] public section

set_option maxRecDepth 16384

noncomputable section

namespace Cert.MergeRefIdeal.Proj

open Idealize.ShloMosaic Idealize.ShloMosaic.TcCoe Idealize.ShloMosaic.Tactic
open Cert.MergeRefIdeal Cert.MergeRefIdeal.Gen

variable {F : FTy → Type} [FloatOps F]

/-- The four branches side by side. -/
def br (y₀ y₁ y₂ y₃ : Vec F S4x4096x1024 .f32) : Vec F S4x4096x4x1024 .f32 :=
  concatenate S4x4096x4x1024 2 [⟨S4x4096x1x1024, broadcastInDim S4x4096x1x1024 ![0, 1, 3] bcast_S4x4096x1024_S4x4096x1x1024_0_1_3 y₀⟩, ⟨S4x4096x1x1024, broadcastInDim S4x4096x1x1024 ![0, 1, 3] bcast_S4x4096x1024_S4x4096x1x1024_0_1_3 y₁⟩, ⟨S4x4096x1x1024, broadcastInDim S4x4096x1x1024 ![0, 1, 3] bcast_S4x4096x1024_S4x4096x1x1024_0_1_3 y₂⟩, ⟨S4x4096x1x1024, broadcastInDim S4x4096x1x1024 ![0, 1, 3] bcast_S4x4096x1024_S4x4096x1x1024_0_1_3 y₃⟩] concatenates_S4x4096x1x1024_S4x4096x1x1024_S4x4096x1x1024_S4x4096x1x1024_S4x4096x4x1024_d2

/-- Each branch through its weights. -/
def proj (b : Vec F S4x4096x4x1024 .f32) (w : Vec F S4x1024x1024 .f32) : Vec F S4x4096x4x1024 .f32 :=
  transpose S4x4096x4x1024 [2, 3, 0, 1] (Host.dotGeneral dot_S4x1024x1024_S4x4096x4x1024_S4x1024x4x4096_1_3_2_01_0_2 none w b) transposes_S4x1024x4x4096_S4x4096x4x1024_2_3_0_1

/-- The gated sum over the branches. -/
def mix (p : Vec F S4x4096x4x1024 .f32) (g : Vec F S4x4096x4096 .f32) : Vec F S4x4096x1024 .f32 :=
  Host.reduceAdd (mulf (shapeCast _ g shapeCasts_S4x4096x4096_S4x4096x4x1024) p) (constant S_ .f32 0x00000000#32) reducesTo_S4x4096x4x1024_S4x4096x1024_d2 h_S_

/-- The scaled input plus the output projection. -/
def resid (s : Vec F S4x4096x1024 .f32) (w : Vec F S1024x1024 .f32) (x : Vec F S4x4096x1024 .f32) : Vec F S4x4096x1024 .f32 :=
  addf (mulf (broadcastInDim S4x4096x1024 ![] bcast_S_S4x4096x1024 (constant S_ .f32 0x3FD744FD#32)) x) (Host.dotGeneral dot_S4x4096x1024_S1024x1024_S4x4096x1024_2_0_01_1_n_n none s w)

/-- The mean over the last axis. -/
def mean (z : Vec F S4x4096x1024 .f32) : Vec F S4x4096x1 .f32 :=
  Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))

/-- An array less a mean spread over the last axis. -/
def centred (z : Vec F S4x4096x1024 .f32) (u : Vec F S4x4096x1 .f32) : Vec F S4x4096x1024 .f32 :=
  subf z (broadcastInDim S4x4096x1024 ![0, 1, 2] bcast_S4x4096x1_S4x4096x1024_0_1_2 u)

/-- Each entry's square. -/
def sq (d : Vec F S4x4096x1024 .f32) : Vec F S4x4096x1024 .f32 := mulf d d

/-- The centred array over its deviation, scaled and shifted. -/
def norm (d : Vec F S4x4096x1024 .f32) (v : Vec F S4x4096x1 .f32) (g b : Vec F S1024 .f32) : Vec F S16384x1024 .f32 :=
  shapeCast _ (addf (mulf (mulf d (broadcastInDim S4x4096x1024 ![0, 1, 2] bcast_S4x4096x1_S4x4096x1024_0_1_2 (Host.rsqrt (addf v (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S1x1x1024_S4x4096x1024_0_1_2 (broadcastInDim S1x1x1024 ![2] bcast_S1024_S1x1x1024_2 b))) shapeCasts_S4x4096x1024_S16384x1024

/-- The LayerNorm over the last axis. -/
def ln (z : Vec F S4x4096x1024 .f32) (g b : Vec F S1024 .f32) : Vec F S16384x1024 .f32 :=
  norm (centred z (mean z)) (mean (sq (centred z (mean z)))) g b

/-- The reference's first result as a function of its arguments. -/
def want (y₀ y₁ y₂ y₃ : Vec F S4x4096x1024 .f32) (g : Vec F S4x4096x4096 .f32) (wb : Vec F S4x1024x1024 .f32) (wo : Vec F S1024x1024 .f32)
    (x : Vec F S4x4096x1024 .f32) (lg lb : Vec F S1024 .f32) : Vec F S16384x1024 .f32 :=
  ln (resid (mix (proj (br y₀ y₁ y₂ y₃) wb) g) wo x) lg lb

variable (m : (ℓ : Loc nD τ sig) → Buf (Elt F) ℓ) (c : Dev nD)

/-- The reference's first result at its arguments. -/
abbrev wantAt : Vec F S16384x1024 .f32 :=
  want (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

theorem res0 : Value.res_main_v38 m c = wantAt m c := rfl
theorem res1 : Value.res_main_v39 m c = truncf .bf16 (wantAt m c) bitsLt_bf16_f32 := rfl

section Ideal

theorem br_apply (y₀ y₁ y₂ y₃ : Vec Ideal S4x4096x1024 .f32) (b : Fin 4) (s : Fin 4096) (q : Fin 4) (k : Fin 1024) :
    br y₀ y₁ y₂ y₃ (ix4 b s q k) = (![y₀, y₁, y₂, y₃] : Fin 4 → Vec Ideal S4x4096x1024 .f32) q (ix3 b s k) := by
  fin_cases q <;> pointwise [br] <;> rfl

theorem proj_apply (b : Vec Ideal S4x4096x4x1024 .f32) (w : Vec Ideal S4x1024x1024 .f32) (i : Fin 4) (s : Fin 4096) (q : Fin 4) (n : Fin 1024) :
    proj b w (ix4 i s q n) = ∑ k : Fin 1024, b (ix4 i s q k) * w (ix3 q k n) := by
  refine Eq.trans (b := ∑ k : Fin 1024, w (ix3 q k n) * b (ix4 i s q k)) ?_ (Finset.sum_congr rfl fun k _ => mul_comm _ _)
  pointwise [proj]

theorem mix_apply (p : Vec Ideal S4x4096x4x1024 .f32) (g : Vec Ideal S4x4096x4096 .f32) (i : Fin 4) (s : Fin 4096) (n : Fin 1024) :
    mix p g (ix3 i s n) = ∑ q : Fin 4, g (ix3 i s ⟨q.val * 1024 + n.val, by omega⟩) * p (ix4 i s q n) := by
  pointwise [mix]

theorem resid_apply (u : Vec Ideal S4x4096x1024 .f32) (w : Vec Ideal S1024x1024 .f32) (x : Vec Ideal S4x4096x1024 .f32) (i : Fin 4) (s : Fin 4096) (n : Fin 1024) :
    resid u w x (ix3 i s n) = Ideal.ofBits .f32 0x3FD744FD#32 * x (ix3 i s n) + ∑ k : Fin 1024, u (ix3 i s k) * w (ix2 k n) := by
  pointwise [resid]

theorem mean_apply (z : Vec Ideal S4x4096x1024 .f32) (i : Fin 4) (s : Fin 4096) (o : Fin 1) :
    mean z (ix3 i s o) = Ideal.div (∑ k : Fin 1024, z (ix3 i s k)) (Ideal.ofBits .f32 0x44800000#32) := by
  pointwise [mean]

theorem centred_apply (z : Vec Ideal S4x4096x1024 .f32) (u : Vec Ideal S4x4096x1 .f32) (i : Fin 4) (s : Fin 4096) (n : Fin 1024) :
    centred z u (ix3 i s n) = z (ix3 i s n) - u (ix3 i s 0) := by
  pointwise [centred]

theorem sq_apply (d : Vec Ideal S4x4096x1024 .f32) (j : S4x4096x1024.Idx) : sq d j = d j * d j := rfl

theorem norm_apply (d : Vec Ideal S4x4096x1024 .f32) (v : Vec Ideal S4x4096x1 .f32) (g b : Vec Ideal S1024 .f32) (i : Fin 16384) (n : Fin 1024) :
    norm d v g b (ix2 i n) = d (ix3 ⟨i.val / 4096, by omega⟩ ⟨i.val % 4096, by omega⟩ n)
      * Ideal.rsqrt (v (ix3 ⟨i.val / 4096, by omega⟩ ⟨i.val % 4096, by omega⟩ 0) + Ideal.ofBits .f32 0x3727C5AC#32) * g (ix1 n) + b (ix1 n) := by
  pointwise [norm]

/-- A row's mean. -/
def mu (z : Fin 1024 → Elt Ideal .f32) : Elt Ideal .f32 := Ideal.div (∑ k : Fin 1024, z k) (Ideal.ofBits .f32 0x44800000#32)

/-- One entry of a row's LayerNorm. -/
def lnAt (z : Fin 1024 → Elt Ideal .f32) (g b : Elt Ideal .f32) (n : Fin 1024) : Elt Ideal .f32 :=
  (z n - mu z) * Ideal.rsqrt (mu (fun k => (z k - mu z) * (z k - mu z)) + Ideal.ofBits .f32 0x3727C5AC#32) * g + b

theorem ln_apply (z : Vec Ideal S4x4096x1024 .f32) (g b : Vec Ideal S1024 .f32) (i : Fin 16384) (n : Fin 1024) :
    ln z g b (ix2 i n) = lnAt (fun k => z (ix3 ⟨i.val / 4096, by omega⟩ ⟨i.val % 4096, by omega⟩ k)) (g (ix1 n)) (b (ix1 n)) n := by
  rw [ln, norm_apply, mean_apply (sq _)]
  simp only [sq_apply, centred_apply, mean_apply]
  rfl

/-- One entry of a row before the LayerNorm: from the four branches' rows and gates, the weights, and the input's row. -/
def zAt (y g : Fin 4 → Fin 1024 → Elt Ideal .f32) (wb : Fin 4 → Fin 1024 → Fin 1024 → Elt Ideal .f32) (wo : Fin 1024 → Fin 1024 → Elt Ideal .f32)
    (x : Fin 1024 → Elt Ideal .f32) (n : Fin 1024) : Elt Ideal .f32 :=
  Ideal.ofBits .f32 0x3FD744FD#32 * x n + ∑ k : Fin 1024, (∑ q : Fin 4, g q k * ∑ j : Fin 1024, y q j * wb q j k) * wo k n

/-- One entry of the reference's first result. -/
theorem want_apply (y₀ y₁ y₂ y₃ : Vec Ideal S4x4096x1024 .f32) (g : Vec Ideal S4x4096x4096 .f32) (wb : Vec Ideal S4x1024x1024 .f32) (wo : Vec Ideal S1024x1024 .f32)
    (x : Vec Ideal S4x4096x1024 .f32) (lg lb : Vec Ideal S1024 .f32) (i : Fin 16384) (n : Fin 1024) :
    want y₀ y₁ y₂ y₃ g wb wo x lg lb (ix2 i n)
      = lnAt (zAt (fun q j => (![y₀, y₁, y₂, y₃] : Fin 4 → Vec Ideal S4x4096x1024 .f32) q (ix3 ⟨i.val / 4096, by omega⟩ ⟨i.val % 4096, by omega⟩ j))
          (fun q k => g (ix3 ⟨i.val / 4096, by omega⟩ ⟨i.val % 4096, by omega⟩ ⟨q.val * 1024 + k.val, by omega⟩))
          (fun q j k => wb (ix3 q j k)) (fun k n => wo (ix2 k n)) (fun k => x (ix3 ⟨i.val / 4096, by omega⟩ ⟨i.val % 4096, by omega⟩ k)))
        (lg (ix1 n)) (lb (ix1 n)) n := by
  rw [want, ln_apply]
  congr 1
  funext k
  rw [resid_apply]
  simp only [mix_apply, proj_apply, br_apply]
  rfl

end Ideal

end Cert.MergeRefIdeal.Proj
-- ==== Proof.Proj.Merge.lean ====
/-
  The call that merges the four branches: each through its own weights, gated and summed, the output projection, the scaled
  input added, and the LayerNorm; the result in two formats.
-/
module

public import proofs.«01_k».proof.Proof.Proj.MergeRef
public import proofs.«01_k».proof.Proof.Gen.MergeIdeal
public import proofs.«01_k».proof.Proof.Gen.MergeIdeal.Value
public import Idealize.ShloMosaic.Lib.Pipeline.ValueKit.Geometry
public import Idealize.ShloMosaic.Lib.Pipeline.ValueKit.Acc
public import Idealize.ShloMosaic.Lib.Claim
public import Idealize.ShloMosaic.Lib.Pointwise

@[expose] public section

set_option maxRecDepth 16384

noncomputable section

namespace Cert.MergeIdeal.Proj

open Idealize.ShloMosaic Idealize.ShloMosaic.TcCoe Idealize.ShloMosaic.Tactic
open Idealize.SL.Sem
open Cert.MergeIdeal Cert.MergeIdeal.Gen
open Cert.MergeRefIdeal.Proj (want want_apply mu lnAt zAt)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![t.val, 0] := (by decide +kernel : ∀ t : Fin grid0.N, _)
theorem at11 : ∀ t : Fin cfg0.N, win0_11.index t = ![t.val, 0] := (by decide +kernel : ∀ t : Fin grid0.N, _)

/-- A branch's block through its weights, gated. -/
def gated (y : FVec Ideal S256x1024 .bf16) (w : FVec Ideal S1x1024x1024 .bf16) (g : FVec Ideal S256x1024 .bf16) : FVec Ideal S256x1024 .f32 :=
  mulf (matmul dot_S256x1024_S1024x1024_S256x1024_1_0_0_1_n_n none (shapeCast S256x1024 y shapeCasts_S256x1024_S256x1024) (shapeCast S1024x1024 w shapeCasts_S1x1024x1024_S1024x1024) (constant S256x1024 .f32 0x00000000#32))
    (extf .f32 (shapeCast S256x1024 g shapeCasts_S256x1024_S256x1024) bitsLt_bf16_f32)

/-- The block before the LayerNorm, from the gated sum. -/
def zBlk (s : FVec Ideal S256x1024 .f32) (w : FVec Ideal S1024x1024 .bf16) (x : FVec Ideal S256x1024 .f32) : FVec Ideal S256x1024 .f32 :=
  addf (mulf (broadcast S256x1024 (Scalar.ofBits .f32 0x3FD744FD#32)) (shapeCast S256x1024 x shapeCasts_S256x1024_S256x1024))
    (matmul dot_S256x1024_S1024x1024_S256x1024_1_0_0_1_n_n none (truncf .bf16 s bitsLt_bf16_f32) (shapeCast S1024x1024 w shapeCasts_S1024x1024_S1024x1024) (constant S256x1024 .f32 0x00000000#32))

/-- A block's row means. -/
def mBlk (z : FVec Ideal S256x1024 .f32) : FVec Ideal S256x1 .f32 :=
  divf (shapeCast S256x1 (multiReduction .add [1] S256 z 0x00000000#32 reduces_S256x1024_S256 (.inl rfl) rfl) shapeCasts_S256_S256x1) (broadcast S256x1 (Scalar.ofBits .f32 0x44800000#32))

/-- A block less its row means. -/
def cBlk (z : FVec Ideal S256x1024 .f32) : FVec Ideal S256x1024 .f32 := subf z (broadcastTo S256x1024 (mBlk z) broadcasts_S256x1_S256x1024)

/-- Each entry's square. -/
def qBlk (d : FVec Ideal S256x1024 .f32) : FVec Ideal S256x1024 .f32 := mulf d d

theorem qBlk_apply (d : FVec Ideal S256x1024 .f32) (j : S256x1024.Idx) : qBlk d j = d j * d j := rfl

/-- The centred block over its deviation, scaled and shifted. -/
def nBlk (d : FVec Ideal S256x1024 .f32) (v : FVec Ideal S256x1 .f32) (g b : FVec Ideal S1x1024 .f32) : FVec Ideal S256x1024 .f32 :=
  addf (mulf (mulf d (broadcastTo S256x1024 (rsqrt (addf v (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

theorem gated_apply (y : FVec Ideal S256x1024 .bf16) (w : FVec Ideal S1x1024x1024 .bf16) (g : FVec Ideal S256x1024 .bf16) (r : Fin 256) (n : Fin 1024) :
    gated y w g (ix2 r n) = g (ix2 r n) * ∑ j : Fin 1024, y (ix2 r j) * w (ix3 0 j n) := by
  rw [mul_comm]
  pointwise [gated]

theorem zBlk_apply (s : FVec Ideal S256x1024 .f32) (w : FVec Ideal S1024x1024 .bf16) (x : FVec Ideal S256x1024 .f32) (r : Fin 256) (n : Fin 1024) :
    zBlk s w x (ix2 r n) = Ideal.ofBits .f32 0x3FD744FD#32 * x (ix2 r n) + ∑ k : Fin 1024, s (ix2 r k) * w (ix2 k n) := by
  pointwise [zBlk]

theorem mBlk_apply (z : FVec Ideal S256x1024 .f32) (r : Fin 256) (o : Fin 1) : mBlk z (ix2 r o) = mu fun k => z (ix2 r k) := by
  pointwise [mBlk, mu]

theorem cBlk_apply (z : FVec Ideal S256x1024 .f32) (r : Fin 256) (n : Fin 1024) : cBlk z (ix2 r n) = z (ix2 r n) - mu fun k => z (ix2 r k) := by
  rw [← mBlk_apply z r 0]
  unfold cBlk
  generalize mBlk z = u
  pointwise

theorem nBlk_apply (d : FVec Ideal S256x1024 .f32) (v : FVec Ideal S256x1 .f32) (g b : FVec Ideal S1x1024 .f32) (r : Fin 256) (n : Fin 1024) :
    nBlk d v g b (ix2 r n) = d (ix2 r n) * Ideal.rsqrt (v (ix2 r 0) + Ideal.ofBits .f32 0x3727C5AC#32) * g (ix2 0 n) + b (ix2 0 n) := by
  pointwise [nBlk]

/-- The body's LayerNorm of a block. -/
def lnBlk (z : FVec Ideal S256x1024 .f32) (g b : FVec Ideal S1x1024 .f32) : FVec Ideal S256x1024 .f32 :=
  nBlk (cBlk z) (mBlk (qBlk (cBlk z))) g b

theorem lnBlk_apply (z : FVec Ideal S256x1024 .f32) (g b : FVec Ideal S1x1024 .f32) (r : Fin 256) (n : Fin 1024) :
    lnBlk z g b (ix2 r n) = lnAt (fun k => z (ix2 r k)) (g (ix2 0 n)) (b (ix2 0 n)) n := by
  rw [lnBlk, nBlk_apply, mBlk_apply]
  simp only [qBlk_apply, cBlk_apply]
  rfl

/-- A branch's weights. -/
def wBlk (x : Vec Ideal S4x1024x1024 .bf16) (o : Fin 3 → Nat) (h : ∀ a, o a + S1x1024x1024.size a ≤ S4x1024x1024.size a) : FVec Ideal S1x1024x1024 .bf16 :=
  extractStridedSlice S1x1024x1024 o x ⟨rfl, h⟩

/-- A branch's gates. -/
def gBlk (x : Vec Ideal S256x4096 .bf16) (o : Fin 2 → Nat) (h : ∀ a, o a + S256x1024.size a ≤ S256x4096.size a) : FVec Ideal S256x1024 .bf16 :=
  extractStridedSlice S256x1024 o x ⟨rfl, h⟩

theorem wBlk0 (x : Vec Ideal S4x1024x1024 .bf16) (j n : Fin 1024) : wBlk x ![0, 0, 0] inb_S4x1024x1024_S1x1024x1024_0_0_0 (ix3 0 j n) = x (ix3 0 j n) := by
  pointwise [wBlk] <;> rfl
theorem gBlk0 (x : Vec Ideal S256x4096 .bf16) (r : Fin 256) (n : Fin 1024) : gBlk x ![0, 0] inb_S256x4096_S256x1024_0_0 (ix2 r n) = x (ix2 r ⟨0 * 1024 + n.val, by omega⟩) := by
  pointwise [gBlk]
theorem wBlk1 (x : Vec Ideal S4x1024x1024 .bf16) (j n : Fin 1024) : wBlk x ![1, 0, 0] inb_S4x1024x1024_S1x1024x1024_1_0_0 (ix3 0 j n) = x (ix3 1 j n) := by
  pointwise [wBlk] <;> rfl
theorem gBlk1 (x : Vec Ideal S256x4096 .bf16) (r : Fin 256) (n : Fin 1024) : gBlk x ![0, 1024] inb_S256x4096_S256x1024_0_1024 (ix2 r n) = x (ix2 r ⟨1 * 1024 + n.val, by omega⟩) := by
  pointwise [gBlk]
theorem wBlk2 (x : Vec Ideal S4x1024x1024 .bf16) (j n : Fin 1024) : wBlk x ![2, 0, 0] inb_S4x1024x1024_S1x1024x1024_2_0_0 (ix3 0 j n) = x (ix3 2 j n) := by
  pointwise [wBlk] <;> rfl
theorem gBlk2 (x : Vec Ideal S256x4096 .bf16) (r : Fin 256) (n : Fin 1024) : gBlk x ![0, 2048] inb_S256x4096_S256x1024_0_2048 (ix2 r n) = x (ix2 r ⟨2 * 1024 + n.val, by omega⟩) := by
  pointwise [gBlk]
theorem wBlk3 (x : Vec Ideal S4x1024x1024 .bf16) (j n : Fin 1024) : wBlk x ![3, 0, 0] inb_S4x1024x1024_S1x1024x1024_3_0_0 (ix3 0 j n) = x (ix3 3 j n) := by
  pointwise [wBlk] <;> rfl
theorem gBlk3 (x : Vec Ideal S256x4096 .bf16) (r : Fin 256) (n : Fin 1024) : gBlk x ![0, 3072] inb_S256x4096_S256x1024_0_3072 (ix2 r n) = x (ix2 r ⟨3 * 1024 + n.val, by omega⟩) := by
  pointwise [gBlk]

/-- The gated sum of a block. -/
def sBlk (x0 x1 x2 x3 : Vec Ideal S256x1024 .bf16) (x4 : Vec Ideal S256x4096 .bf16) (x5 : Vec Ideal S4x1024x1024 .bf16) : FVec Ideal S256x1024 .f32 :=
  addf (addf (addf (gated x0 (wBlk x5 ![0, 0, 0] inb_S4x1024x1024_S1x1024x1024_0_0_0) (gBlk x4 ![0, 0] inb_S256x4096_S256x1024_0_0))
    (gated x1 (wBlk x5 ![1, 0, 0] inb_S4x1024x1024_S1x1024x1024_1_0_0) (gBlk x4 ![0, 1024] inb_S256x4096_S256x1024_0_1024)))
    (gated x2 (wBlk x5 ![2, 0, 0] inb_S4x1024x1024_S1x1024x1024_2_0_0) (gBlk x4 ![0, 2048] inb_S256x4096_S256x1024_0_2048)))
    (gated x3 (wBlk x5 ![3, 0, 0] inb_S4x1024x1024_S1x1024x1024_3_0_0) (gBlk x4 ![0, 3072] inb_S256x4096_S256x1024_0_3072))

theorem sBlk_apply (x0 x1 x2 x3 : Vec Ideal S256x1024 .bf16) (x4 : Vec Ideal S256x4096 .bf16) (x5 : Vec Ideal S4x1024x1024 .bf16) (r : Fin 256) (n : Fin 1024) :
    sBlk x0 x1 x2 x3 x4 x5 (ix2 r n) = ∑ q : Fin 4, x4 (ix2 r ⟨q.val * 1024 + n.val, by omega⟩)
      * ∑ j : Fin 1024, (![x0, x1, x2, x3] : Fin 4 → Vec Ideal S256x1024 .bf16) q (ix2 r j) * x5 (ix3 q j n) := by
  have h : sBlk x0 x1 x2 x3 x4 x5 (ix2 r n)
      = gated x0 (wBlk x5 ![0, 0, 0] inb_S4x1024x1024_S1x1024x1024_0_0_0) (gBlk x4 ![0, 0] inb_S256x4096_S256x1024_0_0) (ix2 r n)
        + gated x1 (wBlk x5 ![1, 0, 0] inb_S4x1024x1024_S1x1024x1024_1_0_0) (gBlk x4 ![0, 1024] inb_S256x4096_S256x1024_0_1024) (ix2 r n)
        + gated x2 (wBlk x5 ![2, 0, 0] inb_S4x1024x1024_S1x1024x1024_2_0_0) (gBlk x4 ![0, 2048] inb_S256x4096_S256x1024_0_2048) (ix2 r n)
        + gated x3 (wBlk x5 ![3, 0, 0] inb_S4x1024x1024_S1x1024x1024_3_0_0) (gBlk x4 ![0, 3072] inb_S256x4096_S256x1024_0_3072) (ix2 r n) := rfl
  rw [h, Fin.sum_univ_four]
  simp only [gated_apply, wBlk0, wBlk1, wBlk2, wBlk3, gBlk0, gBlk1, gBlk2, gBlk3]
  rfl

theorem pay2_eq (y₀ y₁ y₂ : Vec Ideal S256x1024 .bf16) (w₀ w₁ w₂ : Vec Ideal S1x1024x1024 .bf16) (g₀ g₁ g₂ : Vec Ideal S256x1024 .bf16) :
    k0_pay2 y₀ w₀ g₀ y₁ w₁ g₁ y₂ w₂ g₂ = addf (addf (gated y₀ w₀ g₀) (gated y₁ w₁ g₁)) (gated y₂ w₂ g₂) := rfl

theorem pay4_eq (s : FVec Ideal S256x1024 .f32) (y : Vec Ideal S256x1024 .bf16) (w : Vec Ideal S1x1024x1024 .bf16) (g : Vec Ideal S256x1024 .bf16)
    (wo : Vec Ideal S1024x1024 .bf16) (x : Vec Ideal S256x1024 .f32) (lg lb : Vec Ideal S1x1024 .f32) :
    k0_pay4 s (k0_pay3 y) w g wo x lg lb = lnBlk (zBlk (addf s (gated y w g)) wo x) lg lb := rfl

theorem ldw0 (x : Vec Ideal S4x1024x1024 .bf16) : View.ld x r0_1 = wBlk x ![0, 0, 0] inb_S4x1024x1024_S1x1024x1024_0_0_0 := View.ld_unit x _ _ _
theorem ldg0 (x : Vec Ideal S256x4096 .bf16) : View.ld x r0_2 = gBlk x ![0, 0] inb_S256x4096_S256x1024_0_0 := View.ld_unit x _ _ _
theorem ldw1 (x : Vec Ideal S4x1024x1024 .bf16) : View.ld x r0_3 = wBlk x ![1, 0, 0] inb_S4x1024x1024_S1x1024x1024_1_0_0 := View.ld_unit x _ _ _
theorem ldg1 (x : Vec Ideal S256x4096 .bf16) : View.ld x r0_4 = gBlk x ![0, 1024] inb_S256x4096_S256x1024_0_1024 := View.ld_unit x _ _ _
theorem ldw2 (x : Vec Ideal S4x1024x1024 .bf16) : View.ld x r0_5 = wBlk x ![2, 0, 0] inb_S4x1024x1024_S1x1024x1024_2_0_0 := View.ld_unit x _ _ _
theorem ldg2 (x : Vec Ideal S256x4096 .bf16) : View.ld x r0_6 = gBlk x ![0, 2048] inb_S256x4096_S256x1024_0_2048 := View.ld_unit x _ _ _
theorem ldw3 (x : Vec Ideal S4x1024x1024 .bf16) : View.ld x r0_7 = wBlk x ![3, 0, 0] inb_S4x1024x1024_S1x1024x1024_3_0_0 := View.ld_unit x _ _ _
theorem ldg3 (x : Vec Ideal S256x4096 .bf16) : View.ld x r0_8 = gBlk x ![0, 3072] inb_S256x4096_S256x1024_0_3072 := View.ld_unit x _ _ _
theorem ldy (x : Vec Ideal S256x1024 .bf16) : View.ld x r0_0 = x := View.ld_unit_lit _ x (by decide)
theorem ldx (x : Vec Ideal S256x1024 .f32) : View.ld x r0_0 = x := View.ld_unit_lit _ x (by decide)
theorem ldo (x : Vec Ideal S1024x1024 .bf16) : View.ld x r0_9 = x := View.ld_unit_lit _ x (by decide)
theorem ldl (x : Vec Ideal S1x1024 .f32) : View.ld x r0_10 = x := View.ld_unit_lit _ x (by decide)

/-- The block the body leaves, in parts. -/
theorem pay_eq (x0 x1 x2 x3 : Vec Ideal S256x1024 .bf16) (x4 : Vec Ideal S256x4096 .bf16) (x5 : Vec Ideal S4x1024x1024 .bf16) (x6 : Vec Ideal S1024x1024 .bf16)
    (x7 : Vec Ideal S256x1024 .f32) (x8 x9 : Vec Ideal S1x1024 .f32) :
    k0_pay5 x0 x1 x2 x3 x4 x5 x6 x7 x8 x9 = lnBlk (zBlk (sBlk x0 x1 x2 x3 x4 x5) x6 x7) x8 x9 := by
  unfold k0_pay5 sBlk
  rw [ldy x0, ldy x1, ldy x2, ldy x3, ldx x7, ldo x6, ldl x8, ldl x9, ldw0, ldw1, ldw2, ldw3, ldg0, ldg1, ldg2, ldg3, pay2_eq, pay4_eq]

/-- One entry of the block the body leaves. -/
theorem pay_apply (x0 x1 x2 x3 : Vec Ideal S256x1024 .bf16) (x4 : Vec Ideal S256x4096 .bf16) (x5 : Vec Ideal S4x1024x1024 .bf16) (x6 : Vec Ideal S1024x1024 .bf16)
    (x7 : Vec Ideal S256x1024 .f32) (x8 x9 : Vec Ideal S1x1024 .f32) (r : Fin 256) (n : Fin 1024) :
    k0_pay5 x0 x1 x2 x3 x4 x5 x6 x7 x8 x9 (ix2 r n)
      = lnAt (zAt (fun q j => (![x0, x1, x2, x3] : Fin 4 → Vec Ideal S256x1024 .bf16) q (ix2 r j)) (fun q k => x4 (ix2 r ⟨q.val * 1024 + k.val, by omega⟩))
          (fun q j k => x5 (ix3 q j k)) (fun k n => x6 (ix2 k n)) (fun k => x7 (ix2 r k))) (x8 (ix2 0 n)) (x9 (ix2 0 n)) n := by
  rw [pay_eq, lnBlk_apply]
  simp only [zBlk_apply, sBlk_apply]
  rfl

variable (m : (ℓ : Loc nD τ sig) → Buf (Elt Ideal) ℓ) (c : Dev nD) (t : Fin cfg0.N)

theorem t_lt : t.val < 64 := t.isLt

set_option maxHeartbeats 2000000 in
theorem arr0 (i : Fin 16384) (k : Fin 1024) : V m c main_v1 (ix2 i k) = m ((c : Thread nD τ).loc main_arg0) (ix3 ⟨i.val / 4096, by omega⟩ ⟨i.val % 4096, by omega⟩ k) := by
  entry_read
  pointwise
set_option maxHeartbeats 2000000 in
theorem arr1 (i : Fin 16384) (k : Fin 1024) : V m c main_v3 (ix2 i k) = m ((c : Thread nD τ).loc main_arg1) (ix3 ⟨i.val / 4096, by omega⟩ ⟨i.val % 4096, by omega⟩ k) := by
  entry_read
  pointwise
set_option maxHeartbeats 2000000 in
theorem arr2 (i : Fin 16384) (k : Fin 1024) : V m c main_v5 (ix2 i k) = m ((c : Thread nD τ).loc main_arg2) (ix3 ⟨i.val / 4096, by omega⟩ ⟨i.val % 4096, by omega⟩ k) := by
  entry_read
  pointwise
set_option maxHeartbeats 2000000 in
theorem arr3 (i : Fin 16384) (k : Fin 1024) : V m c main_v7 (ix2 i k) = m ((c : Thread nD τ).loc main_arg3) (ix3 ⟨i.val / 4096, by omega⟩ ⟨i.val % 4096, by omega⟩ k) := by
  entry_read
  pointwise
set_option maxHeartbeats 2000000 in
theorem arr4 (i : Fin 16384) (k : Fin 4096) : V m c main_v9 (ix2 i k) = m ((c : Thread nD τ).loc main_arg4) (ix3 ⟨i.val / 4096, by omega⟩ ⟨i.val % 4096, by omega⟩ k) := by
  entry_read
  pointwise
set_option maxHeartbeats 2000000 in
theorem arr5 (q : Fin 4) (j k : Fin 1024) : V m c main_v10 (ix3 q j k) = m ((c : Thread nD τ).loc main_arg5) (ix3 q j k) := by
  entry_read
  pointwise
set_option maxHeartbeats 2000000 in
theorem arr6 (j k : Fin 1024) : V m c main_v11 (ix2 j k) = m ((c : Thread nD τ).loc main_arg6) (ix2 j k) := by
  entry_read
  pointwise
set_option maxHeartbeats 2000000 in
theorem arr7 (i : Fin 16384) (k : Fin 1024) : V m c main_v12 (ix2 i k) = m ((c : Thread nD τ).loc main_arg7) (ix3 ⟨i.val / 4096, by omega⟩ ⟨i.val % 4096, by omega⟩ k) := by
  entry_read
  pointwise
set_option maxHeartbeats 2000000 in
theorem arr8 (k : Fin 1024) : V m c main_v13 (ix2 0 k) = m ((c : Thread nD τ).loc main_arg8) (ix1 k) := by
  entry_read
  pointwise
set_option maxHeartbeats 2000000 in
theorem arr9 (k : Fin 1024) : V m c main_v14 (ix2 0 k) = m ((c : Thread nD τ).loc main_arg9) (ix1 k) := by
  entry_read
  pointwise

theorem emb0 (r : Fin 256) (k : Fin 1024) : ((cfg0.win 0).blk t).view.emb (ix2 r k) = ix2 ⟨256 * t.val + r.val, by have := t_lt t; omega⟩ k := by
  blk_ext [at0]
theorem emb1 (r : Fin 256) (k : Fin 1024) : ((cfg0.win 1).blk t).view.emb (ix2 r k) = ix2 ⟨256 * t.val + r.val, by have := t_lt t; omega⟩ k := by
  blk_ext [at1]
theorem emb2 (r : Fin 256) (k : Fin 1024) : ((cfg0.win 2).blk t).view.emb (ix2 r k) = ix2 ⟨256 * t.val + r.val, by have := t_lt t; omega⟩ k := by
  blk_ext [at2]
theorem emb3 (r : Fin 256) (k : Fin 1024) : ((cfg0.win 3).blk t).view.emb (ix2 r k) = ix2 ⟨256 * t.val + r.val, by have := t_lt t; omega⟩ k := by
  blk_ext [at3]
theorem emb4 (r : Fin 256) (k : Fin 4096) : ((cfg0.win 4).blk t).view.emb (ix2 r k) = ix2 ⟨256 * t.val + r.val, by have := t_lt t; omega⟩ k := by
  blk_ext [at4]
theorem emb7 (r : Fin 256) (k : Fin 1024) : ((cfg0.win 7).blk t).view.emb (ix2 r k) = ix2 ⟨256 * t.val + r.val, by have := t_lt t; omega⟩ k := by
  blk_ext [at7]
theorem emb10 (r : Fin 256) (k : Fin 1024) : ((cfg0.win 10).blk t).view.emb (ix2 r k) = ix2 ⟨256 * t.val + r.val, by have := t_lt t; omega⟩ k := by
  blk_ext [at10]
theorem emb11 (r : Fin 256) (k : Fin 1024) : ((cfg0.win 11).blk t).view.emb (ix2 r k) = ix2 ⟨256 * t.val + r.val, by have := t_lt t; omega⟩ k := by
  blk_ext [at11]
theorem emb5 (q : Fin 4) (j k : Fin 1024) : ((cfg0.win 5).blk t).view.emb (ix3 q j k) = ix3 q j k := by
  blk_ext [at5]
theorem emb6 (j k : Fin 1024) : ((cfg0.win 6).blk t).view.emb (ix2 j k) = ix2 j k := by
  blk_ext [at6]
theorem emb8 (k : Fin 1024) : ((cfg0.win 8).blk t).view.emb (ix2 0 k) = ix2 0 k := by
  blk_ext [at8]
theorem emb9 (k : Fin 1024) : ((cfg0.win 9).blk t).view.emb (ix2 0 k) = ix2 0 k := by
  blk_ext [at9]

theorem blk0 (r : Fin 256) (k : Fin 1024) : iblk m c 0 t (ix2 r k) = m ((c : Thread nD τ).loc main_arg0) (ix3 ⟨(256 * t.val + r.val) / 4096, by have := t_lt t; omega⟩ ⟨(256 * t.val + r.val) % 4096, by omega⟩ k) :=
  (congrArg (V m c main_v1) (emb0 t r k)).trans (arr0 m c _ _)
theorem blk1 (r : Fin 256) (k : Fin 1024) : iblk m c 1 t (ix2 r k) = m ((c : Thread nD τ).loc main_arg1) (ix3 ⟨(256 * t.val + r.val) / 4096, by have := t_lt t; omega⟩ ⟨(256 * t.val + r.val) % 4096, by omega⟩ k) :=
  (congrArg (V m c main_v3) (emb1 t r k)).trans (arr1 m c _ _)
theorem blk2 (r : Fin 256) (k : Fin 1024) : iblk m c 2 t (ix2 r k) = m ((c : Thread nD τ).loc main_arg2) (ix3 ⟨(256 * t.val + r.val) / 4096, by have := t_lt t; omega⟩ ⟨(256 * t.val + r.val) % 4096, by omega⟩ k) :=
  (congrArg (V m c main_v5) (emb2 t r k)).trans (arr2 m c _ _)
theorem blk3 (r : Fin 256) (k : Fin 1024) : iblk m c 3 t (ix2 r k) = m ((c : Thread nD τ).loc main_arg3) (ix3 ⟨(256 * t.val + r.val) / 4096, by have := t_lt t; omega⟩ ⟨(256 * t.val + r.val) % 4096, by omega⟩ k) :=
  (congrArg (V m c main_v7) (emb3 t r k)).trans (arr3 m c _ _)
theorem blk4 (r : Fin 256) (k : Fin 4096) : iblk m c 4 t (ix2 r k) = m ((c : Thread nD τ).loc main_arg4) (ix3 ⟨(256 * t.val + r.val) / 4096, by have := t_lt t; omega⟩ ⟨(256 * t.val + r.val) % 4096, by omega⟩ k) :=
  (congrArg (V m c main_v9) (emb4 t r k)).trans (arr4 m c _ _)
theorem blk7 (r : Fin 256) (k : Fin 1024) : iblk m c 7 t (ix2 r k) = m ((c : Thread nD τ).loc main_arg7) (ix3 ⟨(256 * t.val + r.val) / 4096, by have := t_lt t; omega⟩ ⟨(256 * t.val + r.val) % 4096, by omega⟩ k) :=
  (congrArg (V m c main_v12) (emb7 t r k)).trans (arr7 m c _ _)
theorem blk5 (q : Fin 4) (j k : Fin 1024) : iblk m c 5 t (ix3 q j k) = m ((c : Thread nD τ).loc main_arg5) (ix3 q j k) :=
  (congrArg (V m c main_v10) (emb5 t q j k)).trans (arr5 m c _ _ _)
theorem blk6 (j k : Fin 1024) : iblk m c 6 t (ix2 j k) = m ((c : Thread nD τ).loc main_arg6) (ix2 j k) :=
  (congrArg (V m c main_v11) (emb6 t j k)).trans (arr6 m c _ _)
theorem blk8 (k : Fin 1024) : iblk m c 8 t (ix2 0 k) = m ((c : Thread nD τ).loc main_arg8) (ix1 k) :=
  (congrArg (V m c main_v13) (emb8 t k)).trans (arr8 m c _)
theorem blk9 (k : Fin 1024) : iblk m c 9 t (ix2 0 k) = m ((c : Thread nD τ).loc main_arg9) (ix1 k) :=
  (congrArg (V m c main_v14) (emb9 t k)).trans (arr9 m c _)

theorem rows (q : Fin 4) (r : Fin 256) (k : Fin 1024) :
    (![iblk m c 0 t, iblk m c 1 t, iblk m c 2 t, iblk m c 3 t] : Fin 4 → Vec Ideal S256x1024 .bf16) q (ix2 r k)
      = (![m ((c : Thread nD τ).loc main_arg0), m ((c : Thread nD τ).loc main_arg1), m ((c : Thread nD τ).loc main_arg2), m ((c : Thread nD τ).loc main_arg3)] : Fin 4 → Vec Ideal S4x4096x1024 .f32) q (ix3 ⟨(256 * t.val + r.val) / 4096, by have := t_lt t; omega⟩ ⟨(256 * t.val + r.val) % 4096, by omega⟩ k) := by
  fin_cases q
  · exact blk0 m c t r k
  · exact blk1 m c t r k
  · exact blk2 m c t r k
  · exact blk3 m c t r k

/-- The reference's first result at the kernel's arguments. -/
abbrev wantAt : Vec Ideal S16384x1024 .f32 :=
  want (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- A block of the first result is the reference's at the block's place. -/
theorem block_want (r : Fin 256) (n : Fin 1024) :
    k0_pay5 (iblk m c 0 t) (iblk m c 1 t) (iblk m c 2 t) (iblk m c 3 t) (iblk m c 4 t) (iblk m c 5 t) (iblk m c 6 t) (iblk m c 7 t) (iblk m c 8 t) (iblk m c 9 t) (ix2 r n)
      = wantAt m c (ix2 ⟨256 * t.val + r.val, by have := t_lt t; omega⟩ n) := by
  rw [wantAt, want_apply, pay_apply]
  simp only [rows, blk4, blk5, blk6, blk7, blk8, blk9]

theorem final10 : (dats m 0 c).arrAt 10 cfg0.N = wantAt m c := by
  refine (dats m 0 c).arrAt_eq_of_covers 10 _ (by decide +kernel) fun t hf y => ?_
  blk_simp
  rw [after0_10]
  frame_out
  idx_vars y
  have key := block_want m c t y0 y1
  rw [emb10]
  generalize wantAt m c = G at key ⊢
  exact key

theorem final11 : (dats m 0 c).arrAt 11 cfg0.N = truncf (F := Ideal) .bf16 (wantAt m c) bitsLt_bf16_f32 := by
  refine (dats m 0 c).arrAt_eq_of_covers 11 _ (by decide +kernel) fun t hf y => ?_
  blk_simp
  rw [after0_11]
  frame_out
  idx_vars y
  have key := block_want m c t y0 y1
  rw [emb11]
  generalize wantAt m c = G at key ⊢
  exact key

/-- The call computes the reference's merged and normalised rows, in both formats. -/
theorem algebraic : Cert.algebraic_MergeIdeal_MergeRefIdeal := fun m g m' g' _ h =>
  ⟨fun c => wantAt m c, fun c => truncf (F := Ideal) .bf16 (wantAt m c) bitsLt_bf16_f32,
    (θ_run defs _ _).mono (fun r hr c => ⟨(hr c).1.trans (final10 m c), (hr c).2.1.trans (final11 m c), (hr c).2.2⟩) (Value.run_blocks (F := Ideal) m g),
    (θ_run Cert.MergeRefIdeal.defs _ _).mono
      (fun r hr c => by
        have e : Cert.MergeRefIdeal.Proj.wantAt m' c = wantAt m c := by
          obtain ⟨e0, e1, e2, e3, e4, e5, e6, e7, e8, e9⟩ := h c
          unfold Cert.MergeRefIdeal.Proj.wantAt wantAt
          rw [e0, e1, e2, e3, e4, e5, e6, e7, e8, e9]
        exact ⟨(hr c).1.trans ((Cert.MergeRefIdeal.Proj.res0 m' c).trans e),
          (hr c).2.1.trans ((Cert.MergeRefIdeal.Proj.res1 m' c).trans (congrArg (fun u => truncf (F := Ideal) .bf16 u bitsLt_bf16_f32) e)), (hr c).2.2⟩)
      (Cert.MergeRefIdeal.Value.run (F := Ideal) m' g')⟩

end Cert.MergeIdeal.Proj
-- ==== Proof.Proj.Silu.lean ====
/-
  The call that computes the four branches' gates: the layer's input against four column blocks of its weights, through the silu.
-/
module

public import proofs.«01_k».proof.Defs
public import proofs.«01_k».proof.Proof.Gen.SiluIdeal
public import proofs.«01_k».proof.Proof.Gen.SiluIdeal.Value
public import proofs.«01_k».proof.Proof.Gen.SiluRefIdeal
public import proofs.«01_k».proof.Proof.Gen.SiluRefIdeal.Run
public import Idealize.ShloMosaic.Lib.Pipeline.ValueKit.Geometry
public import Idealize.ShloMosaic.Lib.Pipeline.ValueKit.Acc
public import Idealize.ShloMosaic.Lib.Claim
public import Idealize.ShloMosaic.Lib.Pointwise

@[expose] public section

set_option maxRecDepth 16384

noncomputable section

namespace Cert.SiluRefIdeal.Proj

open Idealize.ShloMosaic Idealize.ShloMosaic.TcCoe Idealize.ShloMosaic.Tactic
open Cert.SiluRefIdeal Cert.SiluRefIdeal.Gen

/-- Where the four column blocks the call reads begin in the weights. -/
def first (q : Fin 4) : Nat := (![2048, 5120, 6144, 10256] : Fin 4 → Nat) q

theorem first_le (q : Fin 4) : first q ≤ 10256 := by
  fin_cases q <;> decide

/-- The column of the weights behind the result's column n. -/
def col (n : Fin 4096) : Fin 15376 := ⟨first ⟨n.val / 1024, by omega⟩ + n.val % 1024, by have := first_le ⟨n.val / 1024, by omega⟩; omega⟩

/-- The four column blocks side by side. -/
def cat {F : FTy → Type} [FloatOps F] (y : Vec F S4x4096x15376 .f32) : Vec F S4x4096x4096 .f32 :=
  concatenate S4x4096x4096 2 [⟨S4x4096x1024, (extractStridedSlice S4x4096x1024 ![0, 0, 2048] y slices_S4x4096x15376_S4x4096x1024_0_0_2048)⟩, ⟨S4x4096x1024, (extractStridedSlice S4x4096x1024 ![0, 0, 5120] y slices_S4x4096x15376_S4x4096x1024_0_0_5120)⟩, ⟨S4x4096x1024, (extractStridedSlice S4x4096x1024 ![0, 0, 6144] y slices_S4x4096x15376_S4x4096x1024_0_0_6144)⟩, ⟨S4x4096x1024, (extractStridedSlice S4x4096x1024 ![0, 0, 10256] y slices_S4x4096x15376_S4x4096x1024_0_0_10256)⟩] concatenates_S4x4096x1024_S4x4096x1024_S4x4096x1024_S4x4096x1024_S4x4096x4096_d2

/-- The layer's input against all columns of its weights. -/
def lins {F : FTy → Type} [FloatOps F] (x : Vec F S4x4096x1024 .f32) (w : Vec F S1024x15376 .f32) : Vec F S4x4096x15376 .f32 :=
  Host.dotGeneral dot_S4x4096x1024_S1024x15376_S4x4096x15376_2_0_01_1_n_n none x w

/-- The reference's result as a function of its arguments. -/
def want {F : FTy → Type} [FloatOps F] (x : Vec F S4x4096x1024 .f32) (w : Vec F S1024x15376 .f32) : Vec F S16384x4096 .bf16 :=
  truncf .bf16 (shapeCast _ (mulf (cat (lins x w)) (Host.divf (broadcastInDim S4x4096x4096 ![] bcast_S_S4x4096x4096 (constant S_ .f32 0x3F800000#32)) (addf (broadcastInDim S4x4096x4096 ![] bcast_S_S4x4096x4096 (constant S_ .f32 0x3F800000#32)) (Host.exp (Host.negf (cat (lins x w))))))) shapeCasts_S4x4096x4096_S16384x4096) bitsLt_bf16_f32

theorem cat_block (y : Vec Ideal S4x4096x15376 .f32) (b : Fin 4) (s : Fin 4096) (q : Fin 4) (d : Fin 1024) :
    cat y (ix3 b s ⟨1024 * q.val + d.val, by omega⟩) = y (ix3 b s ⟨first q + d.val, by have := first_le q; omega⟩) := by
  fin_cases q
  · exact (by pointwise [cat] : cat y (ix3 b s ⟨1024 * 0 + d.val, by omega⟩) = y (ix3 b s ⟨2048 + d.val, by omega⟩))
  · exact (by pointwise [cat] : cat y (ix3 b s ⟨1024 * 1 + d.val, by omega⟩) = y (ix3 b s ⟨5120 + d.val, by omega⟩))
  · have h : cat y (ix3 b s ⟨1024 * 2 + d.val, by omega⟩) = y (ix3 b s ⟨6144 + d.val, by omega⟩) := by
      pointwise [cat]
      refine (dif_neg (by omega)).trans ((dif_neg (by omega)).trans ((dif_pos (by omega)).trans ?_))
      exact congrArg (fun d : Fin 15376 => y (ix3 b s d)) (Fin.ext (by dsimp only; omega))
    exact h
  · have h : cat y (ix3 b s ⟨1024 * 3 + d.val, by omega⟩) = y (ix3 b s ⟨10256 + d.val, by omega⟩) := by
      pointwise [cat]
      refine (dif_neg (by omega)).trans ((dif_neg (by omega)).trans ((dif_neg (by omega)).trans ?_))
      exact congrArg (fun d : Fin 15376 => y (ix3 b s d)) (Fin.ext (by dsimp only; omega))
    exact h

theorem cat_apply (y : Vec Ideal S4x4096x15376 .f32) (b : Fin 4) (s : Fin 4096) (n : Fin 4096) : cat y (ix3 b s n) = y (ix3 b s (col n)) := by
  have h := cat_block y b s ⟨n.val / 1024, by omega⟩ ⟨n.val % 1024, by omega⟩
  rw [show (⟨1024 * (n.val / 1024) + n.val % 1024, by omega⟩ : Fin 4096) = n from Fin.ext (Nat.div_add_mod _ _)] at h
  exact h

theorem dot_apply (x : Vec Ideal S4x4096x1024 .f32) (w : Vec Ideal S1024x15376 .f32) (b : Fin 4) (s : Fin 4096) (n : Fin 15376) :
    lins x w (ix3 b s n) = ∑ k : Fin 1024, x (ix3 b s k) * w (ix2 k n) := by
  pointwise [lins]

/-- One entry of the product: a row of the input against a column of the weights. -/
def lin (x : Vec Ideal S4x4096x1024 .f32) (w : Vec Ideal S1024x15376 .f32) (i : Fin 16384) (n : Fin 4096) : Elt Ideal .f32 :=
  ∑ k : Fin 1024, x (ix3 ⟨i.val / 4096, by omega⟩ ⟨i.val % 4096, by omega⟩ k) * w (ix2 k (col n))

/-- One entry: the product times its sigmoid. -/
theorem want_apply (x : Vec Ideal S4x4096x1024 .f32) (w : Vec Ideal S1024x15376 .f32) (i : Fin 16384) (n : Fin 4096) :
    want x w (ix2 i n) = lin x w i n * Ideal.div 1 (1 + Ideal.exp (-(lin x w i n))) := by
  have h : cat (F := Ideal) (lins x w) (ix3 ⟨i.val / 4096, by omega⟩ ⟨i.val % 4096, by omega⟩ n) = lin x w i n := by
    rw [cat_apply, dot_apply]; rfl
  rw [← h]
  unfold want
  generalize cat (lins x w) = C
  pointwise

end Cert.SiluRefIdeal.Proj

namespace Cert.SiluIdeal.Proj

open Idealize.ShloMosaic Idealize.ShloMosaic.TcCoe Idealize.ShloMosaic.Tactic
open Idealize.SL.Sem
open Cert.SiluIdeal Cert.SiluIdeal.Gen
open Cert.SiluRefIdeal.Proj (want want_apply col first first_le lin)

theorem at0 : ∀ t : Fin cfg0.N, win0_0.index t = ![t.val % 16, 0] := (by decide +kernel : ∀ t : Fin grid0.N, _)
theorem at1 : ∀ t : Fin cfg0.N, win0_1.index t = ![0, t.val / 16] := (by decide +kernel : ∀ t : Fin grid0.N, _)
theorem at2 : ∀ t : Fin cfg0.N, win0_2.index t = ![t.val % 16, t.val / 16] := (by decide +kernel : ∀ t : Fin grid0.N, _)

/-- One entry of a block the body leaves. -/
theorem pay_apply (X : Vec Ideal S1024x1024 .bf16) (W : Vec Ideal S1024x2048 .bf16) (r : Fin 1024) (n : Fin 2048) :
    k0_pay1 X W (ix2 r n) = (∑ k : Fin 1024, X (ix2 r k) * W (ix2 k n)) * Ideal.div 1 (1 + Ideal.exp (-(∑ k : Fin 1024, X (ix2 r k) * W (ix2 k n)))) := by
  rw [← zero_sub]
  pointwise [k0_pay1]

variable (m : (ℓ : Loc nD τ sig) → Buf (Elt Ideal) ℓ) (c : Dev nD) (t : Fin cfg0.N)

theorem t_lt : t.val < 32 := t.isLt

open StableHlo in
theorem after_two {l₁ l₂ : List (HloOp τ sig (Elt Ideal))} (W : Valuation τ sig (Elt Ideal)) : after (l₁ ++ l₂) W = after l₂ (after l₁ W) := by
  induction l₁ generalizing W with
  | nil => rfl
  | cons op l ih => exact ih _

theorem V_split (r : Ref sig .tc) : V m c r = StableHlo.after (hostOps0.drop 4) (StableHlo.after (hostOps0.take 4) (fun b => m (c, b))) r := by
  rw [← after_two, List.take_append_drop]

open StableHlo in
/-- The operations after the four slices leave the weights' blocks side by side. -/
theorem last_v7 (W : Valuation τ sig (Elt Ideal)) : after (hostOps0.drop 4) W main_v7
    = truncf (F := Ideal) .bf16 (concatenate S1024x4096 1 [⟨S1024x1024, W main_v0⟩, ⟨S1024x1024, W main_v1⟩, ⟨S1024x1024, W main_v2⟩, ⟨S1024x1024, W main_v3⟩] concatenates_S1024x1024_S1024x1024_S1024x1024_S1024x1024_S1024x4096_d1) bitsLt_bf16_f32 := by
  unfold hostOps0
  simp only [List.flatten_cons, List.flatten_nil, List.append_nil, List.cons_append, List.nil_append, List.drop_succ_cons, List.drop_zero]
  simp only [after_cons, after_nil]
  refine (unary_result' _ _ _ _).trans (congrArg (fun C => truncf (F := Ideal) .bf16 C bitsLt_bf16_f32) ?_)
  refine (unary_result_ne' _ _ _ _ (by decide)).trans ?_
  refine (reshape_result_ne' _ _ _ _ _ (by decide)).trans ?_
  exact nary4_result _ _ _ _

open StableHlo in
theorem last_ops_ne (W : Valuation τ sig (Elt Ideal)) {r : Ref sig .tc} (h₁ : r ≠ main_v4) (h₂ : r ≠ main_v5) (h₃ : r ≠ main_v6) (h₄ : r ≠ main_v7) :
    after (hostOps0.drop 4) W r = W r := by
  unfold hostOps0
  simp only [List.flatten_cons, List.flatten_nil, List.append_nil, List.cons_append, List.nil_append, List.drop_succ_cons, List.drop_zero]
  simp only [after_cons, after_nil]
  refine (unary_result_ne' _ _ _ _ h₄).trans ?_
  refine (unary_result_ne' _ _ _ _ h₃).trans ?_
  refine (reshape_result_ne' _ _ _ _ _ h₂).trans ?_
  exact nary_result_ne' _ _ _ _ _ h₁

set_option maxHeartbeats 2000000 in
theorem piece0 (k d : Fin 1024) : V m c main_v0 (ix2 k d) = m ((c : Thread nD τ).loc main_arg1) (ix2 k ⟨2048 + d.val, by omega⟩) := by
  entry_read
  pointwise

set_option maxHeartbeats 2000000 in
theorem piece1 (k d : Fin 1024) : V m c main_v1 (ix2 k d) = m ((c : Thread nD τ).loc main_arg1) (ix2 k ⟨5120 + d.val, by omega⟩) := by
  entry_read
  pointwise

set_option maxHeartbeats 2000000 in
theorem piece2 (k d : Fin 1024) : V m c main_v2 (ix2 k d) = m ((c : Thread nD τ).loc main_arg1) (ix2 k ⟨6144 + d.val, by omega⟩) := by
  entry_read
  pointwise

set_option maxHeartbeats 2000000 in
theorem piece3 (k d : Fin 1024) : V m c main_v3 (ix2 k d) = m ((c : Thread nD τ).loc main_arg1) (ix2 k ⟨10256 + d.val, by omega⟩) := by
  entry_read
  pointwise

theorem arrw_cat : V m c main_v7
    = truncf (F := Ideal) .bf16 (concatenate S1024x4096 1 [⟨S1024x1024, V m c main_v0⟩, ⟨S1024x1024, V m c main_v1⟩, ⟨S1024x1024, V m c main_v2⟩, ⟨S1024x1024, V m c main_v3⟩] concatenates_S1024x1024_S1024x1024_S1024x1024_S1024x1024_S1024x4096_d1) bitsLt_bf16_f32 := by
  rw [V_split m c main_v7, last_v7, V_split m c main_v0, V_split m c main_v1, V_split m c main_v2, V_split m c main_v3,
    last_ops_ne _ (by decide) (by decide) (by decide) (by decide), last_ops_ne _ (by decide) (by decide) (by decide) (by decide),
    last_ops_ne _ (by decide) (by decide) (by decide) (by decide), last_ops_ne _ (by decide) (by decide) (by decide) (by decide)]

theorem cat_at (P₀ P₁ P₂ P₃ : Vec Ideal S1024x1024 .f32) (k : Fin 1024) (q : Fin 4) (d : Fin 1024) :
    (truncf (F := Ideal) .bf16 (concatenate S1024x4096 1 [⟨S1024x1024, P₀⟩, ⟨S1024x1024, P₁⟩, ⟨S1024x1024, P₂⟩, ⟨S1024x1024, P₃⟩] concatenates_S1024x1024_S1024x1024_S1024x1024_S1024x1024_S1024x4096_d1) bitsLt_bf16_f32 : Vec Ideal S1024x4096 .bf16)
      (ix2 k ⟨1024 * q.val + d.val, by omega⟩) = (![P₀, P₁, P₂, P₃] : Fin 4 → Vec Ideal S1024x1024 .f32) q (ix2 k d) := by
  fin_cases q
  · exact (by pointwise : (truncf (F := Ideal) .bf16 (concatenate S1024x4096 1 [⟨S1024x1024, P₀⟩, ⟨S1024x1024, P₁⟩, ⟨S1024x1024, P₂⟩, ⟨S1024x1024, P₃⟩] concatenates_S1024x1024_S1024x1024_S1024x1024_S1024x1024_S1024x4096_d1) bitsLt_bf16_f32 : Vec Ideal S1024x4096 .bf16) (ix2 k ⟨1024 * 0 + d.val, by omega⟩) = P₀ (ix2 k d))
  · exact (by pointwise : (truncf (F := Ideal) .bf16 (concatenate S1024x4096 1 [⟨S1024x1024, P₀⟩, ⟨S1024x1024, P₁⟩, ⟨S1024x1024, P₂⟩, ⟨S1024x1024, P₃⟩] concatenates_S1024x1024_S1024x1024_S1024x1024_S1024x1024_S1024x4096_d1) bitsLt_bf16_f32 : Vec Ideal S1024x4096 .bf16) (ix2 k ⟨1024 * 1 + d.val, by omega⟩) = P₁ (ix2 k d))
  · have h : (truncf (F := Ideal) .bf16 (concatenate S1024x4096 1 [⟨S1024x1024, P₀⟩, ⟨S1024x1024, P₁⟩, ⟨S1024x1024, P₂⟩, ⟨S1024x1024, P₃⟩] concatenates_S1024x1024_S1024x1024_S1024x1024_S1024x1024_S1024x4096_d1) bitsLt_bf16_f32 : Vec Ideal S1024x4096 .bf16) (ix2 k ⟨1024 * 2 + d.val, by omega⟩) = P₂ (ix2 k d) := by
      pointwise
      refine (dif_neg (by omega)).trans ((dif_neg (by omega)).trans ((dif_pos (by omega)).trans ?_))
      exact congrArg (fun d : Fin 1024 => P₂ (ix2 k d)) (Fin.ext (by dsimp only; omega))
    exact h
  · have h : (truncf (F := Ideal) .bf16 (concatenate S1024x4096 1 [⟨S1024x1024, P₀⟩, ⟨S1024x1024, P₁⟩, ⟨S1024x1024, P₂⟩, ⟨S1024x1024, P₃⟩] concatenates_S1024x1024_S1024x1024_S1024x1024_S1024x1024_S1024x4096_d1) bitsLt_bf16_f32 : Vec Ideal S1024x4096 .bf16) (ix2 k ⟨1024 * 3 + d.val, by omega⟩) = P₃ (ix2 k d) := by
      pointwise
      refine (dif_neg (by omega)).trans ((dif_neg (by omega)).trans ((dif_neg (by omega)).trans ?_))
      exact congrArg (fun d : Fin 1024 => P₃ (ix2 k d)) (Fin.ext (by dsimp only; omega))
    exact h

theorem pieces (k d : Fin 1024) (q : Fin 4) : (![V m c main_v0, V m c main_v1, V m c main_v2, V m c main_v3] : Fin 4 → Vec Ideal S1024x1024 .f32) q (ix2 k d)
    = m ((c : Thread nD τ).loc main_arg1) (ix2 k ⟨first q + d.val, by have := first_le q; omega⟩) := by
  fin_cases q
  · exact piece0 m c k d
  · exact piece1 m c k d
  · exact piece2 m c k d
  · exact piece3 m c k d

theorem arrw (k : Fin 1024) (n : Fin 4096) : V m c main_v7 (ix2 k n) = m ((c : Thread nD τ).loc main_arg1) (ix2 k (col n)) := by
  have h := (congrFun (arrw_cat m c) _).trans ((cat_at _ _ _ _ k ⟨n.val / 1024, by omega⟩ ⟨n.val % 1024, by omega⟩).trans (pieces m c k _ _))
  rw [show (⟨1024 * (n.val / 1024) + n.val % 1024, by omega⟩ : Fin 4096) = n from Fin.ext (Nat.div_add_mod _ _)] at h
  exact h

set_option maxHeartbeats 2000000 in
theorem arrx (i : Fin 16384) (k : Fin 1024) : V m c main_v6 (ix2 i k) = m ((c : Thread nD τ).loc main_arg0) (ix3 ⟨i.val / 4096, by omega⟩ ⟨i.val % 4096, by omega⟩ k) := by
  entry_read
  pointwise

theorem emb0 (r : Fin 1024) (k : Fin 1024) : ((cfg0.win 0).blk t).view.emb (ix2 r k) = ix2 ⟨1024 * (t.val % 16) + r.val, by have := t_lt t; omega⟩ k := by
  blk_ext [at0]
theorem emb1 (k : Fin 1024) (n : Fin 2048) : ((cfg0.win 1).blk t).view.emb (ix2 k n) = ix2 k ⟨2048 * (t.val / 16) + n.val, by have := t_lt t; omega⟩ := by
  blk_ext [at1]
theorem emb2 (r : Fin 1024) (n : Fin 2048) : ((cfg0.win 2).blk t).view.emb (ix2 r n) = ix2 ⟨1024 * (t.val % 16) + r.val, by have := t_lt t; omega⟩ ⟨2048 * (t.val / 16) + n.val, by have := t_lt t; omega⟩ := by
  blk_ext [at2]

theorem blk0 (r k : Fin 1024) : iblk m c 0 t (ix2 r k) = m ((c : Thread nD τ).loc main_arg0) (ix3 ⟨(1024 * (t.val % 16) + r.val) / 4096, by have := t_lt t; omega⟩ ⟨(1024 * (t.val % 16) + r.val) % 4096, by omega⟩ k) :=
  (congrArg (V m c main_v6) (emb0 t r k)).trans (arrx m c _ _)
theorem blk1 (k : Fin 1024) (n : Fin 2048) : iblk m c 1 t (ix2 k n) = m ((c : Thread nD τ).loc main_arg1) (ix2 k (col ⟨2048 * (t.val / 16) + n.val, by have := t_lt t; omega⟩)) :=
  (congrArg (V m c main_v7) (emb1 t k n)).trans (arrw m c _ _)

/-- A block of the result is the reference's at the block's place. -/
theorem block_want (r : Fin 1024) (n : Fin 2048) : k0_pay1 (iblk m c 0 t) (iblk m c 1 t) (ix2 r n)
    = want (m ((c : Thread nD τ).loc main_arg0)) (m ((c : Thread nD τ).loc main_arg1)) (((cfg0.win 2).blk t).view.emb (ix2 r n)) := by
  rw [emb2, want_apply, pay_apply]
  simp only [blk0, blk1, lin]

theorem final : (dats m 0 c).arrAt 2 cfg0.N = want (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have key := block_want m c t y0 y1
  generalize want (m ((c : Thread nD τ).loc main_arg0)) (m ((c : Thread nD τ).loc main_arg1)) = G at key ⊢
  exact key

/-- The call computes the reference's gates. -/
theorem algebraic : Cert.algebraic_SiluIdeal_SiluRefIdeal := fun m g m' g' _ h =>
  ⟨fun c => want (m ((c : Thread nD τ).loc main_arg0)) (m ((c : Thread nD τ).loc main_arg1)),
    (θ_run defs _ _).mono (fun r hr c => ⟨(hr c).1.trans (final m c), (hr c).2⟩) (Value.run_blocks (F := Ideal) m g),
    (θ_run Cert.SiluRefIdeal.defs _ _).mono
      (fun r hr c => ⟨(hr c).1.trans (by
        obtain ⟨e0, e1⟩ := h c
        rw [e0, e1]; rfl), (hr c).2⟩)
      (Cert.SiluRefIdeal.Value.run (F := Ideal) m' g')⟩

end Cert.SiluIdeal.Proj
-- ==== Proof.Proj.Gates.lean ====
/-
  The call that computes the merge gates: a product of the layer's input with its gate columns, the bias added, a sigmoid.
-/
module

public import proofs.«01_k».proof.Defs
public import proofs.«01_k».proof.Proof.Gen.GatesIdeal
public import proofs.«01_k».proof.Proof.Gen.GatesIdeal.Value
public import proofs.«01_k».proof.Proof.Gen.GatesRefIdeal
public import proofs.«01_k».proof.Proof.Gen.GatesRefIdeal.Run
public import Idealize.ShloMosaic.Lib.Pipeline.ValueKit.Geometry
public import Idealize.ShloMosaic.Lib.Pipeline.ValueKit.Acc
public import Idealize.ShloMosaic.Lib.Claim
public import Idealize.ShloMosaic.Lib.Pointwise

@[expose] public section

set_option maxRecDepth 16384

noncomputable section

namespace Cert.GatesRefIdeal.Proj

open Idealize.ShloMosaic Idealize.ShloMosaic.TcCoe Idealize.ShloMosaic.Tactic
open Cert.GatesRefIdeal Cert.GatesRefIdeal.Gen

/-- The reference's result as a function of its arguments. -/
def want {F : FTy → Type} [FloatOps F] (x : Vec F S4x4096x1024 .f32) (w : Vec F S1024x15376 .f32) (b : Vec F S4096 .f32) : Vec F S16384x4096 .bf16 :=
  truncf .bf16 (shapeCast _ (Host.divf (broadcastInDim S4x4096x4096 ![] bcast_S_S4x4096x4096 (constant S_ .f32 0x3F800000#32)) (addf (broadcastInDim S4x4096x4096 ![] bcast_S_S4x4096x4096 (constant S_ .f32 0x3F800000#32)) (Host.exp (Host.negf (addf (extractStridedSlice S4x4096x4096 ![0, 0, 11280] (Host.dotGeneral dot_S4x4096x1024_S1024x15376_S4x4096x15376_2_0_01_1_n_n none x w) slices_S4x4096x15376_S4x4096x4096_0_0_11280) (broadcastInDim S4x4096x4096 ![0, 1, 2] bcast_S1x1x4096_S4x4096x4096_0_1_2 (broadcastInDim S1x1x4096 ![2] bcast_S4096_S1x1x4096_2 b))))))) shapeCasts_S4x4096x4096_S16384x4096) bitsLt_bf16_f32

/-- One entry: a row of the input against a gate column. -/
theorem want_apply (x : Vec Ideal S4x4096x1024 .f32) (w : Vec Ideal S1024x15376 .f32) (b : Vec Ideal S4096 .f32) (i : Fin 16384) (n : Fin 4096) :
    want x w b (ix2 i n) = Ideal.div 1 (1 + Ideal.exp (-(∑ k : Fin 1024, x (ix3 ⟨i.val / 4096, by omega⟩ ⟨i.val % 4096, by omega⟩ k) * w (ix2 k ⟨11280 + n.val, by omega⟩) + b (ix1 n)))) := by
  pointwise [want]

end Cert.GatesRefIdeal.Proj

namespace Cert.GatesIdeal.Proj

open Idealize.ShloMosaic Idealize.ShloMosaic.TcCoe Idealize.ShloMosaic.Tactic
open Idealize.SL.Sem
open Cert.GatesIdeal Cert.GatesIdeal.Gen
open Cert.GatesRefIdeal.Proj (want want_apply)

theorem at3 : ∀ t : Fin cfg0.N, win0_3.index t = ![t.val % 16, t.val / 16] := (by decide +kernel : ∀ t : Fin grid0.N, _)
theorem at0 : ∀ t : Fin cfg0.N, win0_0.index t = ![t.val % 16, 0] := (by decide +kernel : ∀ t : Fin grid0.N, _)
theorem at1 : ∀ t : Fin cfg0.N, win0_1.index t = ![0, t.val / 16] := (by decide +kernel : ∀ t : Fin grid0.N, _)
theorem at2 : ∀ t : Fin cfg0.N, win0_2.index t = ![0, t.val / 16] := (by decide +kernel : ∀ t : Fin grid0.N, _)

/-- One entry of a block the body leaves. -/
theorem pay_apply (X : Vec Ideal S1024x1024 .bf16) (W : Vec Ideal S1024x2048 .bf16) (B : Vec Ideal S1x2048 .f32) (r : Fin 1024) (n : Fin 2048) :
    k0_pay1 X W B (ix2 r n) = Ideal.div 1 (1 + Ideal.exp (-(∑ k : Fin 1024, X (ix2 r k) * W (ix2 k n) + B (ix2 0 n)))) := by
  rw [← zero_sub]
  pointwise [k0_pay1]

variable (m : (ℓ : Loc nD τ sig) → Buf (Elt Ideal) ℓ) (c : Dev nD) (t : Fin cfg0.N)

theorem t_lt : t.val < 32 := t.isLt

set_option maxHeartbeats 2000000 in
theorem arr1 (i : Fin 16384) (k : Fin 1024) : V m c main_v1 (ix2 i k) = m ((c : Thread nD τ).loc main_arg0) (ix3 ⟨i.val / 4096, by omega⟩ ⟨i.val % 4096, by omega⟩ k) := by
  entry_read
  pointwise

set_option maxHeartbeats 2000000 in
theorem arr3 (k : Fin 1024) (n : Fin 4096) : V m c main_v3 (ix2 k n) = m ((c : Thread nD τ).loc main_arg1) (ix2 k ⟨11280 + n.val, by omega⟩) := by
  entry_read
  pointwise

set_option maxHeartbeats 2000000 in
theorem arr4 (n : Fin 4096) : V m c main_v4 (ix2 0 n) = m ((c : Thread nD τ).loc main_arg2) (ix1 n) := by
  entry_read
  pointwise

theorem emb0 (r : Fin 1024) (k : Fin 1024) : ((cfg0.win 0).blk t).view.emb (ix2 r k) = ix2 ⟨1024 * (t.val % 16) + r.val, by omega⟩ k := by
  blk_ext [at0]
theorem emb1 (k : Fin 1024) (n : Fin 2048) : ((cfg0.win 1).blk t).view.emb (ix2 k n) = ix2 k ⟨2048 * (t.val / 16) + n.val, by have := t_lt t; omega⟩ := by
  blk_ext [at1]
theorem emb2 (n : Fin 2048) : ((cfg0.win 2).blk t).view.emb (ix2 0 n) = ix2 0 ⟨2048 * (t.val / 16) + n.val, by have := t_lt t; omega⟩ := by
  blk_ext [at2]
theorem emb3 (r : Fin 1024) (n : Fin 2048) : ((cfg0.win 3).blk t).view.emb (ix2 r n) = ix2 ⟨1024 * (t.val % 16) + r.val, by omega⟩ ⟨2048 * (t.val / 16) + n.val, by have := t_lt t; omega⟩ := by
  blk_ext [at3]

theorem blk0 (r k : Fin 1024) : iblk m c 0 t (ix2 r k) = m ((c : Thread nD τ).loc main_arg0) (ix3 ⟨(1024 * (t.val % 16) + r.val) / 4096, by omega⟩ ⟨(1024 * (t.val % 16) + r.val) % 4096, by omega⟩ k) :=
  (congrArg (V m c main_v1) (emb0 t r k)).trans (arr1 m c _ _)
theorem blk1 (k : Fin 1024) (n : Fin 2048) : iblk m c 1 t (ix2 k n) = m ((c : Thread nD τ).loc main_arg1) (ix2 k ⟨11280 + (2048 * (t.val / 16) + n.val), by have := t_lt t; omega⟩) :=
  (congrArg (V m c main_v3) (emb1 t k n)).trans (arr3 m c _ _)
theorem blk2 (n : Fin 2048) : iblk m c 2 t (ix2 0 n) = m ((c : Thread nD τ).loc main_arg2) (ix1 ⟨2048 * (t.val / 16) + n.val, by have := t_lt t; omega⟩) :=
  (congrArg (V m c main_v4) (emb2 t n)).trans (arr4 m c _)

/-- A block of the result is the reference's at the block's place. -/
theorem block_want (r : Fin 1024) (n : Fin 2048) : k0_pay1 (iblk m c 0 t) (iblk m c 1 t) (iblk m c 2 t) (ix2 r n)
    = want (m ((c : Thread nD τ).loc main_arg0)) (m ((c : Thread nD τ).loc main_arg1)) (m ((c : Thread nD τ).loc main_arg2)) (((cfg0.win 3).blk t).view.emb (ix2 r n)) := by
  rw [emb3, want_apply, pay_apply]
  simp only [blk0, blk1, blk2]

theorem final : (dats m 0 c).arrAt 3 cfg0.N = want (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have key := block_want m c t y0 y1
  generalize want (m ((c : Thread nD τ).loc main_arg0)) (m ((c : Thread nD τ).loc main_arg1)) (m ((c : Thread nD τ).loc main_arg2)) = G at key ⊢
  exact key

/-- The call computes the reference's gates. -/
theorem algebraic : Cert.algebraic_GatesIdeal_GatesRefIdeal := fun m g m' g' _ h =>
  ⟨fun c => want (m ((c : Thread nD τ).loc main_arg0)) (m ((c : Thread nD τ).loc main_arg1)) (m ((c : Thread nD τ).loc main_arg2)),
    (θ_run defs _ _).mono (fun r hr c => ⟨(hr c).1.trans (final m c), (hr c).2⟩) (Value.run_blocks (F := Ideal) m g),
    (θ_run Cert.GatesRefIdeal.defs _ _).mono
      (fun r hr c => ⟨(hr c).1.trans (by
        obtain ⟨e0, e1, e2⟩ := h c
        rw [e0, e1, e2]; rfl), (hr c).2⟩)
      (Cert.GatesRefIdeal.Value.run (F := Ideal) m' g')⟩

end Cert.GatesIdeal.Proj
-- ==== Proof.Proj.Glu.lean ====
/-
  The call that computes the convolution branch's gated input: two column blocks of one product, one through a sigmoid, multiplied.
-/
module

public import proofs.«01_k».proof.Defs
public import proofs.«01_k».proof.Proof.Gen.GluIdeal
public import proofs.«01_k».proof.Proof.Gen.GluIdeal.Value
public import proofs.«01_k».proof.Proof.Gen.GluRefIdeal
public import proofs.«01_k».proof.Proof.Gen.GluRefIdeal.Run
public import Idealize.ShloMosaic.Lib.Pipeline.ValueKit.Geometry
public import Idealize.ShloMosaic.Lib.Pipeline.ValueKit.Acc
public import Idealize.ShloMosaic.Lib.Claim
public import Idealize.ShloMosaic.Lib.Pointwise

@[expose] public section

set_option maxRecDepth 16384

noncomputable section

namespace Cert.GluRefIdeal.Proj

open Idealize.ShloMosaic Idealize.ShloMosaic.TcCoe Idealize.ShloMosaic.Tactic
open Cert.GluRefIdeal Cert.GluRefIdeal.Gen

/-- The reference's result as a function of its arguments. -/
def want {F : FTy → Type} [FloatOps F] (x : Vec F S4x4096x1024 .f32) (w : Vec F S1024x15376 .f32) : Vec F S16384x1024 .f32 :=
  shapeCast _ (mulf (extractStridedSlice S4x4096x1024 ![0, 0, 0] (extractStridedSlice S4x4096x2048 ![0, 0, 0] (Host.dotGeneral dot_S4x4096x1024_S1024x15376_S4x4096x15376_2_0_01_1_n_n none x w) slices_S4x4096x15376_S4x4096x2048_0_0_0) slices_S4x4096x2048_S4x4096x1024_0_0_0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] (extractStridedSlice S4x4096x2048 ![0, 0, 0] (Host.dotGeneral dot_S4x4096x1024_S1024x15376_S4x4096x15376_2_0_01_1_n_n none x w) slices_S4x4096x15376_S4x4096x2048_0_0_0) slices_S4x4096x2048_S4x4096x1024_0_0_1024)))))) shapeCasts_S4x4096x1024_S16384x1024

/-- One entry: the first half's product times the sigmoid of the second half's. -/
theorem want_apply (x : Vec Ideal S4x4096x1024 .f32) (w : Vec Ideal S1024x15376 .f32) (i : Fin 16384) (n : Fin 1024) :
    want x w (ix2 i n) = (∑ k : Fin 1024, x (ix3 ⟨i.val / 4096, by omega⟩ ⟨i.val % 4096, by omega⟩ k) * w (ix2 k ⟨n.val, by omega⟩))
      * Ideal.div 1 (1 + Ideal.exp (-(∑ k : Fin 1024, x (ix3 ⟨i.val / 4096, by omega⟩ ⟨i.val % 4096, by omega⟩ k) * w (ix2 k ⟨1024 + n.val, by omega⟩)))) := by
  pointwise [want]

end Cert.GluRefIdeal.Proj

namespace Cert.GluIdeal.Proj

open Idealize.ShloMosaic Idealize.ShloMosaic.TcCoe Idealize.ShloMosaic.Tactic
open Idealize.SL.Sem
open Cert.GluIdeal Cert.GluIdeal.Gen
open Cert.GluRefIdeal.Proj (want want_apply)

theorem at3 : ∀ t : Fin cfg0.N, win0_3.index t = ![t.val, 0] := (by decide +kernel : ∀ t : Fin grid0.N, _)
theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 1] := (by decide +kernel : ∀ t : Fin grid0.N, _)

/-- One entry of a block the body leaves. -/
theorem pay_apply (X W₁ W₂ : Vec Ideal S1024x1024 .bf16) (r : Fin 1024) (n : Fin 1024) :
    k0_pay1 X W₁ W₂ (ix2 r n) = (∑ k : Fin 1024, X (ix2 r k) * W₁ (ix2 k n)) * Ideal.div 1 (1 + Ideal.exp (-(∑ k : Fin 1024, X (ix2 r k) * W₂ (ix2 k n)))) := by
  rw [← zero_sub]
  pointwise [k0_pay1]

variable (m : (ℓ : Loc nD τ sig) → Buf (Elt Ideal) ℓ) (c : Dev nD) (t : Fin cfg0.N)

theorem t_lt : t.val < 16 := t.isLt

set_option maxHeartbeats 2000000 in
theorem arr1 (i : Fin 16384) (k : Fin 1024) : V m c main_v1 (ix2 i k) = m ((c : Thread nD τ).loc main_arg0) (ix3 ⟨i.val / 4096, by omega⟩ ⟨i.val % 4096, by omega⟩ k) := by
  entry_read
  pointwise

set_option maxHeartbeats 2000000 in
theorem arr3 (k : Fin 1024) (n : Fin 2048) : V m c main_v3 (ix2 k n) = m ((c : Thread nD τ).loc main_arg1) (ix2 k ⟨n.val, by omega⟩) := by
  entry_read
  pointwise

theorem emb0 (r : Fin 1024) (k : Fin 1024) : ((cfg0.win 0).blk t).view.emb (ix2 r k) = ix2 ⟨1024 * t.val + r.val, by have := t_lt t; omega⟩ k := by
  blk_ext [at0]
theorem emb1 (k : Fin 1024) (n : Fin 1024) : ((cfg0.win 1).blk t).view.emb (ix2 k n) = ix2 k ⟨n.val, by omega⟩ := by
  blk_ext [at1]
theorem emb2 (k : Fin 1024) (n : Fin 1024) : ((cfg0.win 2).blk t).view.emb (ix2 k n) = ix2 k ⟨1024 + n.val, by omega⟩ := by
  blk_ext [at2]
theorem emb3 (r : Fin 1024) (n : Fin 1024) : ((cfg0.win 3).blk t).view.emb (ix2 r n) = ix2 ⟨1024 * t.val + r.val, by have := t_lt t; omega⟩ n := by
  blk_ext [at3]

theorem blk0 (r k : Fin 1024) : iblk m c 0 t (ix2 r k) = m ((c : Thread nD τ).loc main_arg0) (ix3 ⟨(1024 * t.val + r.val) / 4096, by have := t_lt t; omega⟩ ⟨(1024 * t.val + r.val) % 4096, by omega⟩ k) :=
  (congrArg (V m c main_v1) (emb0 t r k)).trans (arr1 m c _ _)
theorem blk1 (k : Fin 1024) (n : Fin 1024) : iblk m c 1 t (ix2 k n) = m ((c : Thread nD τ).loc main_arg1) (ix2 k ⟨n.val, by omega⟩) :=
  (congrArg (V m c main_v3) (emb1 t k n)).trans (arr3 m c _ _)
theorem blk2 (k : Fin 1024) (n : Fin 1024) : iblk m c 2 t (ix2 k n) = m ((c : Thread nD τ).loc main_arg1) (ix2 k ⟨1024 + n.val, by omega⟩) :=
  (congrArg (V m c main_v3) (emb2 t k n)).trans (arr3 m c _ _)

/-- A block of the result is the reference's at the block's place. -/
theorem block_want (r : Fin 1024) (n : Fin 1024) : k0_pay1 (iblk m c 0 t) (iblk m c 1 t) (iblk m c 2 t) (ix2 r n)
    = want (m ((c : Thread nD τ).loc main_arg0)) (m ((c : Thread nD τ).loc main_arg1)) (((cfg0.win 3).blk t).view.emb (ix2 r n)) := by
  rw [emb3, want_apply, pay_apply]
  simp only [blk0, blk1, blk2]

theorem final : (dats m 0 c).arrAt 3 cfg0.N = want (m ((c : Thread nD τ).loc main_arg0)) (m ((c : Thread nD τ).loc main_arg1)) := by
  refine (dats m 0 c).arrAt_eq_of_covers 3 _ (by decide +kernel) fun t hf y => ?_
  blk_simp
  rw [after0_3]
  frame_out
  idx_vars y
  have key := block_want m c t y0 y1
  generalize want (m ((c : Thread nD τ).loc main_arg0)) (m ((c : Thread nD τ).loc main_arg1)) = G at key ⊢
  exact key

/-- The call computes the reference's gated input. -/
theorem algebraic : Cert.algebraic_GluIdeal_GluRefIdeal := fun m g m' g' _ h =>
  ⟨fun c => want (m ((c : Thread nD τ).loc main_arg0)) (m ((c : Thread nD τ).loc main_arg1)),
    (θ_run defs _ _).mono (fun r hr c => ⟨(hr c).1.trans (final m c), (hr c).2⟩) (Value.run_blocks (F := Ideal) m g),
    (θ_run Cert.GluRefIdeal.defs _ _).mono
      (fun r hr c => ⟨(hr c).1.trans (by
        obtain ⟨e0, e1⟩ := h c
        rw [e0, e1]; rfl), (hr c).2⟩)
      (Cert.GluRefIdeal.Value.run (F := Ideal) m' g')⟩

end Cert.GluIdeal.Proj
-- ==== Proof.Proj.Queries.lean ====
/-
  The call that computes the queries of the two attention branches: the layer's input against two column blocks of its weights.
-/
module

public import proofs.«01_k».proof.Defs
public import proofs.«01_k».proof.Proof.Gen.QueriesIdeal
public import proofs.«01_k».proof.Proof.Gen.QueriesIdeal.Value
public import proofs.«01_k».proof.Proof.Gen.QueriesRefIdeal
public import proofs.«01_k».proof.Proof.Gen.QueriesRefIdeal.Run
public import Idealize.ShloMosaic.Lib.Pipeline.ValueKit.Geometry
public import Idealize.ShloMosaic.Lib.Pipeline.ValueKit.Acc
public import Idealize.ShloMosaic.Lib.Claim
public import Idealize.ShloMosaic.Lib.Pointwise

@[expose] public section

set_option maxRecDepth 16384

noncomputable section

namespace Cert.QueriesRefIdeal.Proj

open Idealize.ShloMosaic Idealize.ShloMosaic.TcCoe Idealize.ShloMosaic.Tactic
open Cert.QueriesRefIdeal Cert.QueriesRefIdeal.Gen

/-- The column of the weights behind the result's column n: the first thousand are the sequence queries, the others the memory queries. -/
def col (n : Fin 2048) : Fin 15376 := if n.val < 1024 then ⟨3072 + n.val, by omega⟩ else ⟨9232 + (n.val - 1024), by omega⟩

/-- The reference's result as a function of its arguments. -/
def want {F : FTy → Type} [FloatOps F] (x : Vec F S4x4096x1024 .f32) (w : Vec F S1024x15376 .f32) : Vec F S16384x2048 .bf16 :=
  truncf .bf16 (shapeCast _ (concatenate S4x4096x2048 2 [⟨S4x4096x1024, (extractStridedSlice S4x4096x1024 ![0, 0, 3072] (Host.dotGeneral dot_S4x4096x1024_S1024x15376_S4x4096x15376_2_0_01_1_n_n none x w) slices_S4x4096x15376_S4x4096x1024_0_0_3072)⟩, ⟨S4x4096x1024, (extractStridedSlice S4x4096x1024 ![0, 0, 9232] (Host.dotGeneral dot_S4x4096x1024_S1024x15376_S4x4096x15376_2_0_01_1_n_n none x w) slices_S4x4096x15376_S4x4096x1024_0_0_9232)⟩] concatenates_S4x4096x1024_S4x4096x1024_S4x4096x2048_d2) shapeCasts_S4x4096x2048_S16384x2048) bitsLt_bf16_f32

/-- One entry: a row of the input against a column of the weights. -/
theorem want_apply (x : Vec Ideal S4x4096x1024 .f32) (w : Vec Ideal S1024x15376 .f32) (i : Fin 16384) (n : Fin 2048) :
    want x w (ix2 i n) = ∑ k : Fin 1024, x (ix3 ⟨i.val / 4096, by omega⟩ ⟨i.val % 4096, by omega⟩ k) * w (ix2 k (col n)) := by
  rcases lt_or_ge n.val 1024 with h | h
  · rw [col, if_pos h]
    pointwise [want]
    exact dif_pos h
  · rw [col, if_neg (by omega)]
    pointwise [want]
    exact dif_neg (by omega)

end Cert.QueriesRefIdeal.Proj

namespace Cert.QueriesIdeal.Proj

open Idealize.ShloMosaic Idealize.ShloMosaic.TcCoe Idealize.ShloMosaic.Tactic
open Idealize.SL.Sem
open Cert.QueriesIdeal Cert.QueriesIdeal.Gen
open Cert.QueriesRefIdeal.Proj (want want_apply col)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- One entry of a block the body leaves. -/
theorem pay_apply (X : Vec Ideal S1024x1024 .bf16) (W : Vec Ideal S1024x2048 .bf16) (r : Fin 1024) (n : Fin 2048) :
    k0_pay1 X W (ix2 r n) = ∑ k : Fin 1024, X (ix2 r k) * W (ix2 k n) := by
  pointwise [k0_pay1]

variable (m : (ℓ : Loc nD τ sig) → Buf (Elt Ideal) ℓ) (c : Dev nD) (t : Fin cfg0.N)

theorem t_lt : t.val < 16 := t.isLt

set_option maxHeartbeats 2000000 in
theorem arrx (i : Fin 16384) (k : Fin 1024) : V m c main_v4 (ix2 i k) = m ((c : Thread nD τ).loc main_arg0) (ix3 ⟨i.val / 4096, by omega⟩ ⟨i.val % 4096, by omega⟩ k) := by
  entry_read
  pointwise

set_option maxHeartbeats 2000000 in
theorem arrw (k : Fin 1024) (n : Fin 2048) : V m c main_v5 (ix2 k n) = m ((c : Thread nD τ).loc main_arg1) (ix2 k (col n)) := by
  rcases lt_or_ge n.val 1024 with h | h
  · rw [col, if_pos h]
    entry_read
    pointwise
    exact dif_pos h
  · rw [col, if_neg (by omega)]
    entry_read
    pointwise
    exact dif_neg (by omega)

theorem emb0 (r : Fin 1024) (k : Fin 1024) : ((cfg0.win 0).blk t).view.emb (ix2 r k) = ix2 ⟨1024 * t.val + r.val, by have := t_lt t; omega⟩ k := by
  blk_ext [at0]
theorem emb1 (k : Fin 1024) (n : Fin 2048) : ((cfg0.win 1).blk t).view.emb (ix2 k n) = ix2 k n := by
  blk_ext [at1]
theorem emb2 (r : Fin 1024) (n : Fin 2048) : ((cfg0.win 2).blk t).view.emb (ix2 r n) = ix2 ⟨1024 * t.val + r.val, by have := t_lt t; omega⟩ n := by
  blk_ext [at2]

theorem blk0 (r k : Fin 1024) : iblk m c 0 t (ix2 r k) = m ((c : Thread nD τ).loc main_arg0) (ix3 ⟨(1024 * t.val + r.val) / 4096, by have := t_lt t; omega⟩ ⟨(1024 * t.val + r.val) % 4096, by omega⟩ k) :=
  (congrArg (V m c main_v4) (emb0 t r k)).trans (arrx m c _ _)
theorem blk1 (k : Fin 1024) (n : Fin 2048) : iblk m c 1 t (ix2 k n) = m ((c : Thread nD τ).loc main_arg1) (ix2 k (col n)) :=
  (congrArg (V m c main_v5) (emb1 t k n)).trans (arrw m c _ _)

/-- A block of the result is the reference's at the block's place. -/
theorem block_want (r : Fin 1024) (n : Fin 2048) : k0_pay1 (iblk m c 0 t) (iblk m c 1 t) (ix2 r n)
    = want (m ((c : Thread nD τ).loc main_arg0)) (m ((c : Thread nD τ).loc main_arg1)) (((cfg0.win 2).blk t).view.emb (ix2 r n)) := by
  rw [emb2, want_apply, pay_apply]
  simp only [blk0, blk1]

theorem final : (dats m 0 c).arrAt 2 cfg0.N = want (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have key := block_want m c t y0 y1
  generalize want (m ((c : Thread nD τ).loc main_arg0)) (m ((c : Thread nD τ).loc main_arg1)) = G at key ⊢
  exact key

/-- The call computes the reference's queries. -/
theorem algebraic : Cert.algebraic_QueriesIdeal_QueriesRefIdeal := fun m g m' g' _ h =>
  ⟨fun c => want (m ((c : Thread nD τ).loc main_arg0)) (m ((c : Thread nD τ).loc main_arg1)),
    (θ_run defs _ _).mono (fun r hr c => ⟨(hr c).1.trans (final m c), (hr c).2⟩) (Value.run_blocks (F := Ideal) m g),
    (θ_run Cert.QueriesRefIdeal.defs _ _).mono
      (fun r hr c => ⟨(hr c).1.trans (by
        obtain ⟨e0, e1⟩ := h c
        rw [e0, e1]; rfl), (hr c).2⟩)
      (Cert.QueriesRefIdeal.Value.run (F := Ideal) m' g')⟩

end Cert.QueriesIdeal.Proj
-- ==== Proof.Proj.Memory.lean ====
/-
  The call that computes the keys and values of the memory tokens: the memory against its weights.
-/
module

public import proofs.«01_k».proof.Defs
public import proofs.«01_k».proof.Proof.Gen.MemoryIdeal
public import proofs.«01_k».proof.Proof.Gen.MemoryIdeal.Value
public import proofs.«01_k».proof.Proof.Gen.MemoryRefIdeal
public import proofs.«01_k».proof.Proof.Gen.MemoryRefIdeal.Run
public import Idealize.ShloMosaic.Lib.Pipeline.ValueKit.Geometry
public import Idealize.ShloMosaic.Lib.Pipeline.ValueKit.Acc
public import Idealize.ShloMosaic.Lib.Claim
public import Idealize.ShloMosaic.Lib.Pointwise

@[expose] public section

set_option maxRecDepth 16384

noncomputable section

namespace Cert.MemoryRefIdeal.Proj

open Idealize.ShloMosaic Idealize.ShloMosaic.TcCoe Idealize.ShloMosaic.Tactic
open Cert.MemoryRefIdeal Cert.MemoryRefIdeal.Gen

/-- The reference's result as a function of its arguments. -/
def want {F : FTy → Type} [FloatOps F] (x : Vec F S4x256x1024 .f32) (w : Vec F S1024x2048 .f32) : Vec F S1024x2048 .f32 :=
  shapeCast _ (Host.dotGeneral dot_S4x256x1024_S1024x2048_S4x256x2048_2_0_01_1_n_n none x w) shapeCasts_S4x256x2048_S1024x2048

/-- One entry: a memory token against a column of the weights. -/
theorem want_apply (x : Vec Ideal S4x256x1024 .f32) (w : Vec Ideal S1024x2048 .f32) (i : Fin 1024) (n : Fin 2048) :
    want x w (ix2 i n) = ∑ k : Fin 1024, x (ix3 ⟨i.val / 256, by omega⟩ ⟨i.val % 256, by omega⟩ k) * w (ix2 k n) := by
  pointwise [want]

end Cert.MemoryRefIdeal.Proj

namespace Cert.MemoryIdeal.Proj

open Idealize.ShloMosaic Idealize.ShloMosaic.TcCoe Idealize.ShloMosaic.Tactic
open Idealize.SL.Sem
open Cert.MemoryIdeal Cert.MemoryIdeal.Gen
open Cert.MemoryRefIdeal.Proj (want want_apply)

theorem at0 : ∀ t : Fin cfg0.N, win0_0.index t = ![0, 0] := (by decide +kernel : ∀ t : Fin grid0.N, _)
theorem at1 : ∀ t : Fin cfg0.N, win0_1.index t = ![0, t.val] := (by decide +kernel : ∀ t : Fin grid0.N, _)
theorem at2 : ∀ t : Fin cfg0.N, win0_2.index t = ![0, t.val] := (by decide +kernel : ∀ t : Fin grid0.N, _)

/-- One entry of a block the body leaves. -/
theorem pay_apply (X W : Vec Ideal S1024x1024 .bf16) (r n : Fin 1024) :
    k0_pay1 X W (ix2 r n) = ∑ k : Fin 1024, X (ix2 r k) * W (ix2 k n) := by
  pointwise [k0_pay1]

variable (m : (ℓ : Loc nD τ sig) → Buf (Elt Ideal) ℓ) (c : Dev nD) (t : Fin cfg0.N)

theorem t_lt : t.val < 2 := t.isLt

set_option maxHeartbeats 2000000 in
theorem arrx (i : Fin 1024) (k : Fin 1024) : V m c main_v1 (ix2 i k) = m ((c : Thread nD τ).loc main_arg0) (ix3 ⟨i.val / 256, by omega⟩ ⟨i.val % 256, by omega⟩ k) := by
  entry_read
  pointwise

set_option maxHeartbeats 2000000 in
theorem arrw (k : Fin 1024) (n : Fin 2048) : V m c main_v2 (ix2 k n) = m ((c : Thread nD τ).loc main_arg1) (ix2 k n) := by
  entry_read
  pointwise

theorem emb0 (r k : Fin 1024) : ((cfg0.win 0).blk t).view.emb (ix2 r k) = ix2 r k := by
  blk_ext [at0]
theorem emb1 (k n : Fin 1024) : ((cfg0.win 1).blk t).view.emb (ix2 k n) = ix2 k ⟨1024 * t.val + n.val, by have := t_lt t; omega⟩ := by
  blk_ext [at1]
theorem emb2 (r n : Fin 1024) : ((cfg0.win 2).blk t).view.emb (ix2 r n) = ix2 r ⟨1024 * t.val + n.val, by have := t_lt t; omega⟩ := by
  blk_ext [at2]

theorem blk0 (r k : Fin 1024) : iblk m c 0 t (ix2 r k) = m ((c : Thread nD τ).loc main_arg0) (ix3 ⟨r.val / 256, by omega⟩ ⟨r.val % 256, by omega⟩ k) :=
  (congrArg (V m c main_v1) (emb0 t r k)).trans (arrx m c _ _)
theorem blk1 (k n : Fin 1024) : iblk m c 1 t (ix2 k n) = m ((c : Thread nD τ).loc main_arg1) (ix2 k ⟨1024 * t.val + n.val, by have := t_lt t; omega⟩) :=
  (congrArg (V m c main_v2) (emb1 t k n)).trans (arrw m c _ _)

/-- A block of the result is the reference's at the block's place. -/
theorem block_want (r n : Fin 1024) : k0_pay1 (iblk m c 0 t) (iblk m c 1 t) (ix2 r n)
    = want (m ((c : Thread nD τ).loc main_arg0)) (m ((c : Thread nD τ).loc main_arg1)) (((cfg0.win 2).blk t).view.emb (ix2 r n)) := by
  rw [emb2, want_apply, pay_apply]
  simp only [blk0, blk1]

theorem final : (dats m 0 c).arrAt 2 cfg0.N = want (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have key := block_want m c t y0 y1
  generalize want (m ((c : Thread nD τ).loc main_arg0)) (m ((c : Thread nD τ).loc main_arg1)) = G at key ⊢
  exact key

/-- The call computes the reference's keys and values of the memory. -/
theorem algebraic : Cert.algebraic_MemoryIdeal_MemoryRefIdeal := fun m g m' g' _ h =>
  ⟨fun c => want (m ((c : Thread nD τ).loc main_arg0)) (m ((c : Thread nD τ).loc main_arg1)),
    (θ_run defs _ _).mono (fun r hr c => ⟨(hr c).1.trans (final m c), (hr c).2⟩) (Value.run_blocks (F := Ideal) m g),
    (θ_run Cert.MemoryRefIdeal.defs _ _).mono
      (fun r hr c => ⟨(hr c).1.trans (by
        obtain ⟨e0, e1⟩ := h c
        rw [e0, e1]; rfl), (hr c).2⟩)
      (Cert.MemoryRefIdeal.Value.run (F := Ideal) m' g')⟩

end Cert.MemoryIdeal.Proj
-- ==== Proof.Proj.Keys.lean ====
/-
  The call that computes the sample group's new keys and values, once in f32 as results and once in bf16 for the attention.
-/
module

public import proofs.«01_k».proof.Defs
public import proofs.«01_k».proof.Proof.Gen.KeysIdeal
public import proofs.«01_k».proof.Proof.Gen.KeysIdeal.Value
public import proofs.«01_k».proof.Proof.Gen.KeysRefIdeal
public import proofs.«01_k».proof.Proof.Gen.KeysRefIdeal.Run
public import Idealize.ShloMosaic.Lib.Pipeline.ValueKit.Geometry
public import Idealize.ShloMosaic.Lib.Pipeline.ValueKit.Acc
public import Idealize.ShloMosaic.Lib.Claim
public import Idealize.ShloMosaic.Lib.Pointwise

@[expose] public section

set_option maxRecDepth 16384

noncomputable section

namespace Cert.KeysRefIdeal.Proj

open Idealize.ShloMosaic Idealize.ShloMosaic.TcCoe Idealize.ShloMosaic.Tactic
open Cert.KeysRefIdeal Cert.KeysRefIdeal.Gen

/-- The reference's f32 result as a function of its arguments. -/
def want {F : FTy → Type} [FloatOps F] (x : Vec F S32x8x1024 .f32) (w : Vec F S1024x15376 .f32) : Vec F S256x1024 .f32 :=
  shapeCast _ (extractStridedSlice S32x8x1024 ![0, 0, 4096] (Host.dotGeneral dot_S32x8x1024_S1024x15376_S32x8x15376_2_0_01_1_n_n none x w) slices_S32x8x15376_S32x8x1024_0_0_4096) shapeCasts_S32x8x1024_S256x1024

/-- One entry: a token against a column of the weights, keys first and values behind. -/
theorem want_apply (x : Vec Ideal S32x8x1024 .f32) (w : Vec Ideal S1024x15376 .f32) (i : Fin 256) (n : Fin 1024) :
    want x w (ix2 i n) = ∑ k : Fin 1024, x (ix3 ⟨i.val / 8, by omega⟩ ⟨i.val % 8, by omega⟩ k) * w (ix2 k ⟨4096 + n.val, by omega⟩) := by
  pointwise [want]

end Cert.KeysRefIdeal.Proj

namespace Cert.KeysIdeal.Proj

open Idealize.ShloMosaic Idealize.ShloMosaic.TcCoe Idealize.ShloMosaic.Tactic
open Idealize.SL.Sem
open Cert.KeysIdeal Cert.KeysIdeal.Gen
open Cert.KeysRefIdeal.Proj (want want_apply)

theorem at0 : ∀ t : Fin cfg0.N, win0_0.index t = ![0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)

/-- One entry of the block the body leaves. -/
theorem pay_apply (X : Vec Ideal S256x1024 .bf16) (W : Vec Ideal S1024x1024 .bf16) (r : Fin 256) (n : Fin 1024) :
    k0_pay1 X W (ix2 r n) = ∑ k : Fin 1024, X (ix2 r k) * W (ix2 k n) := by
  pointwise [k0_pay1]

variable (m : (ℓ : Loc nD τ sig) → Buf (Elt Ideal) ℓ) (c : Dev nD) (t : Fin cfg0.N)

set_option maxHeartbeats 2000000 in
theorem arrx (i : Fin 256) (k : Fin 1024) : V m c main_v4 (ix2 i k) = m ((c : Thread nD τ).loc main_arg0) (ix3 ⟨i.val / 8, by omega⟩ ⟨i.val % 8, by omega⟩ k) := by
  entry_read
  pointwise

set_option maxHeartbeats 2000000 in
theorem arrw (k : Fin 1024) (n : Fin 1024) : V m c main_v5 (ix2 k n) = m ((c : Thread nD τ).loc main_arg1) (ix2 k ⟨4096 + n.val, by omega⟩) := by
  rcases lt_or_ge n.val 512 with h | h
  · entry_read
    pointwise
    exact dif_pos h
  · have e : (⟨4096 + n.val, by omega⟩ : Fin 15376) = ⟨4608 + (n.val - 512), by omega⟩ := Fin.ext (by simp only; omega)
    rw [e]
    entry_read
    pointwise
    exact dif_neg (by omega)

theorem emb0 (r : Fin 256) (k : Fin 1024) : ((cfg0.win 0).blk t).view.emb (ix2 r k) = ix2 r k := by
  blk_ext [at0]
theorem emb1 (k n : Fin 1024) : ((cfg0.win 1).blk t).view.emb (ix2 k n) = ix2 k n := by
  blk_ext [at1]
theorem emb2 (r : Fin 256) (n : Fin 1024) : ((cfg0.win 2).blk t).view.emb (ix2 r n) = ix2 r n := by
  blk_ext [at2]
theorem emb3 (r : Fin 256) (n : Fin 1024) : ((cfg0.win 3).blk t).view.emb (ix2 r n) = ix2 r n := by
  blk_ext [at3]

theorem blk0 (r : Fin 256) (k : Fin 1024) : iblk m c 0 t (ix2 r k) = m ((c : Thread nD τ).loc main_arg0) (ix3 ⟨r.val / 8, by omega⟩ ⟨r.val % 8, by omega⟩ k) :=
  (congrArg (V m c main_v4) (emb0 t r k)).trans (arrx m c _ _)
theorem blk1 (k n : Fin 1024) : iblk m c 1 t (ix2 k n) = m ((c : Thread nD τ).loc main_arg1) (ix2 k ⟨4096 + n.val, by omega⟩) :=
  (congrArg (V m c main_v5) (emb1 t k n)).trans (arrw m c _ _)

/-- The block is the reference's result. -/
theorem block_want (r : Fin 256) (n : Fin 1024) : k0_pay1 (iblk m c 0 t) (iblk m c 1 t) (ix2 r n)
    = want (m ((c : Thread nD τ).loc main_arg0)) (m ((c : Thread nD τ).loc main_arg1)) (ix2 r n) := by
  rw [want_apply, pay_apply]
  simp only [blk0, blk1]

theorem final2 : (dats m 0 c).arrAt 2 cfg0.N = want (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have key := block_want m c t y0 y1
  rw [emb2]
  generalize want (m ((c : Thread nD τ).loc main_arg0)) (m ((c : Thread nD τ).loc main_arg1)) = G at key ⊢
  exact key

theorem final3 : (dats m 0 c).arrAt 3 cfg0.N = truncf (F := Ideal) .bf16 (want (m ((c : Thread nD τ).loc main_arg0)) (m ((c : Thread nD τ).loc main_arg1))) bitsLt_bf16_f32 := by
  refine (dats m 0 c).arrAt_eq_of_covers 3 _ (by decide +kernel) fun t hf y => ?_
  blk_simp
  rw [after0_3]
  frame_out
  idx_vars y
  have key := block_want m c t y0 y1
  rw [emb3]
  generalize want (m ((c : Thread nD τ).loc main_arg0)) (m ((c : Thread nD τ).loc main_arg1)) = G at key ⊢
  exact key

/-- The call computes the reference's new keys and values of the sample group, in both formats. -/
theorem algebraic : Cert.algebraic_KeysIdeal_KeysRefIdeal := fun m g m' g' _ h =>
  ⟨fun c => want (m ((c : Thread nD τ).loc main_arg0)) (m ((c : Thread nD τ).loc main_arg1)), fun c => truncf (F := Ideal) .bf16 (want (m ((c : Thread nD τ).loc main_arg0)) (m ((c : Thread nD τ).loc main_arg1))) bitsLt_bf16_f32,
    (θ_run defs _ _).mono (fun r hr c => ⟨(hr c).1.trans (final2 m c), (hr c).2.1.trans (final3 m c), (hr c).2.2⟩) (Value.run_blocks (F := Ideal) m g),
    (θ_run Cert.KeysRefIdeal.defs _ _).mono
      (fun r hr c => by
        obtain ⟨e0, e1⟩ := h c
        exact ⟨(hr c).1.trans (by rw [e0, e1]; rfl), (hr c).2.1.trans (by rw [e0, e1]; rfl), (hr c).2.2⟩)
      (Cert.KeysRefIdeal.Value.run (F := Ideal) m' g')⟩

end Cert.KeysIdeal.Proj
-- ==== Proof.Proj.ScanInput.lean ====
/-
  The call that computes the scan branch's input: the columns of the second convolution, the time steps, and zeros up to a whole tile.
-/
module

public import proofs.«01_k».proof.Defs
public import proofs.«01_k».proof.Proof.Gen.ScanInputIdeal
public import proofs.«01_k».proof.Proof.Gen.ScanInputIdeal.Value
public import proofs.«01_k».proof.Proof.Gen.ScanInputRefIdeal
public import proofs.«01_k».proof.Proof.Gen.ScanInputRefIdeal.Run
public import Idealize.ShloMosaic.Lib.Pipeline.ValueKit.Geometry
public import Idealize.ShloMosaic.Lib.Pipeline.ValueKit.Acc
public import Idealize.ShloMosaic.Lib.Claim
public import Idealize.ShloMosaic.Lib.Pointwise

@[expose] public section

set_option maxRecDepth 16384

noncomputable section

namespace Cert.ScanInputRefIdeal.Proj

open Idealize.ShloMosaic Idealize.ShloMosaic.TcCoe Idealize.ShloMosaic.Tactic
open Cert.ScanInputRefIdeal Cert.ScanInputRefIdeal.Gen

/-- The reference's result as a function of its arguments. -/
def want {F : FTy → Type} [FloatOps F] (x : Vec F S4x4096x1024 .f32) (w : Vec F S1024x15376 .f32) : Vec F S16384x2176 .f32 :=
  shapeCast _ (concatenate S4x4096x2176 2 [⟨S4x4096x2064, (extractStridedSlice S4x4096x2064 ![0, 0, 7168] (Host.dotGeneral dot_S4x4096x1024_S1024x15376_S4x4096x15376_2_0_01_1_n_n none x w) slices_S4x4096x15376_S4x4096x2064_0_0_7168)⟩, ⟨S4x4096x112, (broadcastInDim S4x4096x112 ![] bcast_S_S4x4096x112 (constant S_ .f32 0x00000000#32))⟩] concatenates_S4x4096x2064_S4x4096x112_S4x4096x2176_d2) shapeCasts_S4x4096x2176_S16384x2176

/-- An entry of the weights with zero columns behind. -/
def padded (w : Vec Ideal S1024x15376 .f32) (k : Fin 1024) (n : Fin 2176) : Elt Ideal .f32 :=
  if h : n.val < 2064 then w (ix2 k ⟨7168 + n.val, by omega⟩) else (0 : EReal)

/-- One entry: a row of the input against a column of the padded weights. -/
theorem want_apply (x : Vec Ideal S4x4096x1024 .f32) (w : Vec Ideal S1024x15376 .f32) (i : Fin 16384) (n : Fin 2176) :
    want x w (ix2 i n) = ∑ k : Fin 1024, x (ix3 ⟨i.val / 4096, by omega⟩ ⟨i.val % 4096, by omega⟩ k) * padded w k n := by
  rcases lt_or_ge n.val 2064 with h | h
  · simp only [padded, dif_pos h]
    pointwise [want]
    exact dif_pos h
  · simp only [padded, dif_neg (show ¬ n.val < 2064 by omega)]
    refine Eq.trans ?_ (Finset.sum_eq_zero (fun k _ => mul_zero (M₀ := EReal) _)).symm
    pointwise [want]
    exact dif_neg (by omega)

end Cert.ScanInputRefIdeal.Proj

namespace Cert.ScanInputIdeal.Proj

open Idealize.ShloMosaic Idealize.ShloMosaic.TcCoe Idealize.ShloMosaic.Tactic
open Idealize.SL.Sem
open Cert.ScanInputIdeal Cert.ScanInputIdeal.Gen
open Cert.ScanInputRefIdeal.Proj (want want_apply padded)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- One entry of a block the body leaves. -/
theorem pay_apply (X : Vec Ideal S1024x1024 .bf16) (W : Vec Ideal S1024x2176 .bf16) (r : Fin 1024) (n : Fin 2176) :
    k0_pay1 X W (ix2 r n) = ∑ k : Fin 1024, X (ix2 r k) * W (ix2 k n) := by
  pointwise [k0_pay1]

variable (m : (ℓ : Loc nD τ sig) → Buf (Elt Ideal) ℓ) (c : Dev nD) (t : Fin cfg0.N)

theorem t_lt : t.val < 16 := t.isLt

set_option maxHeartbeats 2000000 in
theorem arrx (i : Fin 16384) (k : Fin 1024) : V m c main_v5 (ix2 i k) = m ((c : Thread nD τ).loc main_arg0) (ix3 ⟨i.val / 4096, by omega⟩ ⟨i.val % 4096, by omega⟩ k) := by
  entry_read
  pointwise

open StableHlo in
theorem after_two {l₁ l₂ : List (HloOp τ sig (Elt Ideal))} (W : Valuation τ sig (Elt Ideal)) : after (l₁ ++ l₂) W = after l₂ (after l₁ W) := by
  induction l₁ generalizing W with
  | nil => rfl
  | cons op l ih => exact ih _

theorem V_split (r : Ref sig .tc) : V m c r = StableHlo.after (hostOps0.drop 4) (StableHlo.after (hostOps0.take 4) (fun b => m (c, b))) r := by
  rw [← after_two, List.take_append_drop]

open StableHlo in
/-- The operations after the slices and the zeros leave these side by side. -/
theorem last_v6 (W : Valuation τ sig (Elt Ideal)) : after (hostOps0.drop 4) W main_v6 = (truncf (F := Ideal) .bf16 (concatenate S1024x2176 1 [⟨S1024x2048, W main_v0⟩, ⟨S1024x16, W main_v1⟩, ⟨S1024x112, W main_v2⟩] concatenates_S1024x2048_S1024x16_S1024x112_S1024x2176_d1) bitsLt_bf16_f32 : Vec Ideal S1024x2176 .bf16) := by
  unfold hostOps0
  simp only [List.flatten_cons, List.flatten_nil, List.append_nil, List.cons_append, List.nil_append, List.drop_succ_cons, List.drop_zero]
  simp only [after_cons, after_nil]
  refine (unary_result' _ _ _ _).trans (congrArg (fun C => truncf (F := Ideal) .bf16 C bitsLt_bf16_f32) ?_)
  refine (unary_result_ne' _ _ _ _ (by decide)).trans ?_
  refine (reshape_result_ne' _ _ _ _ _ (by decide)).trans ?_
  exact nary_result _ _ _ _ _ _

open StableHlo in
theorem last_ops_ne (W : Valuation τ sig (Elt Ideal)) {r : Ref sig .tc} (h₁ : r ≠ main_v3) (h₂ : r ≠ main_v4) (h₃ : r ≠ main_v5) (h₄ : r ≠ main_v6) :
    after (hostOps0.drop 4) W r = W r := by
  unfold hostOps0
  simp only [List.flatten_cons, List.flatten_nil, List.append_nil, List.cons_append, List.nil_append, List.drop_succ_cons, List.drop_zero]
  simp only [after_cons, after_nil]
  refine (unary_result_ne' _ _ _ _ h₄).trans ?_
  refine (unary_result_ne' _ _ _ _ h₃).trans ?_
  refine (reshape_result_ne' _ _ _ _ _ h₂).trans ?_
  exact nary_result_ne' _ _ _ _ _ h₁

set_option maxHeartbeats 2000000 in
theorem piece0 (k : Fin 1024) (d : Fin 2048) : V m c main_v0 (ix2 k d) = m ((c : Thread nD τ).loc main_arg1) (ix2 k ⟨7168 + d.val, by omega⟩) := by
  entry_read
  pointwise

set_option maxHeartbeats 2000000 in
theorem piece1 (k : Fin 1024) (d : Fin 16) : V m c main_v1 (ix2 k d) = m ((c : Thread nD τ).loc main_arg1) (ix2 k ⟨9216 + d.val, by omega⟩) := by
  entry_read
  pointwise

set_option maxHeartbeats 2000000 in
theorem piece2 (k : Fin 1024) (d : Fin 112) : V m c main_v2 (ix2 k d) = (0 : EReal) := by
  entry_read
  pointwise

theorem arrw_cat : V m c main_v6 = (truncf (F := Ideal) .bf16 (concatenate S1024x2176 1 [⟨S1024x2048, V m c main_v0⟩, ⟨S1024x16, V m c main_v1⟩, ⟨S1024x112, V m c main_v2⟩] concatenates_S1024x2048_S1024x16_S1024x112_S1024x2176_d1) bitsLt_bf16_f32 : Vec Ideal S1024x2176 .bf16) := by
  rw [V_split m c main_v6, last_v6, V_split m c main_v0, V_split m c main_v1, V_split m c main_v2,
    last_ops_ne _ (by decide) (by decide) (by decide) (by decide), last_ops_ne _ (by decide) (by decide) (by decide) (by decide),
    last_ops_ne _ (by decide) (by decide) (by decide) (by decide)]

theorem cat0 (P₀ : Vec Ideal S1024x2048 .f32) (P₁ : Vec Ideal S1024x16 .f32) (P₂ : Vec Ideal S1024x112 .f32) (k : Fin 1024) (d : Fin 2048) :
    (truncf (F := Ideal) .bf16 (concatenate S1024x2176 1 [⟨S1024x2048, P₀⟩, ⟨S1024x16, P₁⟩, ⟨S1024x112, P₂⟩] concatenates_S1024x2048_S1024x16_S1024x112_S1024x2176_d1) bitsLt_bf16_f32 : Vec Ideal S1024x2176 .bf16) (ix2 k ⟨d.val, by omega⟩) = P₀ (ix2 k d) := by
  pointwise

theorem cat1 (P₀ : Vec Ideal S1024x2048 .f32) (P₁ : Vec Ideal S1024x16 .f32) (P₂ : Vec Ideal S1024x112 .f32) (k : Fin 1024) (d : Fin 16) :
    (truncf (F := Ideal) .bf16 (concatenate S1024x2176 1 [⟨S1024x2048, P₀⟩, ⟨S1024x16, P₁⟩, ⟨S1024x112, P₂⟩] concatenates_S1024x2048_S1024x16_S1024x112_S1024x2176_d1) bitsLt_bf16_f32 : Vec Ideal S1024x2176 .bf16) (ix2 k ⟨2048 + d.val, by omega⟩) = P₁ (ix2 k d) := by
  pointwise

theorem cat2 (P₀ : Vec Ideal S1024x2048 .f32) (P₁ : Vec Ideal S1024x16 .f32) (P₂ : Vec Ideal S1024x112 .f32) (k : Fin 1024) (d : Fin 112) :
    (truncf (F := Ideal) .bf16 (concatenate S1024x2176 1 [⟨S1024x2048, P₀⟩, ⟨S1024x16, P₁⟩, ⟨S1024x112, P₂⟩] concatenates_S1024x2048_S1024x16_S1024x112_S1024x2176_d1) bitsLt_bf16_f32 : Vec Ideal S1024x2176 .bf16) (ix2 k ⟨2064 + d.val, by omega⟩) = P₂ (ix2 k d) := by
  pointwise
  refine (dif_neg (by omega)).trans ((dif_neg (by omega)).trans ?_)
  exact congrArg (fun d : Fin 112 => P₂ (ix2 k d)) (Fin.ext (by dsimp only; omega))

theorem arrw (k : Fin 1024) (n : Fin 2176) : V m c main_v6 (ix2 k n) = padded (m ((c : Thread nD τ).loc main_arg1)) k n := by
  rcases lt_or_ge n.val 2048 with h | h
  · rw [padded, dif_pos (by omega)]
    exact (congrFun (arrw_cat m c) _).trans ((cat0 _ _ _ k ⟨n.val, h⟩).trans (piece0 m c k _))
  rcases lt_or_ge n.val 2064 with h' | h'
  · obtain ⟨d, hd⟩ : ∃ d : Fin 16, n.val = 2048 + d.val := ⟨⟨n.val - 2048, by omega⟩, by simp only; omega⟩
    have en : n = ⟨2048 + d.val, by omega⟩ := Fin.ext hd
    have e : (⟨7168 + (2048 + d.val), by omega⟩ : Fin 15376) = ⟨9216 + d.val, by omega⟩ := Fin.ext (by simp only; omega)
    rw [en, padded, dif_pos (show 2048 + d.val < 2064 by omega)]
    refine ((congrFun (arrw_cat m c) _).trans ((cat1 _ _ _ k d).trans (piece1 m c k d))).trans ?_
    rw [← e]
  · obtain ⟨d, hd⟩ : ∃ d : Fin 112, n.val = 2064 + d.val := ⟨⟨n.val - 2064, by omega⟩, by simp only; omega⟩
    have en : n = ⟨2064 + d.val, by omega⟩ := Fin.ext hd
    rw [en, padded, dif_neg (show ¬ 2064 + d.val < 2064 by omega)]
    exact (congrFun (arrw_cat m c) _).trans ((cat2 _ _ _ k d).trans (piece2 m c k d))

theorem emb0 (r : Fin 1024) (k : Fin 1024) : ((cfg0.win 0).blk t).view.emb (ix2 r k) = ix2 ⟨1024 * t.val + r.val, by have := t_lt t; omega⟩ k := by
  blk_ext [at0]
theorem emb1 (k : Fin 1024) (n : Fin 2176) : ((cfg0.win 1).blk t).view.emb (ix2 k n) = ix2 k n := by
  blk_ext [at1]
theorem emb2 (r : Fin 1024) (n : Fin 2176) : ((cfg0.win 2).blk t).view.emb (ix2 r n) = ix2 ⟨1024 * t.val + r.val, by have := t_lt t; omega⟩ n := by
  blk_ext [at2]

theorem blk0 (r k : Fin 1024) : iblk m c 0 t (ix2 r k) = m ((c : Thread nD τ).loc main_arg0) (ix3 ⟨(1024 * t.val + r.val) / 4096, by have := t_lt t; omega⟩ ⟨(1024 * t.val + r.val) % 4096, by omega⟩ k) :=
  (congrArg (V m c main_v5) (emb0 t r k)).trans (arrx m c _ _)
theorem blk1 (k : Fin 1024) (n : Fin 2176) : iblk m c 1 t (ix2 k n) = padded (m ((c : Thread nD τ).loc main_arg1)) k n :=
  (congrArg (V m c main_v6) (emb1 t k n)).trans (arrw m c _ _)

/-- A block of the result is the reference's at the block's place. -/
theorem block_want (r : Fin 1024) (n : Fin 2176) : k0_pay1 (iblk m c 0 t) (iblk m c 1 t) (ix2 r n)
    = want (m ((c : Thread nD τ).loc main_arg0)) (m ((c : Thread nD τ).loc main_arg1)) (((cfg0.win 2).blk t).view.emb (ix2 r n)) := by
  rw [emb2, want_apply, pay_apply]
  simp only [blk0, blk1]

theorem final : (dats m 0 c).arrAt 2 cfg0.N = want (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have key := block_want m c t y0 y1
  generalize want (m ((c : Thread nD τ).loc main_arg0)) (m ((c : Thread nD τ).loc main_arg1)) = G at key ⊢
  exact key

/-- The call computes the reference's input of the scan branch. -/
theorem algebraic : Cert.algebraic_ScanInputIdeal_ScanInputRefIdeal := fun m g m' g' _ h =>
  ⟨fun c => want (m ((c : Thread nD τ).loc main_arg0)) (m ((c : Thread nD τ).loc main_arg1)),
    (θ_run defs _ _).mono (fun r hr c => ⟨(hr c).1.trans (final m c), (hr c).2⟩) (Value.run_blocks (F := Ideal) m g),
    (θ_run Cert.ScanInputRefIdeal.defs _ _).mono
      (fun r hr c => ⟨(hr c).1.trans (by
        obtain ⟨e0, e1⟩ := h c
        rw [e0, e1]; rfl), (hr c).2⟩)
      (Cert.ScanInputRefIdeal.Value.run (F := Ideal) m' g')⟩

end Cert.ScanInputIdeal.Proj
-- ==== Proof.lean ====
module

public import proofs.«01_k».proof.Defs
public import proofs.«01_k».proof.Proof.Frames
public import proofs.«01_k».proof.Proof.Attn.Final
public import proofs.«01_k».proof.Proof.Calls
public import proofs.«01_k».proof.Proof.Proj.Merge
public import proofs.«01_k».proof.Proof.Proj.Silu
public import proofs.«01_k».proof.Proof.Proj.Gates
public import proofs.«01_k».proof.Proof.Proj.Glu
public import proofs.«01_k».proof.Proof.Proj.Queries
public import proofs.«01_k».proof.Proof.Proj.Memory
public import proofs.«01_k».proof.Proof.Proj.Keys
public import proofs.«01_k».proof.Proof.Proj.ScanInput
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Merge.Gen.facts, Cert.MergeIdeal.Gen.facts, Cert.MergeRefIdeal.Gen.facts,
  Cert.Silu.Gen.facts, Cert.SiluIdeal.Gen.facts, Cert.SiluRefIdeal.Gen.facts,
  Cert.Gates.Gen.facts, Cert.GatesIdeal.Gen.facts, Cert.GatesRefIdeal.Gen.facts,
  Cert.Glu.Gen.facts, Cert.GluIdeal.Gen.facts, Cert.GluRefIdeal.Gen.facts,
  Cert.Queries.Gen.facts, Cert.QueriesIdeal.Gen.facts, Cert.QueriesRefIdeal.Gen.facts,
  Cert.Memory.Gen.facts, Cert.MemoryIdeal.Gen.facts, Cert.MemoryRefIdeal.Gen.facts,
  Cert.Keys.Gen.facts, Cert.KeysIdeal.Gen.facts, Cert.KeysRefIdeal.Gen.facts,
  Cert.ScanInput.Gen.facts, Cert.ScanInputIdeal.Gen.facts, Cert.ScanInputRefIdeal.Gen.facts,
  Cert.Pre_finite_inputs.Gen.facts,
  frame_kernel, frame_kernelIdeal, frame_kernelIdeal_pre, frame_referenceIdeal, frame_referenceIdeal_pre,
  frame_merge, frame_mergeIdeal, frame_mergeRefIdeal,
  frame_silu, frame_siluIdeal, frame_siluRefIdeal,
  frame_gates, frame_gatesIdeal, frame_gatesRefIdeal,
  frame_glu, frame_gluIdeal, frame_gluRefIdeal,
  frame_queries, frame_queriesIdeal, frame_queriesRefIdeal,
  frame_memory, frame_memoryIdeal, frame_memoryRefIdeal,
  frame_keys, frame_keysIdeal, frame_keysRefIdeal,
  frame_scanInput, frame_scanInputIdeal, frame_scanInputRefIdeal,
  preserves, algebraic,
  trivial, Cert.MergeIdeal.Proj.algebraic,
  trivial, Cert.SiluIdeal.Proj.algebraic,
  trivial, Cert.GatesIdeal.Proj.algebraic,
  trivial, Cert.GluIdeal.Proj.algebraic,
  trivial, Cert.QueriesIdeal.Proj.algebraic,
  trivial, Cert.MemoryIdeal.Proj.algebraic,
  trivial, Cert.KeysIdeal.Proj.algebraic,
  trivial, Cert.ScanInputIdeal.Proj.algebraic⟩

end Cert.Proof

end
